-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "ln2" .f32 0x3F317218#32 ((Real.log 2 : ℝ) : EReal)

def preserves_Reference_ReferenceIdeal : Prop :=
  IdealRules.named_const.Statement Cert.ReferenceIdeal.κ "scale" .f32 0x3D93CD3A#32 (((Real.sqrt 192)⁻¹ : ℝ) : EReal)

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ quiescent_Reference (hReference := hReference)
    ∧ preserves_Kernel_KernelIdeal
    ∧ preserves_Reference_ReferenceIdeal
    ∧ algebraic_KernelIdeal_ReferenceIdeal_pre_usable (hKernelIdeal := hKernelIdeal) (hReferenceIdeal := hReferenceIdeal) (hPre_usable := hPre_usable)
-- ==== Pre_usable.lean ====
abbrev S2x896x16x512 : Shape := ⟨4, ![2, 896, 16, 512]⟩
abbrev S2x896x16 : Shape := ⟨3, ![2, 896, 16]⟩
abbrev S2x896x16x64 : Shape := ⟨4, ![2, 896, 16, 64]⟩
abbrev S2x896x512 : Shape := ⟨3, ![2, 896, 512]⟩
abbrev S2x896 : Shape := ⟨2, ![2, 896]⟩
abbrev S2x896x64 : Shape := ⟨3, ![2, 896, 64]⟩
abbrev S2 : Shape := ⟨1, ![2]⟩
abbrev S_ : Shape := ⟨0, ![]⟩

class Facts : Prop where
  bcast_S_S2x896x16 : S_.BroadcastsInDim S2x896x16 (![] : Fin 0 → Fin S2x896x16.rank)
  reducesTo_S2x896x16_S_d0_1_2 : S2x896x16.ReducesTo [0, 1, 2] S_
  h_S_ : 0 < S_.numel
  bcast_S_S2x896 : S_.BroadcastsInDim S2x896 (![] : Fin 0 → Fin S2x896.rank)
  reducesTo_S2x896_S_d0_1 : S2x896.ReducesTo [0, 1] S_

variable [Facts]

def fn {F : FTy → Type} [FloatOps F] (main_arg0 : FVec F S2x896x16x512 .fp8e4m3) (main_arg1 : FVec F S2x896x16 .f32) (main_arg2 : FVec F S2x896x16x64 .bf16) (main_arg3 : FVec F S2x896x512 .fp8e4m3) (main_arg4 : FVec F S2x896 .f32) (main_arg5 : FVec F S2x896x64 .bf16) (main_arg6 : IVec S2 32) : IVec S_ 1 :=
  let main_cst : FVec F S_ .f32 := constant S_ .f32 0x00000000#32
  let main_v0 : FVec F S2x896x16 .f32 := broadcastInDim S2x896x16 ![] bcast_S_S2x896x16 main_cst
  let main_v1 : IVec S2x896x16 1 := cmpf .ogt main_arg1 main_v0
  let main_c : IVec S_ 1 := constantI S_ 1 1#1
  let main_v2 : IVec S_ 1 := (fun x v => Host.reduce IntOp.andi x v reducesTo_S2x896x16_S_d0_1_2 h_S_) main_v1 main_c
  let main_cst_0 : FVec F S_ .f32 := constant S_ .f32 0x7F800000#32
  let main_v3 : FVec F S2x896x16 .f32 := broadcastInDim S2x896x16 ![] bcast_S_S2x896x16 main_cst_0
  let main_v4 : IVec S2x896x16 1 := cmpf .olt main_arg1 main_v3
  let main_c_1 : IVec S_ 1 := constantI S_ 1 1#1
  let main_v5 : IVec S_ 1 := (fun x v => Host.reduce IntOp.andi x v reducesTo_S2x896x16_S_d0_1_2 h_S_) main_v4 main_c_1
  let main_v6 : IVec S_ 1 := andi main_v2 main_v5
  let main_cst_2 : FVec F S_ .f32 := constant S_ .f32 0x00000000#32
  let main_v7 : FVec F S2x896 .f32 := broadcastInDim S2x896 ![] bcast_S_S2x896 main_cst_2
  let main_v8 : IVec S2x896 1 := cmpf .ogt main_arg4 main_v7
  let main_c_3 : IVec S_ 1 := constantI S_ 1 1#1
  let main_v9 : IVec S_ 1 := (fun x v => Host.reduce IntOp.andi x v reducesTo_S2x896_S_d0_1 h_S_) main_v8 main_c_3
  let main_v10 : IVec S_ 1 := andi main_v6 main_v9
  let main_cst_4 : FVec F S_ .f32 := constant S_ .f32 0x7F800000#32
  let main_v11 : FVec F S2x896 .f32 := broadcastInDim S2x896 ![] bcast_S_S2x896 main_cst_4
  let main_v12 : IVec S2x896 1 := cmpf .olt main_arg4 main_v11
  let main_c_5 : IVec S_ 1 := constantI S_ 1 1#1
  let main_v13 : IVec S_ 1 := (fun x v => Host.reduce IntOp.andi x v reducesTo_S2x896_S_d0_1 h_S_) main_v12 main_c_5
  let main_v14 : IVec S_ 1 := andi main_v10 main_v13
  main_v14
-- ==== Kernel.lean ====
abbrev S2x896x16x512 : Shape := ⟨4, ![2, 896, 16, 512]⟩
abbrev S2x896x16 : Shape := ⟨3, ![2, 896, 16]⟩
abbrev S2x896x16x64 : Shape := ⟨4, ![2, 896, 16, 64]⟩
abbrev S2x896x512 : Shape := ⟨3, ![2, 896, 512]⟩
abbrev S2x896 : Shape := ⟨2, ![2, 896]⟩
abbrev S2x896x64 : Shape := ⟨3, ![2, 896, 64]⟩
abbrev S2 : Shape := ⟨1, ![2]⟩
abbrev S1x64x16x512 : Shape := ⟨4, ![1, 64, 16, 512]⟩
abbrev S1 : Shape := ⟨1, ![1]⟩
abbrev S1x64x16 : Shape := ⟨3, ![1, 64, 16]⟩
abbrev S1x64x16x64 : Shape := ⟨4, ![1, 64, 16, 64]⟩
abbrev S1x896x512 : Shape := ⟨3, ![1, 896, 512]⟩
abbrev S1x896x64 : Shape := ⟨3, ![1, 896, 64]⟩
abbrev S896x512 : Shape := ⟨2, ![896, 512]⟩
abbrev S896x64 : Shape := ⟨2, ![896, 64]⟩
abbrev S1x896 : Shape := ⟨2, ![1, 896]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S896x1 : Shape := ⟨2, ![896, 1]⟩
abbrev S1x16x16 : Shape := ⟨3, ![1, 16, 16]⟩
abbrev S1x16x16x512 : Shape := ⟨4, ![1, 16, 16, 512]⟩
abbrev S16x16x512 : Shape := ⟨3, ![16, 16, 512]⟩
abbrev S256x512 : Shape := ⟨2, ![256, 512]⟩
abbrev S16x16 : Shape := ⟨2, ![16, 16]⟩
abbrev S16x1x16 : Shape := ⟨3, ![16, 1, 16]⟩
abbrev S16x16x16 : Shape := ⟨3, ![16, 16, 16]⟩
abbrev S16x16x1 : Shape := ⟨3, ![16, 16, 1]⟩
abbrev S256x1 : Shape := ⟨2, ![256, 1]⟩
abbrev S1x16x16x64 : Shape := ⟨4, ![1, 16, 16, 64]⟩
abbrev S16x16x64 : Shape := ⟨3, ![16, 16, 64]⟩
abbrev S256x64 : Shape := ⟨2, ![256, 64]⟩
abbrev S1x256x512 : Shape := ⟨3, ![1, 256, 512]⟩
abbrev S256x256 : Shape := ⟨2, ![256, 256]⟩
abbrev S1x256 : Shape := ⟨2, ![1, 256]⟩
abbrev S256 : Shape := ⟨1, ![256]⟩
abbrev S1x512x512 : Shape := ⟨3, ![1, 512, 512]⟩
abbrev S512x512 : Shape := ⟨2, ![512, 512]⟩
abbrev S512x64 : Shape := ⟨2, ![512, 64]⟩
abbrev S1x512 : Shape := ⟨2, ![1, 512]⟩
abbrev S1x768x512 : Shape := ⟨3, ![1, 768, 512]⟩
abbrev S768x512 : Shape := ⟨2, ![768, 512]⟩
abbrev S256x768 : Shape := ⟨2, ![256, 768]⟩
abbrev S768x64 : Shape := ⟨2, ![768, 64]⟩
abbrev S1x768 : Shape := ⟨2, ![1, 768]⟩
abbrev S256x896 : Shape := ⟨2, ![256, 896]⟩
abbrev S256x128 : Shape := ⟨2, ![256, 128]⟩

abbrev nBuf : Space → Nat
  | .hbm => 8
  | .vmem => 18
  | .smem => 1
  | _ => 0

abbrev bufTy : (tb : Table) → Fin (tcTables nBuf tb) → BufTy
  | .hbm, ⟨0, _⟩ => ⟨S2x896x16x512, .fp8e4m3⟩
  | .hbm, ⟨1, _⟩ => ⟨S2x896x16, .f32⟩
  | .hbm, ⟨2, _⟩ => ⟨S2x896x16x64, .bf16⟩
  | .hbm, ⟨3, _⟩ => ⟨S2x896x512, .fp8e4m3⟩
  | .hbm, ⟨4, _⟩ => ⟨S2x896, .f32⟩
  | .hbm, ⟨5, _⟩ => ⟨S2x896x64, .bf16⟩
  | .hbm, ⟨6, _⟩ => ⟨S2x896x16x512, .bf16⟩
  | .hbm, ⟨7, _⟩ => ⟨S2x896x16, .f32⟩
  | .local _ .vmem, ⟨0, _⟩ => ⟨S1x64x16x512, .fp8e4m3⟩
  | .local _ .vmem, ⟨1, _⟩ => ⟨S1x64x16x512, .fp8e4m3⟩
  | .local _ .vmem, ⟨2, _⟩ => ⟨S1x64x16, .f32⟩
  | .local _ .vmem, ⟨3, _⟩ => ⟨S1x64x16, .f32⟩
  | .local _ .vmem, ⟨4, _⟩ => ⟨S1x64x16x64, .bf16⟩
  | .local _ .vmem, ⟨5, _⟩ => ⟨S1x64x16x64, .bf16⟩
  | .local _ .vmem, ⟨6, _⟩ => ⟨S1x896x512, .fp8e4m3⟩
  | .local _ .vmem, ⟨7, _⟩ => ⟨S1x896x512, .fp8e4m3⟩
  | .local _ .vmem, ⟨8, _⟩ => ⟨S2x896, .f32⟩
  | .local _ .vmem, ⟨9, _⟩ => ⟨S1x896x64, .bf16⟩
  | .local _ .vmem, ⟨10, _⟩ => ⟨S1x896x64, .bf16⟩
  | .local _ .vmem, ⟨11, _⟩ => ⟨S1x64x16x512, .bf16⟩
  | .local _ .vmem, ⟨12, _⟩ => ⟨S1x64x16x512, .bf16⟩
  | .local _ .vmem, ⟨13, _⟩ => ⟨S1x64x16, .f32⟩
  | .local _ .vmem, ⟨14, _⟩ => ⟨S1x64x16, .f32⟩
  | .local _ .vmem, ⟨15, _⟩ => ⟨S896x512, .bf16⟩
  | .local _ .vmem, ⟨16, _⟩ => ⟨S896x64, .bf16⟩
  | .local _ .vmem, ⟨17, _⟩ => ⟨S1x896, .f32⟩
  | .local _ .smem, ⟨0, _⟩ => ⟨S2, .i32⟩
  | _, _ => ⟨S2x896x16x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 14], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

def k0_off2 (i : grid0.Coords) : Fin 2 → Nat :=
  let arg0 : BitVec 32 := BitVec.ofNat 32 (i 0).val
  let v49 : Index := Scalar.indexCast arg0
  let c0 : Index := 0#32
  ![v49.toNat, 0]
def k0_cond2 (i : grid0.Coords) (v1 : BitVec 32) : BitVec 1 :=
  let arg1 : BitVec 32 := BitVec.ofNat 32 (i 1).val
  let c64_i32 : BitVec 32 := 64#32
  let v2 : BitVec 32 := Scalar.muli arg1 c64_i32
  let v26 : BitVec 1 := Scalar.cmpi .slt v2 v1
  let c64_i32_1 : BitVec 32 := 64#32
  let v6 : BitVec 32 := Scalar.addi v2 c64_i32_1
  let c256_i32 : BitVec 32 := 256#32
  let v7 : BitVec 32 := Scalar.addi v6 c256_i32
  let c1_i32 : BitVec 32 := 1#32
  let v8 : BitVec 32 := Scalar.subi v7 c1_i32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c256_i32_2 : BitVec 32 := 256#32
  let c0_i32_5 : BitVec 32 := 0#32
  let v15 : BitVec 1 := Scalar.cmpi .sgt c256_i32_2 c0_i32_5
  let v16 : BitVec 32 := Scalar.extui v15
  let c0_i32_6 : BitVec 32 := 0#32
  let v17 : BitVec 1 := Scalar.cmpi .slt c256_i32_2 c0_i32_6
  let v18 : BitVec 32 := Scalar.extui v17
  let v19 : BitVec 32 := Scalar.subi v16 v18
  let v20 : BitVec 1 := Scalar.cmpi .ne v14 v19
  let v21 : BitVec 32 := Scalar.remsi v8 c256_i32_2
  let c0_i32_7 : BitVec 32 := 0#32
  let v22 : BitVec 1 := Scalar.cmpi .ne v21 c0_i32_7
  let v23 : BitVec 1 := Scalar.andi v20 v22
  let v9 : BitVec 32 := Scalar.divsi v8 c256_i32_2
  let c1_i32_8 : BitVec 32 := 1#32
  let v24 : BitVec 32 := Scalar.subi v9 c1_i32_8
  let v25 : BitVec 32 := Scalar.select v23 v24 v9
  let c1_i32_9 : BitVec 32 := 1#32
  let v27 : BitVec 1 := Scalar.cmpi .eq v25 c1_i32_9
  let v28 : BitVec 1 := Scalar.andi v26 v27
  let v29 : BitVec 32 := Scalar.extui v28
  let c0_i32_10 : BitVec 32 := 0#32
  let v30 : BitVec 1 := Scalar.cmpi .ne v29 c0_i32_10
  v30

def k0_cond3 (i : grid0.Coords) (v1 : BitVec 32) : BitVec 1 :=
  let arg1 : BitVec 32 := BitVec.ofNat 32 (i 1).val
  let c64_i32 : BitVec 32 := 64#32
  let v2 : BitVec 32 := Scalar.muli arg1 c64_i32
  let v31 : BitVec 1 := Scalar.cmpi .slt v2 v1
  let c64_i32_1 : BitVec 32 := 64#32
  let v6 : BitVec 32 := Scalar.addi v2 c64_i32_1
  let c256_i32 : BitVec 32 := 256#32
  let v7 : BitVec 32 := Scalar.addi v6 c256_i32
  let c1_i32 : BitVec 32 := 1#32
  let v8 : BitVec 32 := Scalar.subi v7 c1_i32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c256_i32_2 : BitVec 32 := 256#32
  let c0_i32_5 : BitVec 32 := 0#32
  let v15 : BitVec 1 := Scalar.cmpi .sgt c256_i32_2 c0_i32_5
  let v16 : BitVec 32 := Scalar.extui v15
  let c0_i32_6 : BitVec 32 := 0#32
  let v17 : BitVec 1 := Scalar.cmpi .slt c256_i32_2 c0_i32_6
  let v18 : BitVec 32 := Scalar.extui v17
  let v19 : BitVec 32 := Scalar.subi v16 v18
  let v20 : BitVec 1 := Scalar.cmpi .ne v14 v19
  let v21 : BitVec 32 := Scalar.remsi v8 c256_i32_2
  let c0_i32_7 : BitVec 32 := 0#32
  let v22 : BitVec 1 := Scalar.cmpi .ne v21 c0_i32_7
  let v23 : BitVec 1 := Scalar.andi v20 v22
  let v9 : BitVec 32 := Scalar.divsi v8 c256_i32_2
  let c1_i32_8 : BitVec 32 := 1#32
  let v24 : BitVec 32 := Scalar.subi v9 c1_i32_8
  let v25 : BitVec 32 := Scalar.select v23 v24 v9
  let c2_i32 : BitVec 32 := 2#32
  let v32 : BitVec 1 := Scalar.cmpi .eq v25 c2_i32
  let v33 : BitVec 1 := Scalar.andi v31 v32
  let v34 : BitVec 32 := Scalar.extui v33
  let c0_i32_11 : BitVec 32 := 0#32
  let v35 : BitVec 1 := Scalar.cmpi .ne v34 c0_i32_11
  v35

def k0_cond4 (i : grid0.Coords) (v1 : BitVec 32) : BitVec 1 :=
  let arg1 : BitVec 32 := BitVec.ofNat 32 (i 1).val
  let c64_i32 : BitVec 32 := 64#32
  let v2 : BitVec 32 := Scalar.muli arg1 c64_i32
  let v36 : BitVec 1 := Scalar.cmpi .slt v2 v1
  let c64_i32_1 : BitVec 32 := 64#32
  let v6 : BitVec 32 := Scalar.addi v2 c64_i32_1
  let c256_i32 : BitVec 32 := 256#32
  let v7 : BitVec 32 := Scalar.addi v6 c256_i32
  let c1_i32 : BitVec 32 := 1#32
  let v8 : BitVec 32 := Scalar.subi v7 c1_i32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c256_i32_2 : BitVec 32 := 256#32
  let c0_i32_5 : BitVec 32 := 0#32
  let v15 : BitVec 1 := Scalar.cmpi .sgt c256_i32_2 c0_i32_5
  let v16 : BitVec 32 := Scalar.extui v15
  let c0_i32_6 : BitVec 32 := 0#32
  let v17 : BitVec 1 := Scalar.cmpi .slt c256_i32_2 c0_i32_6
  let v18 : BitVec 32 := Scalar.extui v17
  let v19 : BitVec 32 := Scalar.subi v16 v18
  let v20 : BitVec 1 := Scalar.cmpi .ne v14 v19
  let v21 : BitVec 32 := Scalar.remsi v8 c256_i32_2
  let c0_i32_7 : BitVec 32 := 0#32
  let v22 : BitVec 1 := Scalar.cmpi .ne v21 c0_i32_7
  let v23 : BitVec 1 := Scalar.andi v20 v22
  let v9 : BitVec 32 := Scalar.divsi v8 c256_i32_2
  let c1_i32_8 : BitVec 32 := 1#32
  let v24 : BitVec 32 := Scalar.subi v9 c1_i32_8
  let v25 : BitVec 32 := Scalar.select v23 v24 v9
  let c3_i32 : BitVec 32 := 3#32
  let v37 : BitVec 1 := Scalar.cmpi .eq v25 c3_i32
  let v38 : BitVec 1 := Scalar.andi v36 v37
  let v39 : BitVec 32 := Scalar.extui v38
  let c0_i32_12 : BitVec 32 := 0#32
  let v40 : BitVec 1 := Scalar.cmpi .ne v39 c0_i32_12
  v40

def k0_cond5 (i : grid0.Coords) (v1 : BitVec 32) : BitVec 1 :=
  let arg1 : BitVec 32 := BitVec.ofNat 32 (i 1).val
  let c64_i32 : BitVec 32 := 64#32
  let v2 : BitVec 32 := Scalar.muli arg1 c64_i32
  let v41 : BitVec 1 := Scalar.cmpi .slt v2 v1
  let c64_i32_1 : BitVec 32 := 64#32
  let v6 : BitVec 32 := Scalar.addi v2 c64_i32_1
  let c256_i32 : BitVec 32 := 256#32
  let v7 : BitVec 32 := Scalar.addi v6 c256_i32
  let c1_i32 : BitVec 32 := 1#32
  let v8 : BitVec 32 := Scalar.subi v7 c1_i32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c256_i32_2 : BitVec 32 := 256#32
  let c0_i32_5 : BitVec 32 := 0#32
  let v15 : BitVec 1 := Scalar.cmpi .sgt c256_i32_2 c0_i32_5
  let v16 : BitVec 32 := Scalar.extui v15
  let c0_i32_6 : BitVec 32 := 0#32
  let v17 : BitVec 1 := Scalar.cmpi .slt c256_i32_2 c0_i32_6
  let v18 : BitVec 32 := Scalar.extui v17
  let v19 : BitVec 32 := Scalar.subi v16 v18
  let v20 : BitVec 1 := Scalar.cmpi .ne v14 v19
  let v21 : BitVec 32 := Scalar.remsi v8 c256_i32_2
  let c0_i32_7 : BitVec 32 := 0#32
  let v22 : BitVec 1 := Scalar.cmpi .ne v21 c0_i32_7
  let v23 : BitVec 1 := Scalar.andi v20 v22
  let v9 : BitVec 32 := Scalar.divsi v8 c256_i32_2
  let c1_i32_8 : BitVec 32 := 1#32
  let v24 : BitVec 32 := Scalar.subi v9 c1_i32_8
  let v25 : BitVec 32 := Scalar.select v23 v24 v9
  let c4_i32 : BitVec 32 := 4#32
  let v42 : BitVec 1 := Scalar.cmpi .eq v25 c4_i32
  let v43 : BitVec 1 := Scalar.andi v41 v42
  let v44 : BitVec 32 := Scalar.extui v43
  let c0_i32_13 : BitVec 32 := 0#32
  let v45 : BitVec 1 := Scalar.cmpi .ne v44 c0_i32_13
  v45

def k0_cond6 (i : grid0.Coords) (v1 : BitVec 32) : BitVec 1 :=
  let arg1 : BitVec 32 := BitVec.ofNat 32 (i 1).val
  let c64_i32 : BitVec 32 := 64#32
  let v2 : BitVec 32 := Scalar.muli arg1 c64_i32
  let v46 : BitVec 1 := Scalar.cmpi .sge v2 v1
  let v47 : BitVec 32 := Scalar.extui v46
  let c0_i32_14 : BitVec 32 := 0#32
  let v48 : BitVec 1 := Scalar.cmpi .ne v47 c0_i32_14
  v48

def cc0_transform_0 (k0_off1_inb : ∀ i : grid0.Coords, ∀ a, (k0_off1 i) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c1_i32 : BitVec 32 := 1#32
  let v2 : BitVec 32 := Scalar.maxsi v1 c1_i32
  let c1_i32_0 : BitVec 32 := 1#32
  let v3 : BitVec 32 := Scalar.subi v2 c1_i32_0
  let c64_i32 : BitVec 32 := 64#32
  let v4 : BitVec 32 := Scalar.divsi v3 c64_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c64_i32 c0_i32_2
  let v11 : BitVec 32 := Scalar.extui v10
  let c0_i32_3 : BitVec 32 := 0#32
  let v12 : BitVec 1 := Scalar.cmpi .slt c64_i32 c0_i32_3
  let v13 : BitVec 32 := Scalar.extui v12
  let v14 : BitVec 32 := Scalar.subi v11 v13
  let v15 : BitVec 1 := Scalar.cmpi .ne v9 v14
  let v16 : BitVec 32 := Scalar.remsi v3 c64_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, v21.toNat, c0_i32_6.toNat, c0_i32_7.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c1_i32 : BitVec 32 := 1#32
  let v2 : BitVec 32 := Scalar.maxsi v1 c1_i32
  let c1_i32_0 : BitVec 32 := 1#32
  let v3 : BitVec 32 := Scalar.subi v2 c1_i32_0
  let c64_i32 : BitVec 32 := 64#32
  let v4 : BitVec 32 := Scalar.divsi v3 c64_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c64_i32 c0_i32_2
  let v11 : BitVec 32 := Scalar.extui v10
  let c0_i32_3 : BitVec 32 := 0#32
  let v12 : BitVec 1 := Scalar.cmpi .slt c64_i32 c0_i32_3
  let v13 : BitVec 32 := Scalar.extui v12
  let v14 : BitVec 32 := Scalar.subi v11 v13
  let v15 : BitVec 1 := Scalar.cmpi .ne v9 v14
  let v16 : BitVec 32 := Scalar.remsi v3 c64_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, v21.toNat, c0_i32_6.toNat]

def cc0_transform_2 (k0_off1_inb : ∀ i : grid0.Coords, ∀ a, (k0_off1 i) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c1_i32 : BitVec 32 := 1#32
  let v2 : BitVec 32 := Scalar.maxsi v1 c1_i32
  let c1_i32_0 : BitVec 32 := 1#32
  let v3 : BitVec 32 := Scalar.subi v2 c1_i32_0
  let c64_i32 : BitVec 32 := 64#32
  let v4 : BitVec 32 := Scalar.divsi v3 c64_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c64_i32 c0_i32_2
  let v11 : BitVec 32 := Scalar.extui v10
  let c0_i32_3 : BitVec 32 := 0#32
  let v12 : BitVec 1 := Scalar.cmpi .slt c64_i32 c0_i32_3
  let v13 : BitVec 32 := Scalar.extui v12
  let v14 : BitVec 32 := Scalar.subi v11 v13
  let v15 : BitVec 1 := Scalar.cmpi .ne v9 v14
  let v16 : BitVec 32 := Scalar.remsi v3 c64_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, v21.toNat, c0_i32_6.toNat, c0_i32_7.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x16x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x16x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x896x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x896x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "ln2" => some ((Real.log 2 : ℝ) : EReal)
  | "scale_log2e" => some (((Real.sqrt 192)⁻¹ * (Real.log 2)⁻¹ : ℝ) : EReal)
  | _ => none
-- ==== ReferenceIdeal.lean ====
variable {F : FTy → Type} [FloatOps F] [Named F]
def κ : String → Option EReal := fun
  | "scale" => some (((Real.sqrt 192)⁻¹ : ℝ) : EReal)
  | _ => none
-- ==== Reference.lean ====
abbrev S2x896x16x512 : Shape := ⟨4, ![2, 896, 16, 512]⟩
abbrev S2x896x16 : Shape := ⟨3, ![2, 896, 16]⟩
abbrev S2x896x16x64 : Shape := ⟨4, ![2, 896, 16, 64]⟩
abbrev S2x896x512 : Shape := ⟨3, ![2, 896, 512]⟩
abbrev S2x896 : Shape := ⟨2, ![2, 896]⟩
abbrev S2x896x64 : Shape := ⟨3, ![2, 896, 64]⟩
abbrev S2 : Shape := ⟨1, ![2]⟩
abbrev S2x1x1x1 : Shape := ⟨4, ![2, 1, 1, 1]⟩
abbrev S2x14336x512 : Shape := ⟨3, ![2, 14336, 512]⟩
abbrev S2x14336x896 : Shape := ⟨3, ![2, 14336, 896]⟩
abbrev S2x896x16x896 : Shape := ⟨4, ![2, 896, 16, 896]⟩
abbrev S2x896x16x1 : Shape := ⟨4, ![2, 896, 16, 1]⟩
abbrev S2x1x1x896 : Shape := ⟨4, ![2, 1, 1, 896]⟩
abbrev S2x14336x64 : Shape := ⟨3, ![2, 14336, 64]⟩
abbrev S2x1x1 : Shape := ⟨3, ![2, 1, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x896x16x512, .fp8e4m3⟩
  | .hbm, ⟨1, _⟩ => ⟨S2x896x16, .f32⟩
  | .hbm, ⟨2, _⟩ => ⟨S2x896x16x64, .bf16⟩
  | .hbm, ⟨3, _⟩ => ⟨S2x896x512, .fp8e4m3⟩
  | .hbm, ⟨4, _⟩ => ⟨S2x896, .f32⟩
  | .hbm, ⟨5, _⟩ => ⟨S2x896x64, .bf16⟩
  | .hbm, ⟨6, _⟩ => ⟨S2, .i32⟩
  | .hbm, ⟨7, _⟩ => ⟨S2x1x1x1, .i32⟩
  | .hbm, ⟨8, _⟩ => ⟨S2x896x16x512, .bf16⟩
  | .hbm, ⟨9, _⟩ => ⟨S2x896x16, .f32⟩
  | .local _ .vmem, ⟨0, _⟩ => ⟨S2x1x1x1, .i32⟩
  | .local _ .vmem, ⟨1, _⟩ => ⟨S2x896x16x512, .fp8e4m3⟩
  | .local _ .vmem, ⟨2, _⟩ => ⟨S2x896x16, .f32⟩
  | .local _ .vmem, ⟨3, _⟩ => ⟨S2x896x16x64, .bf16⟩
  | .local _ .vmem, ⟨4, _⟩ => ⟨S2x896x512, .fp8e4m3⟩
  | .local _ .vmem, ⟨5, _⟩ => ⟨S2x896, .f32⟩
  | .local _ .vmem, ⟨6, _⟩ => ⟨S2x896x64, .bf16⟩
  | .local _ .vmem, ⟨7, _⟩ => ⟨S2x896x16x512, .bf16⟩
  | .local _ .vmem, ⟨8, _⟩ => ⟨S2x896x16, .f32⟩
  | _, _ => ⟨S2x896x16x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x1x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x16x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x896x16x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x896x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x896 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x896x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x896x16x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x896x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Words.lean ====
/- The scalar words the kernel computes from a sequence length and its grid point, as integers: the index of the
   query block a grid point is given, and the floor division that counts the key tiles of a query block. -/
module

public import Idealize.ShloMosaic.Lib.WordCmp
public import Idealize.ShloMosaic.Lib.Affine

@[expose] public section

namespace Cert.Words

open Idealize.ShloMosaic

theorem toInt_eq {x : BitVec 32} {a : Int} (h : Affine.IsInt x a) : x.toInt = a := by unfold Affine.IsInt at h; exact h

/-- The floor division of a word by a positive literal as it is printed: the truncated quotient, less one where the
    signs differ and the remainder is not zero. -/
def floorDiv (x d : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- Of a nonnegative word it is the quotient. -/
theorem floorDiv_isInt {x d : BitVec 32} {a k : Int} (hx : Affine.IsInt x a) (hd : Affine.IsInt d k) (ha : 0 ≤ a) (hk : 0 < k) :
    Affine.IsInt (floorDiv x d) (a / k) := by
  have h0 : Affine.IsInt 0#32 0 := Affine.ofNat 0 ⟨rfl, by decide⟩
  have hq := Affine.divsi hx hd ⟨rfl, ha, hk⟩
  have hr := Affine.remsi hx hd ⟨rfl, ha, hk⟩
  unfold floorDiv
  have hnf : Affine.Fails (Scalar.andi
      (Scalar.cmpi .ne
        (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32)) := by
    have e3 := Affine.extui_holds (Affine.sgt_holds hd h0 hk) rfl
    have e4 := Affine.extui_fails (Affine.slt_fails hd h0 (by omega)) rfl
    have e2 := Affine.extui_fails (Affine.slt_fails hx h0 (by omega)) rfl
    rcases Int.lt_or_eq_of_le ha with h | h
    · have e1 := Affine.extui_holds (Affine.sgt_holds hx h0 h) rfl
      exact Affine.andi_fails_left (Affine.ne_fails (Affine.subi e1 e2 ⟨rfl, by decide, by decide⟩) (Affine.subi e3 e4 ⟨rfl, by decide, by decide⟩) (by decide)) trivial
    · subst h
      exact Affine.andi_fails_right trivial (Affine.ne_fails hr h0 (by simp))
  have hq1 : Affine.IsInt (Scalar.subi (Scalar.divsi x d) 1#32) (a / k - 1) :=
    Affine.subi hq (Affine.ofNat 1 ⟨rfl, by decide⟩) ⟨rfl, by
      have := Int.ediv_nonneg ha (le_of_lt hk); omega, by
      have h1 := Int.ediv_le_self k ha
      have h2 := (toInt_eq hx) ▸ (Affine.word_range x).2; omega⟩
  exact Affine.select_fails hnf hq1 hq rfl

/-- The block index along the tokens that the windows of the queries take at grid column `j` in a sequence of `n` tokens:
    `j`, but no further than the block of the last token. -/
def blockCol (j : Nat) (n : BitVec 32) : BitVec 32 :=
  Scalar.minsi (BitVec.ofNat 32 j) (floorDiv (Scalar.subi (Scalar.maxsi n 1#32) 1#32) 64#32)

theorem blockCol_isInt (j : Nat) (hj : j < 2 ^ 31) (n : BitVec 32) :
    Affine.IsInt (blockCol j n) (min (j : Int) ((max n.toInt 1 - 1) / 64)) := by
  have hn := Affine.word_range n
  have h1 : Affine.IsInt (Scalar.subi (Scalar.maxsi n 1#32) 1#32) (max n.toInt 1 - 1) :=
    Affine.subi (Affine.maxsi (Affine.word n) (Affine.ofNat 1 ⟨rfl, by decide⟩) rfl) (Affine.ofNat 1 ⟨rfl, by decide⟩)
      ⟨rfl, by omega, by omega⟩
  exact Affine.minsi (Affine.ofNat j ⟨rfl, hj⟩) (floorDiv_isInt h1 (Affine.ofNat 64 ⟨rfl, by decide⟩) (by omega) (by decide)) rfl

/-- It is a natural number no greater than `j`, -/
theorem blockCol_le (j : Nat) (hj : j < 2 ^ 31) (n : BitVec 32) : (blockCol j n).toNat ≤ j := by
  have h := toInt_eq (blockCol_isInt j hj n)
  have hn := Affine.word_range n
  have h2 := BitVec.toInt_eq_toNat_cond (blockCol j n)
  split at h2 <;> omega

/-- and `j` itself where the block holds a token of the sequence. -/
theorem blockCol_eq (j : Nat) (hj : j < 2 ^ 31) (n : BitVec 32) (h : (64 * j : Int) < n.toInt) : (blockCol j n).toNat = j := by
  have h' := toInt_eq (blockCol_isInt j hj n)
  have hn := Affine.word_range n
  have h2 := BitVec.toInt_eq_toNat_cond (blockCol j n)
  split at h2 <;> omega

/-- The condition under which the grid column `j` of a sequence of `n` tokens attends to `k` key tiles, as it is printed:
    its first token is in the sequence, and the floor division counts `k` tiles of 256 keys up to its last token. -/
def tilesCond (j : Nat) (k n : BitVec 32) : BitVec 1 :=
  Scalar.cmpi .ne
    (Scalar.extui
      (Scalar.andi (Scalar.cmpi .slt (Scalar.muli (BitVec.ofNat 32 j) 64#32) n)
        (Scalar.cmpi .eq
          (floorDiv (Scalar.subi (Scalar.addi (Scalar.addi (Scalar.muli (BitVec.ofNat 32 j) 64#32) 64#32) 256#32) 1#32) 256#32)
          k))) 0#32

theorem rows_isInt {j : Nat} (hj : j < 14) : Affine.IsInt (Scalar.muli (BitVec.ofNat 32 j) 64#32) (64 * j : Int) :=
  Affine.muli (Affine.ofNat j ⟨rfl, by omega⟩) (Affine.ofNat 64 ⟨rfl, by decide⟩) ⟨by omega, by omega, by omega⟩

/-- It holds exactly where the first token is in the sequence and `j` is in the `k`-th group of four columns. -/
theorem tilesCond_iff {j : Nat} (hj : j < 14) (k : Nat) (hk : k < 2 ^ 31) (n : BitVec 32) :
    tilesCond j (BitVec.ofNat 32 k) n = 1#1 ↔ (64 * j : Int) < n.toInt ∧ j / 4 + 1 = k := by
  have hr := rows_isInt hj
  have hd : Affine.IsInt (floorDiv (Scalar.subi (Scalar.addi (Scalar.addi (Scalar.muli (BitVec.ofNat 32 j) 64#32) 64#32) 256#32) 1#32) 256#32)
      (((64 * j + 319 : Int)) / 256) :=
    floorDiv_isInt (Affine.subi (Affine.addi (Affine.addi hr (Affine.ofNat 64 ⟨rfl, by decide⟩) ⟨rfl, by omega, by omega⟩)
      (Affine.ofNat 256 ⟨rfl, by decide⟩) ⟨rfl, by omega, by omega⟩) (Affine.ofNat 1 ⟨rfl, by decide⟩) (e := (64 * j + 319 : Int)) ⟨by omega, by omega, by omega⟩)
      (Affine.ofNat 256 ⟨rfl, by decide⟩) (by omega) (by decide)
  have hk' : Affine.IsInt (BitVec.ofNat 32 k) k := Affine.ofNat k ⟨rfl, hk⟩
  unfold tilesCond
  refine (Scalar.guard_iff _).trans (IntOp.andi_eq_one.trans (and_congr (IntOp.cmpi_slt.trans (by rw [toInt_eq hr])) ?_))
  constructor
  · intro h
    have := Affine.unique (h := hd) (by have e := IntOp.cmpi_eq.mp h; rw [e]; exact hk')
    omega
  · intro h
    exact Affine.eq_holds hd hk' (by omega)

/-- The condition under which the grid column `j` of a sequence of `n` tokens holds no token, as it is printed. -/
def padCond (j : Nat) (n : BitVec 32) : BitVec 1 :=
  Scalar.cmpi .ne (Scalar.extui (Scalar.cmpi .sge (Scalar.muli (BitVec.ofNat 32 j) 64#32) n)) 0#32

theorem padCond_iff {j : Nat} (hj : j < 14) (n : BitVec 32) : padCond j n = 1#1 ↔ n.toInt ≤ (64 * j : Int) :=
  (Scalar.guard_iff _).trans (IntOp.cmpi_sge.trans (by rw [toInt_eq (rows_isInt hj)]))

/-- The condition of the first grid column, as it is printed. -/
def firstCond (j : Nat) : BitVec 1 :=
  Scalar.cmpi .ne (Scalar.extui (Scalar.cmpi .eq (BitVec.ofNat 32 j) 0#32)) 0#32

theorem firstCond_iff {j : Nat} (hj : j < 14) : firstCond j = 1#1 ↔ j = 0 :=
  (Scalar.guard_iff _).trans (IntOp.cmpi_eq.trans (by
    constructor
    · intro h; have := congrArg BitVec.toNat h; simp at this; omega
    · rintro rfl; rfl))

end Cert.Words

end
-- ==== Proof.Kernel.Base.lean ====
/- What every run of the kernel's body is stated over: the buffers as launched, the table of the sequence lengths, the
   branch conditions of the body as inequalities between its grid column and a sequence length, and the windows'
   staging buffers and blocks. -/
module

public import proofs.«01_k».proof.Proof.Gen.Kernel.Launch
public import proofs.«01_k».proof.Proof.Gen.Kernel.Skeleton
public import proofs.«01_k».proof.Proof.Words
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch memory and the table -/

/-- Core `c`'s buffers when the pipelined region is entered: as launched. -/
abbrev V (c : Dev nD) (b : Ref sig .tc) : Buf (Elt F) ((c : Thread nD τ).loc b) := m ((c : Thread nD τ).loc b)

set_option maxHeartbeats 800000 in
/-- The program is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The sequence lengths, the table the windows' index maps read. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The table's memref as the body is handed it. -/
abbrev tbM : Memref sig .tc .smem S2 .i32 := Memref.whole main_arg6
abbrev htbM : tbM.IsWhole := Memref.isWhole_whole _
abbrev TbBuf (c : Dev nD) {S : Shape} {e : EltTy} (M : Memref sig .tc .smem S e) : Type := Buf (Elt F) (M.view.loc (c : Thread nD τ))
/-- Half of the table, held at the contents `f`. -/
abbrev tbPt (c : Dev nD) {S : Shape} {e : EltTy} (M : Memref sig .tc .smem S e) (f : TbBuf (F := F) c M) : sProp 𝕄 :=
  M.view.loc (c : Thread nD τ) ↦{fullShare.right} f
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The length of the sequence of grid point `i`, as the body loads it from table contents `xt`. -/
abbrev lenW (i : grid0.Coords) (xt : tbM.view.ty.Contents (Elt F)) : BitVec 32 :=
  tbM.view.readAt (Elt F) (Rect.unit (s := S2) (k0_off1 i) S1.size (k0_off1_inb i)).toLoadRect xt (Shape.Idx.first (numel1_S1.symm ▸ Nat.one_pos))

/-! ## The body's conditions -/

theorem col_lt (i : grid0.Coords) : (i 1).val < 14 := (i 1).isLt
theorem batch_lt (i : grid0.Coords) : (i 0).val < 2 := (i 0).isLt

theorem cond1_iff (i : grid0.Coords) : k0_cond1 i = 1#1 ↔ (i 1).val = 0 := Words.firstCond_iff (col_lt i)
theorem cond2_iff (i : grid0.Coords) (n : BitVec 32) : k0_cond2 i n = 1#1 ↔ (64 * (i 1).val : Int) < n.toInt ∧ (i 1).val / 4 + 1 = 1 :=
  Words.tilesCond_iff (col_lt i) 1 (by decide) n
theorem cond3_iff (i : grid0.Coords) (n : BitVec 32) : k0_cond3 i n = 1#1 ↔ (64 * (i 1).val : Int) < n.toInt ∧ (i 1).val / 4 + 1 = 2 :=
  Words.tilesCond_iff (col_lt i) 2 (by decide) n
theorem cond4_iff (i : grid0.Coords) (n : BitVec 32) : k0_cond4 i n = 1#1 ↔ (64 * (i 1).val : Int) < n.toInt ∧ (i 1).val / 4 + 1 = 3 :=
  Words.tilesCond_iff (col_lt i) 3 (by decide) n
theorem cond5_iff (i : grid0.Coords) (n : BitVec 32) : k0_cond5 i n = 1#1 ↔ (64 * (i 1).val : Int) < n.toInt ∧ (i 1).val / 4 + 1 = 4 :=
  Words.tilesCond_iff (col_lt i) 4 (by decide) n
theorem cond6_iff (i : grid0.Coords) (n : BitVec 32) : k0_cond6 i n = 1#1 ↔ n.toInt ≤ (64 * (i 1).val : Int) :=
  Words.padCond_iff (col_lt i) n

/-- At every point the body takes one of its branches, so that no window is idle. -/
theorem never_idle (pf : pre0.Contents (Elt F)) (w : Fin 8) (i : grid0.Coords) : idle0 pf w i = false := by
  have key : (!(k0_cond2 i (pf.atD 0 (k0_off1 i)) == 1#1) && !(k0_cond3 i (pf.atD 0 (k0_off1 i)) == 1#1) && !(k0_cond4 i (pf.atD 0 (k0_off1 i)) == 1#1) && !(k0_cond5 i (pf.atD 0 (k0_off1 i)) == 1#1) && !(k0_cond6 i (pf.atD 0 (k0_off1 i)) == 1#1)) = false := by
    have h := col_lt i
    generalize pf.atD 0 (k0_off1 i) = n
    rcases lt_or_ge (64 * (i 1).val : Int) n.toInt with hn | hn
    · have : (i 1).val / 4 + 1 = 1 ∨ (i 1).val / 4 + 1 = 2 ∨ (i 1).val / 4 + 1 = 3 ∨ (i 1).val / 4 + 1 = 4 := by omega
      rcases this with h' | h' | h' | h'
      · simp [(cond2_iff i n).2 ⟨hn, h'⟩]
      · simp [(cond3_iff i n).2 ⟨hn, h'⟩]
      · simp [(cond4_iff i n).2 ⟨hn, h'⟩]
      · simp [(cond5_iff i n).2 ⟨hn, h'⟩]
    · simp [(cond6_iff i n).2 hn]
  match w with
  | 0 => rfl
  | 1 => rfl
  | 2 => rfl
  | 3 => rfl
  | 4 => rfl
  | 5 => rfl
  | 6 => exact key
  | 7 => exact key

/-! ## The windows' blocks are inside their arrays -/

theorem coord0_toNat (i : grid0.Coords) : (BitVec.ofNat 32 (i 0).val).toNat = (i 0).val := by
  have := batch_lt i
  rw [BitVec.toNat_ofNat]; omega

/-- The windows of the queries are at the row `Words.blockCol` gives. -/
theorem transform_0_eq (pf : pre0.Contents (Elt F)) (i : grid0.Coords) :
    cc0_transform_0 k0_off1_inb numel1_S1 pf i = ![(i 0).val, (Words.blockCol (i 1).val (lenW i (pf 0))).toNat, 0, 0] := by
  rw [← coord0_toNat i]; rfl
theorem transform_1_eq (pf : pre0.Contents (Elt F)) (i : grid0.Coords) :
    cc0_transform_1 k0_off1_inb numel1_S1 pf i = ![(i 0).val, (Words.blockCol (i 1).val (lenW i (pf 0))).toNat, 0] := by
  rw [← coord0_toNat i]; rfl
theorem transform_2_eq (pf : pre0.Contents (Elt F)) (i : grid0.Coords) :
    cc0_transform_2 k0_off1_inb numel1_S1 pf i = ![(i 0).val, (Words.blockCol (i 1).val (lenW i (pf 0))).toNat, 0, 0] := by
  rw [← coord0_toNat i]; rfl

theorem row_lt (i : grid0.Coords) (n : BitVec 32) : (Words.blockCol (i 1).val n).toNat < 14 :=
  lt_of_le_of_lt (Words.blockCol_le _ (by have := col_lt i; omega) n) (col_lt i)

/-- Whatever the table holds, every window's block is inside its array. -/
theorem ok (pf : pre0.Contents (Elt F)) : ok0 pf := by
  refine ⟨fun i => ?_, fun i => ?_, fun i => ?_⟩
  · have hr := row_lt i (lenW i (pf 0))
    have hb := batch_lt i
    refine ⟨?_, .inr (Affine.block_words_dvd (of_decide_eq_true rfl) (by decide))⟩
    rw [transform_0_eq]
    intro a
    fin_cases a <;> simp [S1x64x16x512, S2x896x16x512] <;> omega
  · have hr := row_lt i (lenW i (pf 0))
    have hb := batch_lt i
    refine ⟨?_, .inl rfl⟩
    rw [transform_1_eq]
    intro a
    fin_cases a <;> simp [S1x64x16, S2x896x16] <;> omega
  · have hr := row_lt i (lenW i (pf 0))
    have hb := batch_lt i
    refine ⟨?_, .inr (Affine.block_words_dvd (of_decide_eq_true rfl) (by decide))⟩
    rw [transform_2_eq]
    intro a
    fin_cases a <;> simp [S1x64x16x64, S2x896x16x64] <;> omega

/-- The pipeline at the launched table. -/
abbrev adm : (pcfg0 (F := F)).Adm := ⟨tbl m, ok (tbl m)⟩
abbrev cfgM : Pipeline.Cfg sig Λ₀ := cfg0 (adm m)

/-! ## The windows' blocks and staging buffers -/

/-- Window `w`'s block at point `t`, read off its array as launched. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-! Each input's staging buffer holds its block at every point, for any proof data that leave it there. -/

theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! The staging memrefs at point `t`, and the scratch memrefs. -/

abbrev ms0 (t : Fin (cfgM m).N) : Memref sig .tc .vmem S1x64x16x512 .fp8e4m3 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x64x16 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x64x16x64 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x896x512 .fp8e4m3 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S2x896 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x896x64 .bf16 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x64x16x512 .bf16 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S1x64x16 .f32 := spec0_7.stage ((cfgM m).slots t 7)
abbrev hs7 (t : Fin (cfgM m).N) : (ms7 m t).IsWhole := hstage0_7 (((cfgM m).slots t 7).cast nbuf0_7)

abbrev scM0 : Memref sig .tc .vmem S896x512 .bf16 := Memref.whole cc0_scratch0
abbrev scM1 : Memref sig .tc .vmem S896x64 .bf16 := Memref.whole cc0_scratch1
abbrev scM2 : Memref sig .tc .vmem S1x896 .f32 := Memref.whole cc0_scratch2

/-- The three scratch buffers at some contents, and the register. -/
theorem PhiA_eq (c : Dev nD) :
    (Pipeline.ΦA spec0 c : sProp 𝕄)
      = iprop(((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA
  rw [scopedRest0_eq]
  simp only [scM0, scM1, scM2, owns_whole]
  try rfl

/-- The body at point `t`. -/
abbrev bodyAt (t : Fin (cfgM m).N) : Prog (TpuEff nD τ sig (Elt F) Λ₀ .tc) PUnit :=
  cc0_mla_prompt_attention (grid0.coords t) tbM htbM (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _)

theorem defs₀_row (t : Fin (cfgM m).N) :
    defs₀ (F := F) .tc (cfgM m).body ((cfgM m).bodyArgs t ((cfgM m).slots t)) = bodyAt m t := by
  unfold defs₀; rw [Defs.onTc_tc]

end Cert.Kernel.Run

end
-- ==== Proof.Kernel.Tiles.lean ====
/- What the kernel's body stores, as functions of the blocks it reads: the first column of a sequence its three scratch
   buffers, and each branch its block of outputs and of log-sum-exps, sixteen tokens at a time. -/
module

public import proofs.«01_k».proof.Proof.Kernel.Base

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The rectangles the body reads and writes. -/

abbrev r_S1x896_S1x896_0_0 : Rect S1x896 := Rect.unit (s := S1x896) ![0, 0] S1x896.size inb_S1x896_S1x896_0_0
abbrev r_S1x896x512_S1x896x512_0_0_0 : Rect S1x896x512 := Rect.unit (s := S1x896x512) ![0, 0, 0] S1x896x512.size inb_S1x896x512_S1x896x512_0_0_0
abbrev r_S896x512_S896x512_0_0 : Rect S896x512 := Rect.unit (s := S896x512) ![0, 0] S896x512.size inb_S896x512_S896x512_0_0
abbrev r_S1x896x64_S1x896x64_0_0_0 : Rect S1x896x64 := Rect.unit (s := S1x896x64) ![0, 0, 0] S1x896x64.size inb_S1x896x64_S1x896x64_0_0_0
abbrev r_S896x64_S896x64_0_0 : Rect S896x64 := Rect.unit (s := S896x64) ![0, 0] S896x64.size inb_S896x64_S896x64_0_0
abbrev r_S1x64x16x512_S1x16x16x512_0_0_0_0 : Rect S1x64x16x512 := Rect.unit (s := S1x64x16x512) ![0, 0, 0, 0] S1x16x16x512.size inb_S1x64x16x512_S1x16x16x512_0_0_0_0
abbrev r_S1x64x16_S1x16x16_0_0_0 : Rect S1x64x16 := Rect.unit (s := S1x64x16) ![0, 0, 0] S1x16x16.size inb_S1x64x16_S1x16x16_0_0_0
abbrev r_S1x64x16x64_S1x16x16x64_0_0_0_0 : Rect S1x64x16x64 := Rect.unit (s := S1x64x16x64) ![0, 0, 0, 0] S1x16x16x64.size inb_S1x64x16x64_S1x16x16x64_0_0_0_0
abbrev r_S1x896x512_S1x256x512_0_0_0 : Rect S1x896x512 := Rect.unit (s := S1x896x512) ![0, 0, 0] S1x256x512.size inb_S1x896x512_S1x256x512_0_0_0
abbrev r_S896x64_S256x64_0_0 : Rect S896x64 := Rect.unit (s := S896x64) ![0, 0] S256x64.size inb_S896x64_S256x64_0_0
abbrev r_S1x896_S1x256_0_0 : Rect S1x896 := Rect.unit (s := S1x896) ![0, 0] S1x256.size inb_S1x896_S1x256_0_0
abbrev r_S896x512_S256x512_0_0 : Rect S896x512 := Rect.unit (s := S896x512) ![0, 0] S256x512.size inb_S896x512_S256x512_0_0
abbrev r_S1x64x16x512_S1x16x16x512_0_16_0_0 : Rect S1x64x16x512 := Rect.unit (s := S1x64x16x512) ![0, 16, 0, 0] S1x16x16x512.size inb_S1x64x16x512_S1x16x16x512_0_16_0_0
abbrev r_S1x64x16_S1x16x16_0_16_0 : Rect S1x64x16 := Rect.unit (s := S1x64x16) ![0, 16, 0] S1x16x16.size inb_S1x64x16_S1x16x16_0_16_0
abbrev r_S1x64x16x64_S1x16x16x64_0_16_0_0 : Rect S1x64x16x64 := Rect.unit (s := S1x64x16x64) ![0, 16, 0, 0] S1x16x16x64.size inb_S1x64x16x64_S1x16x16x64_0_16_0_0
abbrev r_S1x64x16x512_S1x16x16x512_0_32_0_0 : Rect S1x64x16x512 := Rect.unit (s := S1x64x16x512) ![0, 32, 0, 0] S1x16x16x512.size inb_S1x64x16x512_S1x16x16x512_0_32_0_0
abbrev r_S1x64x16_S1x16x16_0_32_0 : Rect S1x64x16 := Rect.unit (s := S1x64x16) ![0, 32, 0] S1x16x16.size inb_S1x64x16_S1x16x16_0_32_0
abbrev r_S1x64x16x64_S1x16x16x64_0_32_0_0 : Rect S1x64x16x64 := Rect.unit (s := S1x64x16x64) ![0, 32, 0, 0] S1x16x16x64.size inb_S1x64x16x64_S1x16x16x64_0_32_0_0
abbrev r_S1x64x16x512_S1x16x16x512_0_48_0_0 : Rect S1x64x16x512 := Rect.unit (s := S1x64x16x512) ![0, 48, 0, 0] S1x16x16x512.size inb_S1x64x16x512_S1x16x16x512_0_48_0_0
abbrev r_S1x64x16_S1x16x16_0_48_0 : Rect S1x64x16 := Rect.unit (s := S1x64x16) ![0, 48, 0] S1x16x16.size inb_S1x64x16_S1x16x16_0_48_0
abbrev r_S1x64x16x64_S1x16x16x64_0_48_0_0 : Rect S1x64x16x64 := Rect.unit (s := S1x64x16x64) ![0, 48, 0, 0] S1x16x16x64.size inb_S1x64x16x64_S1x16x16x64_0_48_0_0
abbrev r_S1x896x512_S1x512x512_0_0_0 : Rect S1x896x512 := Rect.unit (s := S1x896x512) ![0, 0, 0] S1x512x512.size inb_S1x896x512_S1x512x512_0_0_0
abbrev r_S896x64_S512x64_0_0 : Rect S896x64 := Rect.unit (s := S896x64) ![0, 0] S512x64.size inb_S896x64_S512x64_0_0
abbrev r_S1x896_S1x512_0_0 : Rect S1x896 := Rect.unit (s := S1x896) ![0, 0] S1x512.size inb_S1x896_S1x512_0_0
abbrev r_S896x512_S512x512_0_0 : Rect S896x512 := Rect.unit (s := S896x512) ![0, 0] S512x512.size inb_S896x512_S512x512_0_0
abbrev r_S1x896x512_S1x768x512_0_0_0 : Rect S1x896x512 := Rect.unit (s := S1x896x512) ![0, 0, 0] S1x768x512.size inb_S1x896x512_S1x768x512_0_0_0
abbrev r_S896x64_S768x64_0_0 : Rect S896x64 := Rect.unit (s := S896x64) ![0, 0] S768x64.size inb_S896x64_S768x64_0_0
abbrev r_S1x896_S1x768_0_0 : Rect S1x896 := Rect.unit (s := S1x896) ![0, 0] S1x768.size inb_S1x896_S1x768_0_0
abbrev r_S896x512_S768x512_0_0 : Rect S896x512 := Rect.unit (s := S896x512) ![0, 0] S768x512.size inb_S896x512_S768x512_0_0
abbrev r_S1x64x16x512_S1x64x16x512_0_0_0_0 : Rect S1x64x16x512 := Rect.unit (s := S1x64x16x512) ![0, 0, 0, 0] S1x64x16x512.size inb_S1x64x16x512_S1x64x16x512_0_0_0_0
abbrev r_S1x64x16_S1x64x16_0_0_0 : Rect S1x64x16 := Rect.unit (s := S1x64x16) ![0, 0, 0] S1x64x16.size inb_S1x64x16_S1x64x16_0_0_0

/-- The first token of the column of grid point `i`, as a word. -/
abbrev row0 (i : grid0.Coords) : BitVec 32 := Scalar.muli (BitVec.ofNat 32 (i 1).val) 64#32

/-- The offsets of the row of sequence `b` in the array of the key scales, and that row. -/
def off2 (b : Nat) : Fin 2 → Nat := ![(Scalar.indexCast (BitVec.ofNat 32 b)).toNat, 0]
theorem off2_inb (b : Nat) (hb : b < 2) : ∀ a, off2 b a + S1x896.size a ≤ S2x896.size a := by
  have h : (BitVec.ofNat 32 b).toNat = b := by rw [BitVec.toNat_ofNat]; omega
  intro a
  fin_cases a <;> simp [off2, S1x896, S2x896, Scalar.indexCast] <;> omega
def csRow (b : Nat) (hb : b < 2) (x4 : Vec F S2x896 .f32) : Vec F S1x896 .f32 :=
  View.ld x4 (Rect.unit (s := S2x896) (off2 b) S1x896.size (off2_inb b hb))

/-- What the first column stores as the key scales, of the scales `s` of its sequence. -/
def setScale (s : Vec F S1x896 .f32) : Vec F S1x896 .f32 :=
  k0_pay5 s

/-- What it stores as the scaled values, of the scales and the block `x3` of the codes. -/
def setValues (s : Vec F S1x896 .f32) (x3 : Vec F S1x896x512 .fp8e4m3) : Vec F S896x512 .bf16 :=
  k0_pay214 s k0_pay6 (k0_pay7 s) (k0_pay8 s) (k0_pay9 s) (k0_pay10 s) (k0_pay11 s) (View.ld x3 r_S1x896x512_S1x896x512_0_0_0)

/-- What it stores as the unscaled keys' rope parts, of the scales and the block `x5` of the rope parts. -/
def setRopes (s : Vec F S1x896 .f32) (x5 : Vec F S1x896x64 .bf16) : Vec F S896x64 .bf16 :=
  k0_pay215 s k0_pay6 (k0_pay7 s) (k0_pay8 s) (k0_pay9 s) (k0_pay10 s) (k0_pay11 s) (View.ld x5 r_S1x896x64_S1x896x64_0_0_0)

/-- What the branch of 256 keys stores as the outputs of its tokens 0 to 15. -/
def o1_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay22 n (row0 i) (k0_pay13 (View.ld x1 r_S1x64x16_S1x16x16_0_0_0)) (k0_pay14 (View.ld x0 r_S1x64x16x512_S1x16x16x512_0_0_0_0) (View.ld x1 r_S1x64x16_S1x16x16_0_0_0) (View.ld x2 r_S1x64x16x64_S1x16x16x64_0_0_0_0) (View.ld x3 r_S1x896x512_S1x256x512_0_0_0) (View.ld r r_S896x64_S256x64_0_0) (View.ld k r_S1x896_S1x256_0_0)) k0_pay15 (View.ld u r_S896x512_S256x512_0_0)

/-- What the branch of 256 keys stores as the log-sum-exps of its tokens 0 to 15. -/
def l1_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay25 (k0_pay23 n (row0 i) (k0_pay13 (View.ld x1 r_S1x64x16_S1x16x16_0_0_0)) (k0_pay14 (View.ld x0 r_S1x64x16x512_S1x16x16x512_0_0_0_0) (View.ld x1 r_S1x64x16_S1x16x16_0_0_0) (View.ld x2 r_S1x64x16x64_S1x16x16x64_0_0_0_0) (View.ld x3 r_S1x896x512_S1x256x512_0_0_0) (View.ld r r_S896x64_S256x64_0_0) (View.ld k r_S1x896_S1x256_0_0)) k0_pay15) (((Scalar.ofBits .f32 0x00000000#32))) (k0_pay24 k0_pay12)

/-- What the branch of 256 keys stores as the outputs of its tokens 16 to 31. -/
def o1_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay35 n (row0 i) (k0_pay26 k0_pay12 (View.ld x1 r_S1x64x16_S1x16x16_0_16_0)) (k0_pay27 (View.ld x0 r_S1x64x16x512_S1x16x16x512_0_16_0_0) (View.ld x3 r_S1x896x512_S1x256x512_0_0_0)) (k0_pay28 k0_pay12 (View.ld x1 r_S1x64x16_S1x16x16_0_16_0) (View.ld x2 r_S1x64x16x64_S1x16x16x64_0_16_0_0) (View.ld r r_S896x64_S256x64_0_0)) (View.ld k r_S1x896_S1x256_0_0) (View.ld u r_S896x512_S256x512_0_0)

/-- What the branch of 256 keys stores as the log-sum-exps of its tokens 16 to 31. -/
def l1_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay38 k0_pay12 (k0_pay33 (row0 i) (k0_pay26 k0_pay12 (View.ld x1 r_S1x64x16_S1x16x16_0_16_0)) (k0_pay27 (View.ld x0 r_S1x64x16x512_S1x16x16x512_0_16_0_0) (View.ld x3 r_S1x896x512_S1x256x512_0_0_0)) (k0_pay28 k0_pay12 (View.ld x1 r_S1x64x16_S1x16x16_0_16_0) (View.ld x2 r_S1x64x16x64_S1x16x16x64_0_16_0_0) (View.ld r r_S896x64_S256x64_0_0)) (View.ld k r_S1x896_S1x256_0_0)) (k0_pay34 (F := F) n (row0 i)) (k0_pay36 (row0 i) (k0_pay26 k0_pay12 (View.ld x1 r_S1x64x16_S1x16x16_0_16_0)) (k0_pay27 (View.ld x0 r_S1x64x16x512_S1x16x16x512_0_16_0_0) (View.ld x3 r_S1x896x512_S1x256x512_0_0_0)) (k0_pay28 k0_pay12 (View.ld x1 r_S1x64x16_S1x16x16_0_16_0) (View.ld x2 r_S1x64x16x64_S1x16x16x64_0_16_0_0) (View.ld r r_S896x64_S256x64_0_0)) (View.ld k r_S1x896_S1x256_0_0)) (k0_pay37 (F := F))

/-- What the branch of 256 keys stores as the outputs of its tokens 32 to 47. -/
def o1_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay49 (k0_pay48 n (row0 i) (k0_pay39 (View.ld x0 r_S1x64x16x512_S1x16x16x512_0_32_0_0)) (k0_pay40 k0_pay12 (View.ld x1 r_S1x64x16_S1x16x16_0_32_0)) (k0_pay41 k0_pay12 (View.ld x1 r_S1x64x16_S1x16x16_0_32_0) (View.ld x2 r_S1x64x16x64_S1x16x16x64_0_32_0_0)) (View.ld x3 r_S1x896x512_S1x256x512_0_0_0) (View.ld r r_S896x64_S256x64_0_0) (View.ld k r_S1x896_S1x256_0_0) (View.ld u r_S896x512_S256x512_0_0))

/-- What the branch of 256 keys stores as the log-sum-exps of its tokens 32 to 47. -/
def l1_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay50 k0_pay12 (k0_pay40 k0_pay12 (View.ld x1 r_S1x64x16_S1x16x16_0_32_0)) (k0_pay44 (row0 i) (k0_pay39 (View.ld x0 r_S1x64x16x512_S1x16x16x512_0_32_0_0)) (k0_pay41 k0_pay12 (View.ld x1 r_S1x64x16_S1x16x16_0_32_0) (View.ld x2 r_S1x64x16x64_S1x16x16x64_0_32_0_0)) (View.ld x3 r_S1x896x512_S1x256x512_0_0_0) (View.ld r r_S896x64_S256x64_0_0) (View.ld k r_S1x896_S1x256_0_0)) (k0_pay46 (row0 i) (k0_pay39 (View.ld x0 r_S1x64x16x512_S1x16x16x512_0_32_0_0)) (k0_pay40 k0_pay12 (View.ld x1 r_S1x64x16_S1x16x16_0_32_0)) (k0_pay41 k0_pay12 (View.ld x1 r_S1x64x16_S1x16x16_0_32_0) (View.ld x2 r_S1x64x16x64_S1x16x16x64_0_32_0_0)) (View.ld x3 r_S1x896x512_S1x256x512_0_0_0) (View.ld r r_S896x64_S256x64_0_0) (View.ld k r_S1x896_S1x256_0_0)) (k0_pay47 (F := F) n (row0 i))

/-- What the branch of 256 keys stores as the outputs of its tokens 48 to 63. -/
def o1_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay216 (k0_pay57 (row0 i) (k0_pay51 (View.ld x0 r_S1x64x16x512_S1x16x16x512_0_48_0_0)) (k0_pay52 k0_pay12 (View.ld x1 r_S1x64x16_S1x16x16_0_48_0)) (View.ld x2 r_S1x64x16x64_S1x16x16x64_0_48_0_0) (View.ld x3 r_S1x896x512_S1x256x512_0_0_0) (View.ld r r_S896x64_S256x64_0_0) (View.ld k r_S1x896_S1x256_0_0)) (k0_pay58 (row0 i) (k0_pay51 (View.ld x0 r_S1x64x16x512_S1x16x16x512_0_48_0_0)) (k0_pay52 k0_pay12 (View.ld x1 r_S1x64x16_S1x16x16_0_48_0)) (View.ld x2 r_S1x64x16x64_S1x16x16x64_0_48_0_0) (View.ld x3 r_S1x896x512_S1x256x512_0_0_0) (View.ld r r_S896x64_S256x64_0_0) (View.ld k r_S1x896_S1x256_0_0) (View.ld u r_S896x512_S256x512_0_0)) (k0_pay59 (F := F) n (row0 i))

/-- What the branch of 256 keys stores as the log-sum-exps of its tokens 48 to 63. -/
def l1_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay217 k0_pay12 (k0_pay52 k0_pay12 (View.ld x1 r_S1x64x16_S1x16x16_0_48_0)) (k0_pay55 (row0 i) (k0_pay51 (View.ld x0 r_S1x64x16x512_S1x16x16x512_0_48_0_0)) (k0_pay52 k0_pay12 (View.ld x1 r_S1x64x16_S1x16x16_0_48_0)) (View.ld x2 r_S1x64x16x64_S1x16x16x64_0_48_0_0) (View.ld x3 r_S1x896x512_S1x256x512_0_0_0) (View.ld r r_S896x64_S256x64_0_0) (View.ld k r_S1x896_S1x256_0_0)) (k0_pay57 (row0 i) (k0_pay51 (View.ld x0 r_S1x64x16x512_S1x16x16x512_0_48_0_0)) (k0_pay52 k0_pay12 (View.ld x1 r_S1x64x16_S1x16x16_0_48_0)) (View.ld x2 r_S1x64x16x64_S1x16x16x64_0_48_0_0) (View.ld x3 r_S1x896x512_S1x256x512_0_0_0) (View.ld r r_S896x64_S256x64_0_0) (View.ld k r_S1x896_S1x256_0_0)) (k0_pay59 (F := F) n (row0 i))

/-- The block of outputs the branch of 256 keys leaves. -/
def out1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16x512 .bf16 :=
  View.canon [⟨r_S1x64x16x512_S1x16x16x512_0_48_0_0, o1_3 i n x0 x1 x2 x3 u r k⟩, ⟨r_S1x64x16x512_S1x16x16x512_0_32_0_0, o1_2 i n x0 x1 x2 x3 u r k⟩, ⟨r_S1x64x16x512_S1x16x16x512_0_16_0_0, o1_1 i n x0 x1 x2 x3 u r k⟩, ⟨r_S1x64x16x512_S1x16x16x512_0_0_0_0, o1_0 i n x0 x1 x2 x3 u r k⟩]

/-- The block of log-sum-exps the branch of 256 keys leaves. -/
def lse1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16 .f32 :=
  View.canon [⟨r_S1x64x16_S1x16x16_0_48_0, l1_3 i n x0 x1 x2 x3 u r k⟩, ⟨r_S1x64x16_S1x16x16_0_32_0, l1_2 i n x0 x1 x2 x3 u r k⟩, ⟨r_S1x64x16_S1x16x16_0_16_0, l1_1 i n x0 x1 x2 x3 u r k⟩, ⟨r_S1x64x16_S1x16x16_0_0_0, l1_0 i n x0 x1 x2 x3 u r k⟩]

/-- What the branch of 512 keys stores as the outputs of its tokens 0 to 15. -/
def o2_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay70 n ((row0 i)) (k0_pay61 (View.ld x1 r_S1x64x16_S1x16x16_0_0_0)) (k0_pay62 (View.ld x0 r_S1x64x16x512_S1x16x16x512_0_0_0_0) (View.ld x1 r_S1x64x16_S1x16x16_0_0_0) (View.ld x2 r_S1x64x16x64_S1x16x16x64_0_0_0_0) (View.ld x3 r_S1x896x512_S1x512x512_0_0_0) (View.ld r r_S896x64_S512x64_0_0) (View.ld k r_S1x896_S1x512_0_0)) k0_pay63 (View.ld u r_S896x512_S512x512_0_0)

/-- What the branch of 512 keys stores as the log-sum-exps of its tokens 0 to 15. -/
def l2_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay72 k0_pay60 (k0_pay71 n ((row0 i)) (k0_pay61 (View.ld x1 r_S1x64x16_S1x16x16_0_0_0)) (k0_pay62 (View.ld x0 r_S1x64x16x512_S1x16x16x512_0_0_0_0) (View.ld x1 r_S1x64x16_S1x16x16_0_0_0) (View.ld x2 r_S1x64x16x64_S1x16x16x64_0_0_0_0) (View.ld x3 r_S1x896x512_S1x512x512_0_0_0) (View.ld r r_S896x64_S512x64_0_0) (View.ld k r_S1x896_S1x512_0_0)) k0_pay63)

/-- What the branch of 512 keys stores as the outputs of its tokens 16 to 31. -/
def o2_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay83 (k0_pay82 n ((row0 i)) (k0_pay73 k0_pay60 (View.ld x1 r_S1x64x16_S1x16x16_0_16_0)) (k0_pay74 k0_pay60 (View.ld x1 r_S1x64x16_S1x16x16_0_16_0) (View.ld x2 r_S1x64x16x64_S1x16x16x64_0_16_0_0)) (k0_pay75 (View.ld x0 r_S1x64x16x512_S1x16x16x512_0_16_0_0) (View.ld x3 r_S1x896x512_S1x512x512_0_0_0)) (View.ld r r_S896x64_S512x64_0_0) (View.ld k r_S1x896_S1x512_0_0) (View.ld u r_S896x512_S512x512_0_0))

/-- What the branch of 512 keys stores as the log-sum-exps of its tokens 16 to 31. -/
def l2_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay84 k0_pay60 (k0_pay73 k0_pay60 (View.ld x1 r_S1x64x16_S1x16x16_0_16_0)) (k0_pay78 ((row0 i)) (k0_pay74 k0_pay60 (View.ld x1 r_S1x64x16_S1x16x16_0_16_0) (View.ld x2 r_S1x64x16x64_S1x16x16x64_0_16_0_0)) (k0_pay75 (View.ld x0 r_S1x64x16x512_S1x16x16x512_0_16_0_0) (View.ld x3 r_S1x896x512_S1x512x512_0_0_0)) (View.ld r r_S896x64_S512x64_0_0) (View.ld k r_S1x896_S1x512_0_0)) (k0_pay80 ((row0 i)) (k0_pay73 k0_pay60 (View.ld x1 r_S1x64x16_S1x16x16_0_16_0)) (k0_pay74 k0_pay60 (View.ld x1 r_S1x64x16_S1x16x16_0_16_0) (View.ld x2 r_S1x64x16x64_S1x16x16x64_0_16_0_0)) (k0_pay75 (View.ld x0 r_S1x64x16x512_S1x16x16x512_0_16_0_0) (View.ld x3 r_S1x896x512_S1x512x512_0_0_0)) (View.ld r r_S896x64_S512x64_0_0) (View.ld k r_S1x896_S1x512_0_0)) (k0_pay81 (F := F) n ((row0 i)))

/-- What the branch of 512 keys stores as the outputs of its tokens 32 to 47. -/
def o2_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay96 (k0_pay93 ((row0 i)) (k0_pay85 (View.ld x0 r_S1x64x16x512_S1x16x16x512_0_32_0_0)) (k0_pay86 k0_pay60 (View.ld x1 r_S1x64x16_S1x16x16_0_32_0)) (k0_pay87 (View.ld x2 r_S1x64x16x64_S1x16x16x64_0_32_0_0)) (View.ld x3 r_S1x896x512_S1x512x512_0_0_0) (View.ld r r_S896x64_S512x64_0_0) (View.ld k r_S1x896_S1x512_0_0) (View.ld u r_S896x512_S512x512_0_0)) (k0_pay94 (F := F) n ((row0 i))) (k0_pay95 ((row0 i)) (k0_pay85 (View.ld x0 r_S1x64x16x512_S1x16x16x512_0_32_0_0)) (k0_pay86 k0_pay60 (View.ld x1 r_S1x64x16_S1x16x16_0_32_0)) (k0_pay87 (View.ld x2 r_S1x64x16x64_S1x16x16x64_0_32_0_0)) (View.ld x3 r_S1x896x512_S1x512x512_0_0_0) (View.ld r r_S896x64_S512x64_0_0) (View.ld k r_S1x896_S1x512_0_0))

/-- What the branch of 512 keys stores as the log-sum-exps of its tokens 32 to 47. -/
def l2_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay97 k0_pay60 (k0_pay86 k0_pay60 (View.ld x1 r_S1x64x16_S1x16x16_0_32_0)) (k0_pay90 ((row0 i)) (k0_pay85 (View.ld x0 r_S1x64x16x512_S1x16x16x512_0_32_0_0)) (k0_pay86 k0_pay60 (View.ld x1 r_S1x64x16_S1x16x16_0_32_0)) (k0_pay87 (View.ld x2 r_S1x64x16x64_S1x16x16x64_0_32_0_0)) (View.ld x3 r_S1x896x512_S1x512x512_0_0_0) (View.ld r r_S896x64_S512x64_0_0) (View.ld k r_S1x896_S1x512_0_0)) (k0_pay92 ((row0 i)) (k0_pay85 (View.ld x0 r_S1x64x16x512_S1x16x16x512_0_32_0_0)) (k0_pay86 k0_pay60 (View.ld x1 r_S1x64x16_S1x16x16_0_32_0)) (k0_pay87 (View.ld x2 r_S1x64x16x64_S1x16x16x64_0_32_0_0)) (View.ld x3 r_S1x896x512_S1x512x512_0_0_0) (View.ld r r_S896x64_S512x64_0_0) (View.ld k r_S1x896_S1x512_0_0)) (k0_pay94 (F := F) n ((row0 i)))

/-- What the branch of 512 keys stores as the outputs of its tokens 48 to 63. -/
def o2_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay109 n (k0_pay102 ((row0 i))) (k0_pay105 ((row0 i)) (k0_pay98 (View.ld x0 r_S1x64x16x512_S1x16x16x512_0_48_0_0)) (((Scalar.ofBits .f32 0x00000000#32))) (k0_pay99 k0_pay60) (k0_pay100 (View.ld x1 r_S1x64x16_S1x16x16_0_48_0)) (View.ld x2 r_S1x64x16x64_S1x16x16x64_0_48_0_0) (View.ld x3 r_S1x896x512_S1x512x512_0_0_0) (View.ld r r_S896x64_S512x64_0_0) (View.ld k r_S1x896_S1x512_0_0)) (View.ld u r_S896x512_S512x512_0_0)

/-- What the branch of 512 keys stores as the log-sum-exps of its tokens 48 to 63. -/
def l2_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay218 (k0_pay110 n k0_pay60 (k0_pay101 (((Scalar.ofBits .f32 0x00000000#32))) (k0_pay99 k0_pay60) (k0_pay100 (View.ld x1 r_S1x64x16_S1x16x16_0_48_0))) (k0_pay102 ((row0 i))) (k0_pay104 ((row0 i)) (k0_pay98 (View.ld x0 r_S1x64x16x512_S1x16x16x512_0_48_0_0)) (((Scalar.ofBits .f32 0x00000000#32))) (k0_pay99 k0_pay60) (k0_pay100 (View.ld x1 r_S1x64x16_S1x16x16_0_48_0)) (View.ld x2 r_S1x64x16x64_S1x16x16x64_0_48_0_0) (View.ld x3 r_S1x896x512_S1x512x512_0_0_0) (View.ld r r_S896x64_S512x64_0_0) (View.ld k r_S1x896_S1x512_0_0)) (k0_pay105 ((row0 i)) (k0_pay98 (View.ld x0 r_S1x64x16x512_S1x16x16x512_0_48_0_0)) (((Scalar.ofBits .f32 0x00000000#32))) (k0_pay99 k0_pay60) (k0_pay100 (View.ld x1 r_S1x64x16_S1x16x16_0_48_0)) (View.ld x2 r_S1x64x16x64_S1x16x16x64_0_48_0_0) (View.ld x3 r_S1x896x512_S1x512x512_0_0_0) (View.ld r r_S896x64_S512x64_0_0) (View.ld k r_S1x896_S1x512_0_0)))

/-- The block of outputs the branch of 512 keys leaves. -/
def out2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16x512 .bf16 :=
  View.canon [⟨r_S1x64x16x512_S1x16x16x512_0_48_0_0, o2_3 i n x0 x1 x2 x3 u r k⟩, ⟨r_S1x64x16x512_S1x16x16x512_0_32_0_0, o2_2 i n x0 x1 x2 x3 u r k⟩, ⟨r_S1x64x16x512_S1x16x16x512_0_16_0_0, o2_1 i n x0 x1 x2 x3 u r k⟩, ⟨r_S1x64x16x512_S1x16x16x512_0_0_0_0, o2_0 i n x0 x1 x2 x3 u r k⟩]

/-- The block of log-sum-exps the branch of 512 keys leaves. -/
def lse2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16 .f32 :=
  View.canon [⟨r_S1x64x16_S1x16x16_0_48_0, l2_3 i n x0 x1 x2 x3 u r k⟩, ⟨r_S1x64x16_S1x16x16_0_32_0, l2_2 i n x0 x1 x2 x3 u r k⟩, ⟨r_S1x64x16_S1x16x16_0_16_0, l2_1 i n x0 x1 x2 x3 u r k⟩, ⟨r_S1x64x16_S1x16x16_0_0_0, l2_0 i n x0 x1 x2 x3 u r k⟩]

/-- What the branch of 768 keys stores as the outputs of its tokens 0 to 15. -/
def o3_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay121 n ((row0 i)) (k0_pay112 (View.ld x1 r_S1x64x16_S1x16x16_0_0_0)) (k0_pay113 (View.ld x0 r_S1x64x16x512_S1x16x16x512_0_0_0_0) (View.ld x1 r_S1x64x16_S1x16x16_0_0_0) (View.ld x2 r_S1x64x16x64_S1x16x16x64_0_0_0_0) (View.ld x3 r_S1x896x512_S1x768x512_0_0_0) (View.ld r r_S896x64_S768x64_0_0) (View.ld k r_S1x896_S1x768_0_0)) k0_pay114 (View.ld u r_S896x512_S768x512_0_0)

/-- What the branch of 768 keys stores as the log-sum-exps of its tokens 0 to 15. -/
def l3_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay123 k0_pay111 (k0_pay122 n ((row0 i)) (k0_pay112 (View.ld x1 r_S1x64x16_S1x16x16_0_0_0)) (k0_pay113 (View.ld x0 r_S1x64x16x512_S1x16x16x512_0_0_0_0) (View.ld x1 r_S1x64x16_S1x16x16_0_0_0) (View.ld x2 r_S1x64x16x64_S1x16x16x64_0_0_0_0) (View.ld x3 r_S1x896x512_S1x768x512_0_0_0) (View.ld r r_S896x64_S768x64_0_0) (View.ld k r_S1x896_S1x768_0_0)) k0_pay114)

/-- What the branch of 768 keys stores as the outputs of its tokens 16 to 31. -/
def o3_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay134 (k0_pay133 n ((row0 i)) (k0_pay124 k0_pay111 (View.ld x1 r_S1x64x16_S1x16x16_0_16_0)) (k0_pay125 k0_pay111 (View.ld x1 r_S1x64x16_S1x16x16_0_16_0) (View.ld x2 r_S1x64x16x64_S1x16x16x64_0_16_0_0)) (k0_pay126 (View.ld x0 r_S1x64x16x512_S1x16x16x512_0_16_0_0) (View.ld x3 r_S1x896x512_S1x768x512_0_0_0)) (View.ld r r_S896x64_S768x64_0_0) (View.ld k r_S1x896_S1x768_0_0) (View.ld u r_S896x512_S768x512_0_0))

/-- What the branch of 768 keys stores as the log-sum-exps of its tokens 16 to 31. -/
def l3_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay135 k0_pay111 (k0_pay124 k0_pay111 (View.ld x1 r_S1x64x16_S1x16x16_0_16_0)) (k0_pay129 ((row0 i)) (k0_pay125 k0_pay111 (View.ld x1 r_S1x64x16_S1x16x16_0_16_0) (View.ld x2 r_S1x64x16x64_S1x16x16x64_0_16_0_0)) (k0_pay126 (View.ld x0 r_S1x64x16x512_S1x16x16x512_0_16_0_0) (View.ld x3 r_S1x896x512_S1x768x512_0_0_0)) (View.ld r r_S896x64_S768x64_0_0) (View.ld k r_S1x896_S1x768_0_0)) (k0_pay131 ((row0 i)) (k0_pay124 k0_pay111 (View.ld x1 r_S1x64x16_S1x16x16_0_16_0)) (k0_pay125 k0_pay111 (View.ld x1 r_S1x64x16_S1x16x16_0_16_0) (View.ld x2 r_S1x64x16x64_S1x16x16x64_0_16_0_0)) (k0_pay126 (View.ld x0 r_S1x64x16x512_S1x16x16x512_0_16_0_0) (View.ld x3 r_S1x896x512_S1x768x512_0_0_0)) (View.ld r r_S896x64_S768x64_0_0) (View.ld k r_S1x896_S1x768_0_0)) (k0_pay132 (F := F) n ((row0 i)))

/-- What the branch of 768 keys stores as the outputs of its tokens 32 to 47. -/
def o3_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay147 (k0_pay144 ((row0 i)) (k0_pay136 (View.ld x0 r_S1x64x16x512_S1x16x16x512_0_32_0_0)) (k0_pay137 k0_pay111 (View.ld x1 r_S1x64x16_S1x16x16_0_32_0)) (k0_pay138 (View.ld x2 r_S1x64x16x64_S1x16x16x64_0_32_0_0)) (View.ld x3 r_S1x896x512_S1x768x512_0_0_0) (View.ld r r_S896x64_S768x64_0_0) (View.ld k r_S1x896_S1x768_0_0) (View.ld u r_S896x512_S768x512_0_0)) (k0_pay145 (F := F) n ((row0 i))) (k0_pay146 ((row0 i)) (k0_pay136 (View.ld x0 r_S1x64x16x512_S1x16x16x512_0_32_0_0)) (k0_pay137 k0_pay111 (View.ld x1 r_S1x64x16_S1x16x16_0_32_0)) (k0_pay138 (View.ld x2 r_S1x64x16x64_S1x16x16x64_0_32_0_0)) (View.ld x3 r_S1x896x512_S1x768x512_0_0_0) (View.ld r r_S896x64_S768x64_0_0) (View.ld k r_S1x896_S1x768_0_0))

/-- What the branch of 768 keys stores as the log-sum-exps of its tokens 32 to 47. -/
def l3_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay148 k0_pay111 (k0_pay137 k0_pay111 (View.ld x1 r_S1x64x16_S1x16x16_0_32_0)) (k0_pay141 ((row0 i)) (k0_pay136 (View.ld x0 r_S1x64x16x512_S1x16x16x512_0_32_0_0)) (k0_pay137 k0_pay111 (View.ld x1 r_S1x64x16_S1x16x16_0_32_0)) (k0_pay138 (View.ld x2 r_S1x64x16x64_S1x16x16x64_0_32_0_0)) (View.ld x3 r_S1x896x512_S1x768x512_0_0_0) (View.ld r r_S896x64_S768x64_0_0) (View.ld k r_S1x896_S1x768_0_0)) (k0_pay143 ((row0 i)) (k0_pay136 (View.ld x0 r_S1x64x16x512_S1x16x16x512_0_32_0_0)) (k0_pay137 k0_pay111 (View.ld x1 r_S1x64x16_S1x16x16_0_32_0)) (k0_pay138 (View.ld x2 r_S1x64x16x64_S1x16x16x64_0_32_0_0)) (View.ld x3 r_S1x896x512_S1x768x512_0_0_0) (View.ld r r_S896x64_S768x64_0_0) (View.ld k r_S1x896_S1x768_0_0)) (k0_pay145 (F := F) n ((row0 i)))

/-- What the branch of 768 keys stores as the outputs of its tokens 48 to 63. -/
def o3_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay160 n (k0_pay153 ((row0 i))) (k0_pay156 ((row0 i)) (k0_pay149 (View.ld x0 r_S1x64x16x512_S1x16x16x512_0_48_0_0)) (((Scalar.ofBits .f32 0x00000000#32))) (k0_pay150 k0_pay111) (k0_pay151 (View.ld x1 r_S1x64x16_S1x16x16_0_48_0)) (View.ld x2 r_S1x64x16x64_S1x16x16x64_0_48_0_0) (View.ld x3 r_S1x896x512_S1x768x512_0_0_0) (View.ld r r_S896x64_S768x64_0_0) (View.ld k r_S1x896_S1x768_0_0)) (View.ld u r_S896x512_S768x512_0_0)

/-- What the branch of 768 keys stores as the log-sum-exps of its tokens 48 to 63. -/
def l3_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay1 (k0_pay161 n k0_pay111 (k0_pay152 (((Scalar.ofBits .f32 0x00000000#32))) (k0_pay150 k0_pay111) (k0_pay151 (View.ld x1 r_S1x64x16_S1x16x16_0_48_0))) (k0_pay153 ((row0 i))) (k0_pay155 ((row0 i)) (k0_pay149 (View.ld x0 r_S1x64x16x512_S1x16x16x512_0_48_0_0)) (((Scalar.ofBits .f32 0x00000000#32))) (k0_pay150 k0_pay111) (k0_pay151 (View.ld x1 r_S1x64x16_S1x16x16_0_48_0)) (View.ld x2 r_S1x64x16x64_S1x16x16x64_0_48_0_0) (View.ld x3 r_S1x896x512_S1x768x512_0_0_0) (View.ld r r_S896x64_S768x64_0_0) (View.ld k r_S1x896_S1x768_0_0)) (k0_pay156 ((row0 i)) (k0_pay149 (View.ld x0 r_S1x64x16x512_S1x16x16x512_0_48_0_0)) (((Scalar.ofBits .f32 0x00000000#32))) (k0_pay150 k0_pay111) (k0_pay151 (View.ld x1 r_S1x64x16_S1x16x16_0_48_0)) (View.ld x2 r_S1x64x16x64_S1x16x16x64_0_48_0_0) (View.ld x3 r_S1x896x512_S1x768x512_0_0_0) (View.ld r r_S896x64_S768x64_0_0) (View.ld k r_S1x896_S1x768_0_0)))

/-- The block of outputs the branch of 768 keys leaves. -/
def out3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16x512 .bf16 :=
  View.canon [⟨r_S1x64x16x512_S1x16x16x512_0_48_0_0, o3_3 i n x0 x1 x2 x3 u r k⟩, ⟨r_S1x64x16x512_S1x16x16x512_0_32_0_0, o3_2 i n x0 x1 x2 x3 u r k⟩, ⟨r_S1x64x16x512_S1x16x16x512_0_16_0_0, o3_1 i n x0 x1 x2 x3 u r k⟩, ⟨r_S1x64x16x512_S1x16x16x512_0_0_0_0, o3_0 i n x0 x1 x2 x3 u r k⟩]

/-- The block of log-sum-exps the branch of 768 keys leaves. -/
def lse3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16 .f32 :=
  View.canon [⟨r_S1x64x16_S1x16x16_0_48_0, l3_3 i n x0 x1 x2 x3 u r k⟩, ⟨r_S1x64x16_S1x16x16_0_32_0, l3_2 i n x0 x1 x2 x3 u r k⟩, ⟨r_S1x64x16_S1x16x16_0_16_0, l3_1 i n x0 x1 x2 x3 u r k⟩, ⟨r_S1x64x16_S1x16x16_0_0_0, l3_0 i n x0 x1 x2 x3 u r k⟩]

/-- What the branch of 896 keys stores as the outputs of its tokens 0 to 15. -/
def o4_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay172 n ((row0 i)) (k0_pay163 (View.ld x1 r_S1x64x16_S1x16x16_0_0_0)) (k0_pay164 (View.ld x0 r_S1x64x16x512_S1x16x16x512_0_0_0_0) (View.ld x1 r_S1x64x16_S1x16x16_0_0_0) (View.ld x2 r_S1x64x16x64_S1x16x16x64_0_0_0_0) (View.ld x3 r_S1x896x512_S1x896x512_0_0_0) (View.ld r r_S896x64_S896x64_0_0) (View.ld k r_S1x896_S1x896_0_0)) k0_pay165 (View.ld u r_S896x512_S896x512_0_0)

/-- What the branch of 896 keys stores as the log-sum-exps of its tokens 0 to 15. -/
def l4_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay174 k0_pay162 (k0_pay173 n ((row0 i)) (k0_pay163 (View.ld x1 r_S1x64x16_S1x16x16_0_0_0)) (k0_pay164 (View.ld x0 r_S1x64x16x512_S1x16x16x512_0_0_0_0) (View.ld x1 r_S1x64x16_S1x16x16_0_0_0) (View.ld x2 r_S1x64x16x64_S1x16x16x64_0_0_0_0) (View.ld x3 r_S1x896x512_S1x896x512_0_0_0) (View.ld r r_S896x64_S896x64_0_0) (View.ld k r_S1x896_S1x896_0_0)) k0_pay165)

/-- What the branch of 896 keys stores as the outputs of its tokens 16 to 31. -/
def o4_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay185 (k0_pay184 n ((row0 i)) (k0_pay175 k0_pay162 (View.ld x1 r_S1x64x16_S1x16x16_0_16_0)) (k0_pay176 k0_pay162 (View.ld x1 r_S1x64x16_S1x16x16_0_16_0) (View.ld x2 r_S1x64x16x64_S1x16x16x64_0_16_0_0)) (k0_pay177 (View.ld x0 r_S1x64x16x512_S1x16x16x512_0_16_0_0) (View.ld x3 r_S1x896x512_S1x896x512_0_0_0)) (View.ld r r_S896x64_S896x64_0_0) (View.ld k r_S1x896_S1x896_0_0) (View.ld u r_S896x512_S896x512_0_0))

/-- What the branch of 896 keys stores as the log-sum-exps of its tokens 16 to 31. -/
def l4_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay186 k0_pay162 (k0_pay175 k0_pay162 (View.ld x1 r_S1x64x16_S1x16x16_0_16_0)) (k0_pay180 ((row0 i)) (k0_pay176 k0_pay162 (View.ld x1 r_S1x64x16_S1x16x16_0_16_0) (View.ld x2 r_S1x64x16x64_S1x16x16x64_0_16_0_0)) (k0_pay177 (View.ld x0 r_S1x64x16x512_S1x16x16x512_0_16_0_0) (View.ld x3 r_S1x896x512_S1x896x512_0_0_0)) (View.ld r r_S896x64_S896x64_0_0) (View.ld k r_S1x896_S1x896_0_0)) (k0_pay182 ((row0 i)) (k0_pay175 k0_pay162 (View.ld x1 r_S1x64x16_S1x16x16_0_16_0)) (k0_pay176 k0_pay162 (View.ld x1 r_S1x64x16_S1x16x16_0_16_0) (View.ld x2 r_S1x64x16x64_S1x16x16x64_0_16_0_0)) (k0_pay177 (View.ld x0 r_S1x64x16x512_S1x16x16x512_0_16_0_0) (View.ld x3 r_S1x896x512_S1x896x512_0_0_0)) (View.ld r r_S896x64_S896x64_0_0) (View.ld k r_S1x896_S1x896_0_0)) (k0_pay183 (F := F) n ((row0 i)))

/-- What the branch of 896 keys stores as the outputs of its tokens 32 to 47. -/
def o4_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay198 (k0_pay195 ((row0 i)) (k0_pay187 (View.ld x0 r_S1x64x16x512_S1x16x16x512_0_32_0_0)) (k0_pay188 k0_pay162 (View.ld x1 r_S1x64x16_S1x16x16_0_32_0)) (k0_pay189 (View.ld x2 r_S1x64x16x64_S1x16x16x64_0_32_0_0)) (View.ld x3 r_S1x896x512_S1x896x512_0_0_0) (View.ld r r_S896x64_S896x64_0_0) (View.ld k r_S1x896_S1x896_0_0) (View.ld u r_S896x512_S896x512_0_0)) (k0_pay196 (F := F) n ((row0 i))) (k0_pay197 ((row0 i)) (k0_pay187 (View.ld x0 r_S1x64x16x512_S1x16x16x512_0_32_0_0)) (k0_pay188 k0_pay162 (View.ld x1 r_S1x64x16_S1x16x16_0_32_0)) (k0_pay189 (View.ld x2 r_S1x64x16x64_S1x16x16x64_0_32_0_0)) (View.ld x3 r_S1x896x512_S1x896x512_0_0_0) (View.ld r r_S896x64_S896x64_0_0) (View.ld k r_S1x896_S1x896_0_0))

/-- What the branch of 896 keys stores as the log-sum-exps of its tokens 32 to 47. -/
def l4_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay199 k0_pay162 (k0_pay188 k0_pay162 (View.ld x1 r_S1x64x16_S1x16x16_0_32_0)) (k0_pay192 ((row0 i)) (k0_pay187 (View.ld x0 r_S1x64x16x512_S1x16x16x512_0_32_0_0)) (k0_pay188 k0_pay162 (View.ld x1 r_S1x64x16_S1x16x16_0_32_0)) (k0_pay189 (View.ld x2 r_S1x64x16x64_S1x16x16x64_0_32_0_0)) (View.ld x3 r_S1x896x512_S1x896x512_0_0_0) (View.ld r r_S896x64_S896x64_0_0) (View.ld k r_S1x896_S1x896_0_0)) (k0_pay194 ((row0 i)) (k0_pay187 (View.ld x0 r_S1x64x16x512_S1x16x16x512_0_32_0_0)) (k0_pay188 k0_pay162 (View.ld x1 r_S1x64x16_S1x16x16_0_32_0)) (k0_pay189 (View.ld x2 r_S1x64x16x64_S1x16x16x64_0_32_0_0)) (View.ld x3 r_S1x896x512_S1x896x512_0_0_0) (View.ld r r_S896x64_S896x64_0_0) (View.ld k r_S1x896_S1x896_0_0)) (k0_pay196 (F := F) n ((row0 i)))

/-- What the branch of 896 keys stores as the outputs of its tokens 48 to 63. -/
def o4_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay211 n (k0_pay204 ((row0 i))) (k0_pay207 ((row0 i)) (k0_pay200 (View.ld x0 r_S1x64x16x512_S1x16x16x512_0_48_0_0)) (((Scalar.ofBits .f32 0x00000000#32))) (k0_pay201 k0_pay162) (k0_pay202 (View.ld x1 r_S1x64x16_S1x16x16_0_48_0)) (View.ld x2 r_S1x64x16x64_S1x16x16x64_0_48_0_0) (View.ld x3 r_S1x896x512_S1x896x512_0_0_0) (View.ld r r_S896x64_S896x64_0_0) (View.ld k r_S1x896_S1x896_0_0)) (View.ld u r_S896x512_S896x512_0_0)

/-- What the branch of 896 keys stores as the log-sum-exps of its tokens 48 to 63. -/
def l4_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay2 (k0_pay212 n k0_pay162 (k0_pay203 (((Scalar.ofBits .f32 0x00000000#32))) (k0_pay201 k0_pay162) (k0_pay202 (View.ld x1 r_S1x64x16_S1x16x16_0_48_0))) (k0_pay204 ((row0 i))) (k0_pay206 ((row0 i)) (k0_pay200 (View.ld x0 r_S1x64x16x512_S1x16x16x512_0_48_0_0)) (((Scalar.ofBits .f32 0x00000000#32))) (k0_pay201 k0_pay162) (k0_pay202 (View.ld x1 r_S1x64x16_S1x16x16_0_48_0)) (View.ld x2 r_S1x64x16x64_S1x16x16x64_0_48_0_0) (View.ld x3 r_S1x896x512_S1x896x512_0_0_0) (View.ld r r_S896x64_S896x64_0_0) (View.ld k r_S1x896_S1x896_0_0)) (k0_pay207 ((row0 i)) (k0_pay200 (View.ld x0 r_S1x64x16x512_S1x16x16x512_0_48_0_0)) (((Scalar.ofBits .f32 0x00000000#32))) (k0_pay201 k0_pay162) (k0_pay202 (View.ld x1 r_S1x64x16_S1x16x16_0_48_0)) (View.ld x2 r_S1x64x16x64_S1x16x16x64_0_48_0_0) (View.ld x3 r_S1x896x512_S1x896x512_0_0_0) (View.ld r r_S896x64_S896x64_0_0) (View.ld k r_S1x896_S1x896_0_0)))

/-- The block of outputs the branch of 896 keys leaves. -/
def out4 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16x512 .bf16 :=
  View.canon [⟨r_S1x64x16x512_S1x16x16x512_0_48_0_0, o4_3 i n x0 x1 x2 x3 u r k⟩, ⟨r_S1x64x16x512_S1x16x16x512_0_32_0_0, o4_2 i n x0 x1 x2 x3 u r k⟩, ⟨r_S1x64x16x512_S1x16x16x512_0_16_0_0, o4_1 i n x0 x1 x2 x3 u r k⟩, ⟨r_S1x64x16x512_S1x16x16x512_0_0_0_0, o4_0 i n x0 x1 x2 x3 u r k⟩]

/-- The block of log-sum-exps the branch of 896 keys leaves. -/
def lse4 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16 .f32 :=
  View.canon [⟨r_S1x64x16_S1x16x16_0_48_0, l4_3 i n x0 x1 x2 x3 u r k⟩, ⟨r_S1x64x16_S1x16x16_0_32_0, l4_2 i n x0 x1 x2 x3 u r k⟩, ⟨r_S1x64x16_S1x16x16_0_16_0, l4_1 i n x0 x1 x2 x3 u r k⟩, ⟨r_S1x64x16_S1x16x16_0_0_0, l4_0 i n x0 x1 x2 x3 u r k⟩]

theorem cover6 (p0 p1 p2 p3 : Vec F S1x16x16x512 .bf16) (y : S1x64x16x512.Idx) :
    ∃ pc ∈ ([⟨r_S1x64x16x512_S1x16x16x512_0_48_0_0, p3⟩, ⟨r_S1x64x16x512_S1x16x16x512_0_32_0_0, p2⟩, ⟨r_S1x64x16x512_S1x16x16x512_0_16_0_0, p1⟩, ⟨r_S1x64x16x512_S1x16x16x512_0_0_0_0, p0⟩] : List (View.Piece (Elt F) S1x64x16x512 .bf16)), y ∈ pc.1.set :=
  View.cover_of_tiled [⟨r_S1x64x16x512_S1x16x16x512_0_48_0_0, p3⟩, ⟨r_S1x64x16x512_S1x16x16x512_0_32_0_0, p2⟩, ⟨r_S1x64x16x512_S1x16x16x512_0_16_0_0, p1⟩, ⟨r_S1x64x16x512_S1x16x16x512_0_0_0_0, p0⟩] S1x16x16x512.size (by rfl) y
theorem cover7 (p0 p1 p2 p3 : Vec F S1x16x16 .f32) (y : S1x64x16.Idx) :
    ∃ pc ∈ ([⟨r_S1x64x16_S1x16x16_0_48_0, p3⟩, ⟨r_S1x64x16_S1x16x16_0_32_0, p2⟩, ⟨r_S1x64x16_S1x16x16_0_16_0, p1⟩, ⟨r_S1x64x16_S1x16x16_0_0_0, p0⟩] : List (View.Piece (Elt F) S1x64x16 .f32)), y ∈ pc.1.set :=
  View.cover_of_tiled [⟨r_S1x64x16_S1x16x16_0_48_0, p3⟩, ⟨r_S1x64x16_S1x16x16_0_32_0, p2⟩, ⟨r_S1x64x16_S1x16x16_0_16_0, p1⟩, ⟨r_S1x64x16_S1x16x16_0_0_0, p0⟩] S1x16x16.size (by rfl) y
theorem cover6_pad (p : Vec F S1x64x16x512 .bf16) (y : S1x64x16x512.Idx) :
    ∃ pc ∈ ([⟨r_S1x64x16x512_S1x64x16x512_0_0_0_0, p⟩] : List (View.Piece (Elt F) S1x64x16x512 .bf16)), y ∈ pc.1.set :=
  View.cover_of_tiled [⟨r_S1x64x16x512_S1x64x16x512_0_0_0_0, p⟩] S1x64x16x512.size (by rfl) y
theorem cover7_pad (p : Vec F S1x64x16 .f32) (y : S1x64x16.Idx) :
    ∃ pc ∈ ([⟨r_S1x64x16_S1x64x16_0_0_0, p⟩] : List (View.Piece (Elt F) S1x64x16 .f32)), y ∈ pc.1.set :=
  View.cover_of_tiled [⟨r_S1x64x16_S1x64x16_0_0_0, p⟩] S1x64x16.size (by rfl) y

theorem cover11 (p : Vec F S896x512 .bf16) (y : S896x512.Idx) :
    ∃ pc ∈ ([⟨r_S896x512_S896x512_0_0, p⟩] : List (View.Piece (Elt F) S896x512 .bf16)), y ∈ pc.1.set :=
  View.cover_of_tiled [⟨r_S896x512_S896x512_0_0, p⟩] S896x512.size (by rfl) y
theorem cover12 (p : Vec F S896x64 .bf16) (y : S896x64.Idx) :
    ∃ pc ∈ ([⟨r_S896x64_S896x64_0_0, p⟩] : List (View.Piece (Elt F) S896x64 .bf16)), y ∈ pc.1.set :=
  View.cover_of_tiled [⟨r_S896x64_S896x64_0_0, p⟩] S896x64.size (by rfl) y
theorem cover13 (p : Vec F S1x896 .f32) (y : S1x896.Idx) :
    ∃ pc ∈ ([⟨r_S1x896_S1x896_0_0, p⟩] : List (View.Piece (Elt F) S1x896 .f32)), y ∈ pc.1.set :=
  View.cover_of_tiled [⟨r_S1x896_S1x896_0_0, p⟩] S1x896.size (by rfl) y

/-- What the first column of a sequence leaves in the scratch buffers. -/
def scr0 (s : Vec F S1x896 .f32) (x3 : Vec F S1x896x512 .fp8e4m3) : Vec F S896x512 .bf16 := View.canon [⟨r_S896x512_S896x512_0_0, setValues s x3⟩]
def scr1 (s : Vec F S1x896 .f32) (x5 : Vec F S1x896x64 .bf16) : Vec F S896x64 .bf16 := View.canon [⟨r_S896x64_S896x64_0_0, setRopes s x5⟩]
def scr2 (s : Vec F S1x896 .f32) : Vec F S1x896 .f32 := View.canon [⟨r_S1x896_S1x896_0_0, setScale s⟩]

/-- An assertion under a name, kept from being read. -/
def hid (P : sProp 𝕄) : sProp 𝕄 := P

/-- What a branch without tokens leaves. -/
def outPad : Vec F S1x64x16x512 .bf16 := View.canon [⟨r_S1x64x16x512_S1x64x16x512_0_0_0_0, k0_pay3⟩]
def lsePad : Vec F S1x64x16 .f32 := View.canon [⟨r_S1x64x16_S1x64x16_0_0_0, k0_pay4⟩]

end Cert.Kernel.Run

end
-- ==== Proof.Kernel.Run1.lean ====
/- The kernel's body past the first column of a sequence, in the branch of 256 keys. -/
module

public import proofs.«01_k».proof.Proof.Kernel.Tiles

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body past the first column of a sequence, in the branch of 256 keys: on whole buffers that hold the blocks `x0` to `x5` and scratch contents `u`, `r`, `k`, it runs to the
    continuation holding the inputs as they were, the scratch as it was, and the two outputs at the stated blocks. -/
theorem run_1 (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hc1 : ¬k0_cond1 i = 1#1) (hc2 : k0_cond2 i (lenW i xt) = 1#1) (hc3 : ¬k0_cond3 i (lenW i xt) = 1#1) (hc4 : ¬k0_cond4 i (lenW i xt) = 1#1) (hc5 : ¬k0_cond5 i (lenW i xt) = 1#1) (hc6 : ¬k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ owns (c : Thread nD τ) arg11 fullShare u ∗ owns (c : Thread nD τ) arg12 fullShare r ∗ owns (c : Thread nD τ) arg13 fullShare k
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare (out1 i (lenW i xt) x0 x1 x2 x3 u r k) ∗ owns (c : Thread nD τ) arg10 fullShare (lse1 i (lenW i xt) x0 x1 x2 x3 u r k) ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%f11, %hf11, H11⟩, ⟨%f12, %hf12, H12⟩, ⟨%f13, %hf13, H13⟩, Hk⟩
  subst hf3; subst hf4; subst hf5; subst hf6; subst hf7; subst hf8; subst hf11; subst hf12; subst hf13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6 _ _ _ _)
  isplitl [H10]
  · iexists _; isplitr; swap; · iexact H10
    ipureintro; exact View.read_writes_eq_canon _ _ _ (cover7 _ _ _ _)
  isplitl [H11]
  · iexists _; isplitr; · ipureintro; rfl
    iexact H11
  isplitl [H12]
  · iexists _; isplitr; · ipureintro; rfl
    iexact H12
  iexists _; isplitr; · ipureintro; rfl
  iexact H13

end Cert.Kernel.Run

end
-- ==== Proof.Kernel.Run2.lean ====
/- The kernel's body past the first column of a sequence, in the branch of 512 keys. -/
module

public import proofs.«01_k».proof.Proof.Kernel.Run1

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body past the first column of a sequence, in the branch of 512 keys: on whole buffers that hold the blocks `x0` to `x5` and scratch contents `u`, `r`, `k`, it runs to the
    continuation holding the inputs as they were, the scratch as it was, and the two outputs at the stated blocks. -/
theorem run_2 (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hc1 : ¬k0_cond1 i = 1#1) (hc2 : ¬k0_cond2 i (lenW i xt) = 1#1) (hc3 : k0_cond3 i (lenW i xt) = 1#1) (hc4 : ¬k0_cond4 i (lenW i xt) = 1#1) (hc5 : ¬k0_cond5 i (lenW i xt) = 1#1) (hc6 : ¬k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ owns (c : Thread nD τ) arg11 fullShare u ∗ owns (c : Thread nD τ) arg12 fullShare r ∗ owns (c : Thread nD τ) arg13 fullShare k
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare (out2 i (lenW i xt) x0 x1 x2 x3 u r k) ∗ owns (c : Thread nD τ) arg10 fullShare (lse2 i (lenW i xt) x0 x1 x2 x3 u r k) ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%f11, %hf11, H11⟩, ⟨%f12, %hf12, H12⟩, ⟨%f13, %hf13, H13⟩, Hk⟩
  subst hf3; subst hf4; subst hf5; subst hf6; subst hf7; subst hf8; subst hf11; subst hf12; subst hf13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6 _ _ _ _)
  isplitl [H10]
  · iexists _; isplitr; swap; · iexact H10
    ipureintro; exact View.read_writes_eq_canon _ _ _ (cover7 _ _ _ _)
  isplitl [H11]
  · iexists _; isplitr; · ipureintro; rfl
    iexact H11
  isplitl [H12]
  · iexists _; isplitr; · ipureintro; rfl
    iexact H12
  iexists _; isplitr; · ipureintro; rfl
  iexact H13

end Cert.Kernel.Run

end
-- ==== Proof.Kernel.Run3.lean ====
/- The kernel's body past the first column of a sequence, in the branch of 768 keys. -/
module

public import proofs.«01_k».proof.Proof.Kernel.Run2

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body past the first column of a sequence, in the branch of 768 keys: on whole buffers that hold the blocks `x0` to `x5` and scratch contents `u`, `r`, `k`, it runs to the
    continuation holding the inputs as they were, the scratch as it was, and the two outputs at the stated blocks. -/
theorem run_3 (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hc1 : ¬k0_cond1 i = 1#1) (hc2 : ¬k0_cond2 i (lenW i xt) = 1#1) (hc3 : ¬k0_cond3 i (lenW i xt) = 1#1) (hc4 : k0_cond4 i (lenW i xt) = 1#1) (hc5 : ¬k0_cond5 i (lenW i xt) = 1#1) (hc6 : ¬k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ owns (c : Thread nD τ) arg11 fullShare u ∗ owns (c : Thread nD τ) arg12 fullShare r ∗ owns (c : Thread nD τ) arg13 fullShare k
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare (out3 i (lenW i xt) x0 x1 x2 x3 u r k) ∗ owns (c : Thread nD τ) arg10 fullShare (lse3 i (lenW i xt) x0 x1 x2 x3 u r k) ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%f11, %hf11, H11⟩, ⟨%f12, %hf12, H12⟩, ⟨%f13, %hf13, H13⟩, Hk⟩
  subst hf3; subst hf4; subst hf5; subst hf6; subst hf7; subst hf8; subst hf11; subst hf12; subst hf13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6 _ _ _ _)
  isplitl [H10]
  · iexists _; isplitr; swap; · iexact H10
    ipureintro; exact View.read_writes_eq_canon _ _ _ (cover7 _ _ _ _)
  isplitl [H11]
  · iexists _; isplitr; · ipureintro; rfl
    iexact H11
  isplitl [H12]
  · iexists _; isplitr; · ipureintro; rfl
    iexact H12
  iexists _; isplitr; · ipureintro; rfl
  iexact H13

end Cert.Kernel.Run

end
-- ==== Proof.Kernel.Run4.lean ====
/- The kernel's body past the first column of a sequence, in the branch of 896 keys. -/
module

public import proofs.«01_k».proof.Proof.Kernel.Run3

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body past the first column of a sequence, in the branch of 896 keys: on whole buffers that hold the blocks `x0` to `x5` and scratch contents `u`, `r`, `k`, it runs to the
    continuation holding the inputs as they were, the scratch as it was, and the two outputs at the stated blocks. -/
theorem run_4 (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hc1 : ¬k0_cond1 i = 1#1) (hc2 : ¬k0_cond2 i (lenW i xt) = 1#1) (hc3 : ¬k0_cond3 i (lenW i xt) = 1#1) (hc4 : ¬k0_cond4 i (lenW i xt) = 1#1) (hc5 : k0_cond5 i (lenW i xt) = 1#1) (hc6 : ¬k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ owns (c : Thread nD τ) arg11 fullShare u ∗ owns (c : Thread nD τ) arg12 fullShare r ∗ owns (c : Thread nD τ) arg13 fullShare k
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare (out4 i (lenW i xt) x0 x1 x2 x3 u r k) ∗ owns (c : Thread nD τ) arg10 fullShare (lse4 i (lenW i xt) x0 x1 x2 x3 u r k) ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%f11, %hf11, H11⟩, ⟨%f12, %hf12, H12⟩, ⟨%f13, %hf13, H13⟩, Hk⟩
  subst hf3; subst hf4; subst hf5; subst hf6; subst hf7; subst hf8; subst hf11; subst hf12; subst hf13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6 _ _ _ _)
  isplitl [H10]
  · iexists _; isplitr; swap; · iexact H10
    ipureintro; exact View.read_writes_eq_canon _ _ _ (cover7 _ _ _ _)
  isplitl [H11]
  · iexists _; isplitr; · ipureintro; rfl
    iexact H11
  isplitl [H12]
  · iexists _; isplitr; · ipureintro; rfl
    iexact H12
  iexists _; isplitr; · ipureintro; rfl
  iexact H13

end Cert.Kernel.Run

end
-- ==== Proof.Kernel.RunPad.lean ====
/- The kernel's body past the first column of a sequence, in the branch without tokens. -/
module

public import proofs.«01_k».proof.Proof.Kernel.Run4

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body past the first column of a sequence, in the branch without tokens: on whole buffers that hold the blocks `x0` to `x5` and scratch contents `u`, `r`, `k`, it runs to the
    continuation holding the inputs as they were, the scratch as it was, and the two outputs at the stated blocks. -/
theorem run_Pad (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hc1 : ¬k0_cond1 i = 1#1) (hc2 : ¬k0_cond2 i (lenW i xt) = 1#1) (hc3 : ¬k0_cond3 i (lenW i xt) = 1#1) (hc4 : ¬k0_cond4 i (lenW i xt) = 1#1) (hc5 : ¬k0_cond5 i (lenW i xt) = 1#1) (hc6 : k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ owns (c : Thread nD τ) arg11 fullShare u ∗ owns (c : Thread nD τ) arg12 fullShare r ∗ owns (c : Thread nD τ) arg13 fullShare k
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare outPad ∗ owns (c : Thread nD τ) arg10 fullShare lsePad ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%f11, %hf11, H11⟩, ⟨%f12, %hf12, H12⟩, ⟨%f13, %hf13, H13⟩, Hk⟩
  subst hf3; subst hf4; subst hf5; subst hf6; subst hf7; subst hf8; subst hf11; subst hf12; subst hf13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6_pad _)
  isplitl [H10]
  · iexists _; isplitr; swap; · iexact H10
    ipureintro; exact View.read_writes_eq_canon _ _ _ (cover7_pad _)
  isplitl [H11]
  · iexists _; isplitr; · ipureintro; rfl
    iexact H11
  isplitl [H12]
  · iexists _; isplitr; · ipureintro; rfl
    iexact H12
  iexists _; isplitr; · ipureintro; rfl
  iexact H13

end Cert.Kernel.Run

end
-- ==== Proof.Kernel.RunS1.lean ====
/- The kernel's body in the first column of a sequence, in the branch of 256 keys. -/
module

public import proofs.«01_k».proof.Proof.Kernel.RunPad

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the first column of a sequence, in the branch of 256 keys: on whole buffers that hold the blocks `x0` to `x5`, it runs to the
    continuation holding the inputs as they were, the scratch buffers set, and the two outputs at the stated blocks. -/
theorem run_S1 (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hu : scr0 (csRow (i 0).val (batch_lt i) x4) x3 = u) (hr : scr1 (csRow (i 0).val (batch_lt i) x4) x5 = r) (hk : scr2 (csRow (i 0).val (batch_lt i) x4) = k)
    (hc1 : k0_cond1 i = 1#1) (hc : k0_cond2 i (lenW i xt) = 1#1 ∧ ¬k0_cond3 i (lenW i xt) = 1#1 ∧ ¬k0_cond4 i (lenW i xt) = 1#1 ∧ ¬k0_cond5 i (lenW i xt) = 1#1 ∧ ¬k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare (out1 i (lenW i xt) x0 x1 x2 x3 u r k) ∗ owns (c : Thread nD τ) arg10 fullShare (lse1 i (lenW i xt) x0 x1 x2 x3 u r k) ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  rw [show (owns (c : Thread nD τ) arg3 fullShare x0 : sProp 𝕄) = hid (owns (c : Thread nD τ) arg3 fullShare x0) from rfl]
  unfold owns
  iintro ⟨H3, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%d11, %f11, -, H11⟩, ⟨%d12, %f12, -, H12⟩, ⟨%d13, %f13, -, H13⟩, Hk⟩
  subst hf4; subst hf5; subst hf6; subst hf7; subst hf8
  sl_exec (disch := first | sl_exact hc1)
  ihave H11' : owns (c : Thread nD τ) arg11 fullShare u $$ [H11]
  · unfold owns; iexists _; isplitr; swap; · iexact H11
    ipureintro; rw [← hu]; exact View.read_writes_eq_canon _ _ _ (cover11 _)
  ihave H12' : owns (c : Thread nD τ) arg12 fullShare r $$ [H12]
  · unfold owns; iexists _; isplitr; swap; · iexact H12
    ipureintro; rw [← hr]; exact View.read_writes_eq_canon _ _ _ (cover12 _)
  ihave H13' : owns (c : Thread nD τ) arg13 fullShare k $$ [H13]
  · unfold owns; iexists _; isplitr; swap; · iexact H13
    ipureintro; rw [← hk]; exact View.read_writes_eq_canon _ _ _ (cover13 _)
  unfold hid owns
  icases H3 with ⟨%f3, %hf3, H3⟩
  icases H11' with ⟨%g11, %hg11, H11⟩
  icases H12' with ⟨%g12, %hg12, H12⟩
  icases H13' with ⟨%g13, %hg13, H13⟩
  clear hu hr hk
  obtain ⟨hc2, hc3, hc4, hc5, hc6⟩ := hc
  subst hf3; subst hg11; subst hg12; subst hg13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6 _ _ _ _)
  isplitl [H10]
  · iexists _; isplitr; swap; · iexact H10
    ipureintro; exact View.read_writes_eq_canon _ _ _ (cover7 _ _ _ _)
  isplitl [H11]
  · iexists _; isplitr; · ipureintro; rfl
    iexact H11
  isplitl [H12]
  · iexists _; isplitr; · ipureintro; rfl
    iexact H12
  iexists _; isplitr; · ipureintro; rfl
  iexact H13

end Cert.Kernel.Run

end
-- ==== Proof.Kernel.RunSPad.lean ====
/- The kernel's body in the first column of a sequence, in the branch without tokens. -/
module

public import proofs.«01_k».proof.Proof.Kernel.RunS1

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the first column of a sequence, in the branch without tokens: on whole buffers that hold the blocks `x0` to `x5`, it runs to the
    continuation holding the inputs as they were, the scratch buffers set, and the two outputs at the stated blocks. -/
theorem run_SPad (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hu : scr0 (csRow (i 0).val (batch_lt i) x4) x3 = u) (hr : scr1 (csRow (i 0).val (batch_lt i) x4) x5 = r) (hk : scr2 (csRow (i 0).val (batch_lt i) x4) = k)
    (hc1 : k0_cond1 i = 1#1) (hc : ¬k0_cond2 i (lenW i xt) = 1#1 ∧ ¬k0_cond3 i (lenW i xt) = 1#1 ∧ ¬k0_cond4 i (lenW i xt) = 1#1 ∧ ¬k0_cond5 i (lenW i xt) = 1#1 ∧ k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare outPad ∗ owns (c : Thread nD τ) arg10 fullShare lsePad ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton, k0_part1_eq_skeleton]
  rw [show (owns (c : Thread nD τ) arg3 fullShare x0 : sProp 𝕄) = hid (owns (c : Thread nD τ) arg3 fullShare x0) from rfl]
  unfold owns
  iintro ⟨H3, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%d11, %f11, -, H11⟩, ⟨%d12, %f12, -, H12⟩, ⟨%d13, %f13, -, H13⟩, Hk⟩
  subst hf4; subst hf5; subst hf6; subst hf7; subst hf8
  sl_exec (disch := first | sl_exact hc1)
  ihave H11' : owns (c : Thread nD τ) arg11 fullShare u $$ [H11]
  · unfold owns; iexists _; isplitr; swap; · iexact H11
    ipureintro; rw [← hu]; exact View.read_writes_eq_canon _ _ _ (cover11 _)
  ihave H12' : owns (c : Thread nD τ) arg12 fullShare r $$ [H12]
  · unfold owns; iexists _; isplitr; swap; · iexact H12
    ipureintro; rw [← hr]; exact View.read_writes_eq_canon _ _ _ (cover12 _)
  ihave H13' : owns (c : Thread nD τ) arg13 fullShare k $$ [H13]
  · unfold owns; iexists _; isplitr; swap; · iexact H13
    ipureintro; rw [← hk]; exact View.read_writes_eq_canon _ _ _ (cover13 _)
  unfold hid owns
  icases H3 with ⟨%f3, %hf3, H3⟩
  icases H11' with ⟨%g11, %hg11, H11⟩
  icases H12' with ⟨%g12, %hg12, H12⟩
  icases H13' with ⟨%g13, %hg13, H13⟩
  clear hu hr hk
  obtain ⟨hc2, hc3, hc4, hc5, hc6⟩ := hc
  subst hf3; subst hg11; subst hg12; subst hg13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6_pad _)
  isplitl [H10]
  · iexists _; isplitr; swap; · iexact H10
    ipureintro; exact View.read_writes_eq_canon _ _ _ (cover7_pad _)
  isplitl [H11]
  · iexists _; isplitr; · ipureintro; rfl
    iexact H11
  isplitl [H12]
  · iexists _; isplitr; · ipureintro; rfl
    iexact H12
  iexists _; isplitr; · ipureintro; rfl
  iexact H13

end Cert.Kernel.Run

end
-- ==== Proof.Kernel.Blocks.lean ====
/- The contents the kernel's run goes through: the scratch buffers between two grid points, and the blocks of outputs a point
   leaves, as functions of the launched arrays. -/
module

public import proofs.«01_k».proof.Proof.Kernel.RunSPad

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Grid points -/

theorem coords_0 : ∀ t : Fin grid0.N, (grid0.coords t 0).val = t.val / 14 := by decide +kernel
theorem coords_1 : ∀ t : Fin grid0.N, (grid0.coords t 1).val = t.val % 14 := by decide +kernel

/-- The length of the sequence of point `t`. -/
abbrev lenP (t : Fin (cfgM m).N) : BitVec 32 := lenW (grid0.coords t) (tbl m 0)

/-! ## The inputs' blocks, at their shapes -/

def B0 (c : Dev nD) (t : Fin (cfgM m).N) : Vec F S1x64x16x512 .fp8e4m3 := iblk m c 0 t
def B1 (c : Dev nD) (t : Fin (cfgM m).N) : Vec F S1x64x16 .f32 := iblk m c 1 t
def B2 (c : Dev nD) (t : Fin (cfgM m).N) : Vec F S1x64x16x64 .bf16 := iblk m c 2 t
def B3 (c : Dev nD) (t : Fin (cfgM m).N) : Vec F S1x896x512 .fp8e4m3 := iblk m c 3 t
def B4 (c : Dev nD) (t : Fin (cfgM m).N) : Vec F S2x896 .f32 := iblk m c 4 t
def B5 (c : Dev nD) (t : Fin (cfgM m).N) : Vec F S1x896x64 .bf16 := iblk m c 5 t

/-! ## The scratch between two points -/

/-- The scaled values, the unscaled ropes and the scales of the sequence of point `t`. -/
def scrU (c : Dev nD) (t : Fin (cfgM m).N) : Vec F S896x512 .bf16 :=
  scr0 (csRow (grid0.coords t 0).val (batch_lt _) (B4 m c t)) (B3 m c t)
def scrR (c : Dev nD) (t : Fin (cfgM m).N) : Vec F S896x64 .bf16 :=
  scr1 (csRow (grid0.coords t 0).val (batch_lt _) (B4 m c t)) (B5 m c t)
def scrK (c : Dev nD) (t : Fin (cfgM m).N) : Vec F S1x896 .f32 :=
  scr2 (csRow (grid0.coords t 0).val (batch_lt _) (B4 m c t))

/-- An index of an array of three axes. -/
def at3 {s : Shape} (hr : s.rank = 3) (f : Fin 3 → Nat) (h : ∀ a : Fin s.rank, f (a.cast hr) < s.size a) : s.Idx := fun a => ⟨f (a.cast hr), h a⟩

theorem iblk3_congr (c : Dev nD) (t t' : Fin (cfgM m).N) (h : t.val / 14 = t'.val / 14) : B3 m c t = B3 m c t' := by
  have hi : cc0_transform_3 (grid0.coords t) = cc0_transform_3 (grid0.coords t') :=
    hreads0_3 _ _ fun a ha => by
      match a with
      | 0 => exact Fin.ext ((coords_0 t).trans (h.trans (coords_0 t').symm))
      | 1 => exact absurd ha (by decide)
  funext y
  refine congrArg (V m c main_arg3) (funext fun a => Fin.ext ?_)
  exact congrArg (fun f => f a * S1x896x512.size a + 1 * (y a).val) hi
theorem iblk5_congr (c : Dev nD) (t t' : Fin (cfgM m).N) (h : t.val / 14 = t'.val / 14) : B5 m c t = B5 m c t' := by
  have hi : cc0_transform_5 (grid0.coords t) = cc0_transform_5 (grid0.coords t') :=
    hreads0_5 _ _ fun a ha => by
      match a with
      | 0 => exact Fin.ext ((coords_0 t).trans (h.trans (coords_0 t').symm))
      | 1 => exact absurd ha (by decide)
  funext y
  refine congrArg (V m c main_arg5) (funext fun a => Fin.ext ?_)
  exact congrArg (fun f => f a * S1x896x64.size a + 1 * (y a).val) hi
theorem iblk4_congr (c : Dev nD) (t t' : Fin (cfgM m).N) : B4 m c t = B4 m c t' := by
  funext y
  rfl
theorem csRow_congr {b b' : Nat} (h : b = b') (hb : b < 2) (hb' : b' < 2) (x : Vec F S2x896 .f32) : csRow b hb x = csRow b' hb' x := by subst h; rfl

theorem scrU_congr (c : Dev nD) (t t' : Fin (cfgM m).N) (h : t.val / 14 = t'.val / 14) : scrU m c t = scrU m c t' := by
  unfold scrU
  rw [iblk3_congr m c t t' h, iblk4_congr m c t t', csRow_congr ((coords_0 t).trans (h.trans (coords_0 t').symm))]
theorem scrR_congr (c : Dev nD) (t t' : Fin (cfgM m).N) (h : t.val / 14 = t'.val / 14) : scrR m c t = scrR m c t' := by
  unfold scrR
  rw [iblk5_congr m c t t' h, iblk4_congr m c t t', csRow_congr ((coords_0 t).trans (h.trans (coords_0 t').symm))]
theorem scrK_congr (c : Dev nD) (t t' : Fin (cfgM m).N) (h : t.val / 14 = t'.val / 14) : scrK m c t = scrK m c t' := by
  unfold scrK
  rw [iblk4_congr m c t t', csRow_congr ((coords_0 t).trans (h.trans (coords_0 t').symm))]

/-- Before the first point the scratch holds anything; after a point, what its sequence's first point set. -/
def PhiS (c : Dev nD) : ℕ → sProp 𝕄
  | 0 => iprop((∃ d, owns (c : Thread nD τ) scM0 fullShare d) ∗ (∃ d, owns (c : Thread nD τ) scM1 fullShare d) ∗ (∃ d, owns (c : Thread nD τ) scM2 fullShare d))
  | n + 1 => if h : n < (cfgM m).N then iprop(owns (c : Thread nD τ) scM0 fullShare (scrU m c ⟨n, h⟩) ∗ owns (c : Thread nD τ) scM1 fullShare (scrR m c ⟨n, h⟩) ∗ owns (c : Thread nD τ) scM2 fullShare (scrK m c ⟨n, h⟩)) else BI.emp

theorem PhiS_succ (c : Dev nD) (t : Fin (cfgM m).N) :
    PhiS m c (t.val + 1) = iprop(owns (c : Thread nD τ) scM0 fullShare (scrU m c t) ∗ owns (c : Thread nD τ) scM1 fullShare (scrR m c t) ∗ owns (c : Thread nD τ) scM2 fullShare (scrK m c t)) := by
  exact (dif_pos t.isLt :)

theorem PhiS_any (c : Dev nD) (n : ℕ) (h : n ≤ (cfgM m).N) :
    PhiS m c n ⊢ iprop((∃ d, owns (c : Thread nD τ) scM0 fullShare d) ∗ (∃ d, owns (c : Thread nD τ) scM1 fullShare d) ∗ (∃ d, owns (c : Thread nD τ) scM2 fullShare d)) := by
  cases n with
  | zero => exact .rfl
  | succ n =>
    rw [PhiS_succ m c ⟨n, h⟩]
    iintro ⟨H0, H1, H2⟩
    isplitl [H0]; · iexists _; iexact H0
    isplitl [H1]; · iexists _; iexact H1
    iexists _; iexact H2

theorem PhiS_same (c : Dev nD) (t : Fin (cfgM m).N) (h : t.val % 14 ≠ 0) :
    PhiS m c t.val = iprop(owns (c : Thread nD τ) scM0 fullShare (scrU m c t) ∗ owns (c : Thread nD τ) scM1 fullShare (scrR m c t) ∗ owns (c : Thread nD τ) scM2 fullShare (scrK m c t)) := by
  obtain ⟨n, hn⟩ := t
  cases n with
  | zero => exact absurd rfl h
  | succ n =>
    have hn' : n < (cfgM m).N := Nat.lt_of_succ_lt hn
    have e : n / 14 = (n + 1) / 14 := by simp at h; omega
    rw [show (⟨n + 1, hn⟩ : Fin (cfgM m).N).val = (⟨n, hn'⟩ : Fin (cfgM m).N).val + 1 from rfl, PhiS_succ,
      scrU_congr m c ⟨n, hn'⟩ ⟨n + 1, hn⟩ e, scrR_congr m c ⟨n, hn'⟩ ⟨n + 1, hn⟩ e, scrK_congr m c ⟨n, hn'⟩ ⟨n + 1, hn⟩ e]

/-! ## The blocks a point leaves -/

/-- The block of outputs. -/
def outP (c : Dev nD) (t : Fin (cfgM m).N) : Vec F S1x64x16x512 .bf16 :=
  if k0_cond2 (grid0.coords t) (lenP m t) = 1#1 then out1 (grid0.coords t) (lenP m t) (B0 m c t) (B1 m c t) (B2 m c t) (B3 m c t) (scrU m c t) (scrR m c t) (scrK m c t)
  else if k0_cond3 (grid0.coords t) (lenP m t) = 1#1 then out2 (grid0.coords t) (lenP m t) (B0 m c t) (B1 m c t) (B2 m c t) (B3 m c t) (scrU m c t) (scrR m c t) (scrK m c t)
  else if k0_cond4 (grid0.coords t) (lenP m t) = 1#1 then out3 (grid0.coords t) (lenP m t) (B0 m c t) (B1 m c t) (B2 m c t) (B3 m c t) (scrU m c t) (scrR m c t) (scrK m c t)
  else if k0_cond5 (grid0.coords t) (lenP m t) = 1#1 then out4 (grid0.coords t) (lenP m t) (B0 m c t) (B1 m c t) (B2 m c t) (B3 m c t) (scrU m c t) (scrR m c t) (scrK m c t)
  else outPad
/-- The block of log-sum-exps. -/
def lseP (c : Dev nD) (t : Fin (cfgM m).N) : Vec F S1x64x16 .f32 :=
  if k0_cond2 (grid0.coords t) (lenP m t) = 1#1 then lse1 (grid0.coords t) (lenP m t) (B0 m c t) (B1 m c t) (B2 m c t) (B3 m c t) (scrU m c t) (scrR m c t) (scrK m c t)
  else if k0_cond3 (grid0.coords t) (lenP m t) = 1#1 then lse2 (grid0.coords t) (lenP m t) (B0 m c t) (B1 m c t) (B2 m c t) (B3 m c t) (scrU m c t) (scrR m c t) (scrK m c t)
  else if k0_cond4 (grid0.coords t) (lenP m t) = 1#1 then lse3 (grid0.coords t) (lenP m t) (B0 m c t) (B1 m c t) (B2 m c t) (B3 m c t) (scrU m c t) (scrR m c t) (scrK m c t)
  else if k0_cond5 (grid0.coords t) (lenP m t) = 1#1 then lse4 (grid0.coords t) (lenP m t) (B0 m c t) (B1 m c t) (B2 m c t) (B3 m c t) (scrU m c t) (scrR m c t) (scrK m c t)
  else lsePad

end Cert.Kernel.Run

end
-- ==== Proof.Kernel.Frame.lean ====
/- The kernel's frame: the body at every grid point between the scratch contents of Blocks.lean, the pipeline's launch over it,
   and the program's run: it terminates with its arguments unchanged, its semaphores at zero, and its results at what the
   points wrote back. -/
module

public import proofs.«01_k».proof.Proof.Kernel.Blocks
public import Idealize.ShloMosaic.Lib.Claim
public import Idealize.ShloMosaic.Lib.Pipeline.Frame

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at a point in the first column: whatever the scratch holds before. -/
theorem run_first (c : Dev nD) (t : Fin (cfgM m).N) (h1 : k0_cond1 (grid0.coords t) = 1#1) (E : Set ℕ) (K : PUnit → sProp 𝕄) :
    iprop(owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ tbPt c tbM (tbl m 0) ∗ (∃ d, owns (c : Thread nD τ) (ms6 m t) fullShare d) ∗ (∃ d, owns (c : Thread nD τ) (ms7 m t) fullShare d) ∗ (∃ d, owns (c : Thread nD τ) scM0 fullShare d) ∗ (∃ d, owns (c : Thread nD τ) scM1 fullShare d) ∗ (∃ d, owns (c : Thread nD τ) scM2 fullShare d)
        ∗ (iprop(owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ tbPt c tbM (tbl m 0) ∗ owns (c : Thread nD τ) (ms6 m t) fullShare (outP m c t) ∗ owns (c : Thread nD τ) (ms7 m t) fullShare (lseP m c t) ∗ PhiS m c (t.val + 1)) -∗ K ⟨⟩))
      ⊢ wp frame (wpE (defs₀ (F := F)) Variants.none c none) E (bodyAt m t) K := by
  have hj := (cond1_iff _).1 h1
  rw [PhiS_succ]
  rcases lt_or_ge (64 * (grid0.coords t 1).val : Int) (lenP m t).toInt with hn | hn
  · have hk : (grid0.coords t 1).val / 4 + 1 = 1 := by omega
    have h2 : k0_cond2 (grid0.coords t) (lenP m t) = 1#1 := (cond2_iff _ _).2 ⟨hn, by omega⟩
    have h3 : ¬k0_cond3 (grid0.coords t) (lenP m t) = 1#1 := fun h => by have := (cond3_iff _ _).1 h; omega
    have h4 : ¬k0_cond4 (grid0.coords t) (lenP m t) = 1#1 := fun h => by have := (cond4_iff _ _).1 h; omega
    have h5 : ¬k0_cond5 (grid0.coords t) (lenP m t) = 1#1 := fun h => by have := (cond5_iff _ _).1 h; omega
    have h6 : ¬k0_cond6 (grid0.coords t) (lenP m t) = 1#1 := fun h => by have := (cond6_iff _ _).1 h; omega
    rw [show outP m c t = out1 (grid0.coords t) (lenP m t) (B0 m c t) (B1 m c t) (B2 m c t) (B3 m c t) (scrU m c t) (scrR m c t) (scrK m c t) from by unfold outP; rw [if_pos h2], show lseP m c t = lse1 (grid0.coords t) (lenP m t) (B0 m c t) (B1 m c t) (B2 m c t) (B3 m c t) (scrU m c t) (scrR m c t) (scrK m c t) from by unfold lseP; rw [if_pos h2]]
    exact run_S1 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ rfl rfl rfl h1 ⟨h2, h3, h4, h5, h6⟩ E K
  · skip
    have h2 : ¬k0_cond2 (grid0.coords t) (lenP m t) = 1#1 := fun h => by have := (cond2_iff _ _).1 h; omega
    have h3 : ¬k0_cond3 (grid0.coords t) (lenP m t) = 1#1 := fun h => by have := (cond3_iff _ _).1 h; omega
    have h4 : ¬k0_cond4 (grid0.coords t) (lenP m t) = 1#1 := fun h => by have := (cond4_iff _ _).1 h; omega
    have h5 : ¬k0_cond5 (grid0.coords t) (lenP m t) = 1#1 := fun h => by have := (cond5_iff _ _).1 h; omega
    have h6 : k0_cond6 (grid0.coords t) (lenP m t) = 1#1 := (cond6_iff _ _).2 hn
    rw [show outP m c t = outPad from by unfold outP; rw [if_neg h2, if_neg h3, if_neg h4, if_neg h5], show lseP m c t = lsePad from by unfold lseP; rw [if_neg h2, if_neg h3, if_neg h4, if_neg h5]]
    exact run_SPad c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ rfl rfl rfl h1 ⟨h2, h3, h4, h5, h6⟩ E K

/-- The body at any other point: the scratch holds what the first column of its sequence set. -/
theorem run_rest (c : Dev nD) (t : Fin (cfgM m).N) (h1 : ¬k0_cond1 (grid0.coords t) = 1#1) (E : Set ℕ) (K : PUnit → sProp 𝕄) :
    iprop(owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ tbPt c tbM (tbl m 0) ∗ (∃ d, owns (c : Thread nD τ) (ms6 m t) fullShare d) ∗ (∃ d, owns (c : Thread nD τ) (ms7 m t) fullShare d) ∗ owns (c : Thread nD τ) scM0 fullShare (scrU m c t) ∗ owns (c : Thread nD τ) scM1 fullShare (scrR m c t) ∗ owns (c : Thread nD τ) scM2 fullShare (scrK m c t)
        ∗ (iprop(owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ tbPt c tbM (tbl m 0) ∗ owns (c : Thread nD τ) (ms6 m t) fullShare (outP m c t) ∗ owns (c : Thread nD τ) (ms7 m t) fullShare (lseP m c t) ∗ PhiS m c (t.val + 1)) -∗ K ⟨⟩))
      ⊢ wp frame (wpE (defs₀ (F := F)) Variants.none c none) E (bodyAt m t) K := by
  have hj := col_lt (grid0.coords t)
  rw [PhiS_succ]
  rcases lt_or_ge (64 * (grid0.coords t 1).val : Int) (lenP m t).toInt with hn | hn
  · have h4 : (grid0.coords t 1).val / 4 + 1 = 1 ∨ (grid0.coords t 1).val / 4 + 1 = 2 ∨ (grid0.coords t 1).val / 4 + 1 = 3 ∨ (grid0.coords t 1).val / 4 + 1 = 4 := by omega
    rcases h4 with hk | hk | hk | hk
    · skip
      have h2 : k0_cond2 (grid0.coords t) (lenP m t) = 1#1 := (cond2_iff _ _).2 ⟨hn, by omega⟩
      have h3 : ¬k0_cond3 (grid0.coords t) (lenP m t) = 1#1 := fun h => by have := (cond3_iff _ _).1 h; omega
      have h4 : ¬k0_cond4 (grid0.coords t) (lenP m t) = 1#1 := fun h => by have := (cond4_iff _ _).1 h; omega
      have h5 : ¬k0_cond5 (grid0.coords t) (lenP m t) = 1#1 := fun h => by have := (cond5_iff _ _).1 h; omega
      have h6 : ¬k0_cond6 (grid0.coords t) (lenP m t) = 1#1 := fun h => by have := (cond6_iff _ _).1 h; omega
      rw [show outP m c t = out1 (grid0.coords t) (lenP m t) (B0 m c t) (B1 m c t) (B2 m c t) (B3 m c t) (scrU m c t) (scrR m c t) (scrK m c t) from by unfold outP; rw [if_pos h2], show lseP m c t = lse1 (grid0.coords t) (lenP m t) (B0 m c t) (B1 m c t) (B2 m c t) (B3 m c t) (scrU m c t) (scrR m c t) (scrK m c t) from by unfold lseP; rw [if_pos h2]]
      exact run_1 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ h1 h2 h3 h4 h5 h6 E K
    · skip
      have h2 : ¬k0_cond2 (grid0.coords t) (lenP m t) = 1#1 := fun h => by have := (cond2_iff _ _).1 h; omega
      have h3 : k0_cond3 (grid0.coords t) (lenP m t) = 1#1 := (cond3_iff _ _).2 ⟨hn, by omega⟩
      have h4 : ¬k0_cond4 (grid0.coords t) (lenP m t) = 1#1 := fun h => by have := (cond4_iff _ _).1 h; omega
      have h5 : ¬k0_cond5 (grid0.coords t) (lenP m t) = 1#1 := fun h => by have := (cond5_iff _ _).1 h; omega
      have h6 : ¬k0_cond6 (grid0.coords t) (lenP m t) = 1#1 := fun h => by have := (cond6_iff _ _).1 h; omega
      rw [show outP m c t = out2 (grid0.coords t) (lenP m t) (B0 m c t) (B1 m c t) (B2 m c t) (B3 m c t) (scrU m c t) (scrR m c t) (scrK m c t) from by unfold outP; rw [if_neg h2, if_pos h3], show lseP m c t = lse2 (grid0.coords t) (lenP m t) (B0 m c t) (B1 m c t) (B2 m c t) (B3 m c t) (scrU m c t) (scrR m c t) (scrK m c t) from by unfold lseP; rw [if_neg h2, if_pos h3]]
      exact run_2 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ h1 h2 h3 h4 h5 h6 E K
    · skip
      have h2 : ¬k0_cond2 (grid0.coords t) (lenP m t) = 1#1 := fun h => by have := (cond2_iff _ _).1 h; omega
      have h3 : ¬k0_cond3 (grid0.coords t) (lenP m t) = 1#1 := fun h => by have := (cond3_iff _ _).1 h; omega
      have h4 : k0_cond4 (grid0.coords t) (lenP m t) = 1#1 := (cond4_iff _ _).2 ⟨hn, by omega⟩
      have h5 : ¬k0_cond5 (grid0.coords t) (lenP m t) = 1#1 := fun h => by have := (cond5_iff _ _).1 h; omega
      have h6 : ¬k0_cond6 (grid0.coords t) (lenP m t) = 1#1 := fun h => by have := (cond6_iff _ _).1 h; omega
      rw [show outP m c t = out3 (grid0.coords t) (lenP m t) (B0 m c t) (B1 m c t) (B2 m c t) (B3 m c t) (scrU m c t) (scrR m c t) (scrK m c t) from by unfold outP; rw [if_neg h2, if_neg h3, if_pos h4], show lseP m c t = lse3 (grid0.coords t) (lenP m t) (B0 m c t) (B1 m c t) (B2 m c t) (B3 m c t) (scrU m c t) (scrR m c t) (scrK m c t) from by unfold lseP; rw [if_neg h2, if_neg h3, if_pos h4]]
      exact run_3 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ h1 h2 h3 h4 h5 h6 E K
    · skip
      have h2 : ¬k0_cond2 (grid0.coords t) (lenP m t) = 1#1 := fun h => by have := (cond2_iff _ _).1 h; omega
      have h3 : ¬k0_cond3 (grid0.coords t) (lenP m t) = 1#1 := fun h => by have := (cond3_iff _ _).1 h; omega
      have h4 : ¬k0_cond4 (grid0.coords t) (lenP m t) = 1#1 := fun h => by have := (cond4_iff _ _).1 h; omega
      have h5 : k0_cond5 (grid0.coords t) (lenP m t) = 1#1 := (cond5_iff _ _).2 ⟨hn, by omega⟩
      have h6 : ¬k0_cond6 (grid0.coords t) (lenP m t) = 1#1 := fun h => by have := (cond6_iff _ _).1 h; omega
      rw [show outP m c t = out4 (grid0.coords t) (lenP m t) (B0 m c t) (B1 m c t) (B2 m c t) (B3 m c t) (scrU m c t) (scrR m c t) (scrK m c t) from by unfold outP; rw [if_neg h2, if_neg h3, if_neg h4, if_pos h5], show lseP m c t = lse4 (grid0.coords t) (lenP m t) (B0 m c t) (B1 m c t) (B2 m c t) (B3 m c t) (scrU m c t) (scrR m c t) (scrK m c t) from by unfold lseP; rw [if_neg h2, if_neg h3, if_neg h4, if_pos h5]]
      exact run_4 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ h1 h2 h3 h4 h5 h6 E K
  · skip
    have h2 : ¬k0_cond2 (grid0.coords t) (lenP m t) = 1#1 := fun h => by have := (cond2_iff _ _).1 h; omega
    have h3 : ¬k0_cond3 (grid0.coords t) (lenP m t) = 1#1 := fun h => by have := (cond3_iff _ _).1 h; omega
    have h4 : ¬k0_cond4 (grid0.coords t) (lenP m t) = 1#1 := fun h => by have := (cond4_iff _ _).1 h; omega
    have h5 : ¬k0_cond5 (grid0.coords t) (lenP m t) = 1#1 := fun h => by have := (cond5_iff _ _).1 h; omega
    have h6 : k0_cond6 (grid0.coords t) (lenP m t) = 1#1 := (cond6_iff _ _).2 hn
    rw [show outP m c t = outPad from by unfold outP; rw [if_neg h2, if_neg h3, if_neg h4, if_neg h5], show lseP m c t = lsePad from by unfold lseP; rw [if_neg h2, if_neg h3, if_neg h4, if_neg h5]]
    exact run_Pad c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ h1 h2 h3 h4 h5 h6 E K

/-! ## The proof data -/

/-- The arrays as launched; after the body at a point each input's buffer at its block and each output's at the block the
    point computes; between the points the scratch, the register and half the table. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outP m c t
    | ⟨7, _⟩ => lseP m c t
  Φ k := iprop((PhiS m c k.val ∗ (∃ r, prngReg c r)) ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = outP m c t := by dsimp only [dats]; try rfl
theorem after_7 (c : Dev nD) (t : Fin (cfgM m).N) : (dats m 0 c).after 7 t = lseP m c t := by dsimp only [dats]; try rfl
theorem before_0 (c : Dev nD) (t : Fin (cfgM m).N) (d) : (dats m 0 c).before 0 t d = iblk m c 0 t :=
  before0_of m (dats m 0 c) (A_eq m c 0) (after_0 m c) t d
theorem before_1 (c : Dev nD) (t : Fin (cfgM m).N) (d) : (dats m 0 c).before 1 t d = iblk m c 1 t :=
  before1_of m (dats m 0 c) (A_eq m c 1) (after_1 m c) t d
theorem before_2 (c : Dev nD) (t : Fin (cfgM m).N) (d) : (dats m 0 c).before 2 t d = iblk m c 2 t :=
  before2_of m (dats m 0 c) (A_eq m c 2) (after_2 m c) t d
theorem before_3 (c : Dev nD) (t : Fin (cfgM m).N) (d) : (dats m 0 c).before 3 t d = iblk m c 3 t :=
  before3_of m (dats m 0 c) (A_eq m c 3) (after_3 m c) t d
theorem before_4 (c : Dev nD) (t : Fin (cfgM m).N) (d) : (dats m 0 c).before 4 t d = iblk m c 4 t :=
  before4_of m (dats m 0 c) (A_eq m c 4) (after_4 m c) t d
theorem before_5 (c : Dev nD) (t : Fin (cfgM m).N) (d) : (dats m 0 c).before 5 t d = iblk m c 5 t :=
  before5_of m (dats m 0 c) (A_eq m c 5) (after_5 m c) t d

theorem Phi_at (c : Dev nD) (k : Fin ((cfgM m).N + 1)) (n : ℕ) (h : k.val = n) :
    (dats m 0 c).Φ k = iprop((PhiS m c n ∗ (∃ r, prngReg c r)) ∗ Pipeline.ΦT pre0 (tbl m) c) := by
  subst h
  dsimp only [dats]

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d)) ∗ (∃ d, owns (c : Thread nD τ) (ms1 m t) fullShare ((dats m 0 c).before 1 t d)) ∗ (∃ d, owns (c : Thread nD τ) (ms2 m t) fullShare ((dats m 0 c).before 2 t d)) ∗ (∃ d, owns (c : Thread nD τ) (ms3 m t) fullShare ((dats m 0 c).before 3 t d)) ∗ (∃ d, owns (c : Thread nD τ) (ms4 m t) fullShare ((dats m 0 c).before 4 t d)) ∗ (∃ d, owns (c : Thread nD τ) (ms5 m t) fullShare ((dats m 0 c).before 5 t d)) ∗ (∃ d, owns (c : Thread nD τ) (ms6 m t) fullShare ((dats m 0 c).before 6 t d)) ∗ (∃ d, owns (c : Thread nD τ) (ms7 m t) fullShare ((dats m 0 c).before 7 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t) ∗ owns (c : Thread nD τ) (ms1 m t) fullShare ((dats m 0 c).after 1 t) ∗ owns (c : Thread nD τ) (ms2 m t) fullShare ((dats m 0 c).after 2 t) ∗ owns (c : Thread nD τ) (ms3 m t) fullShare ((dats m 0 c).after 3 t) ∗ owns (c : Thread nD τ) (ms4 m t) fullShare ((dats m 0 c).after 4 t) ∗ owns (c : Thread nD τ) (ms5 m t) fullShare ((dats m 0 c).after 5 t) ∗ owns (c : Thread nD τ) (ms6 m t) fullShare ((dats m 0 c).after 6 t) ∗ owns (c : Thread nD τ) (ms7 m t) fullShare ((dats m 0 c).after 7 t))

theorem Phi_castSucc (c : Dev nD) (t : Fin (cfgM m).N) :
    (dats m 0 c).Φ t.castSucc = iprop((PhiS m c t.val ∗ (∃ r, prngReg c r)) ∗ tbPt c tbM (tbl m 0)) := by
  rw [← PhiT_eq]
  exact Phi_at m c t.castSucc t.val (Fin.val_castSucc t)
theorem Phi_succ (c : Dev nD) (t : Fin (cfgM m).N) :
    (dats m 0 c).Φ t.succ = iprop((PhiS m c (t.val + 1) ∗ (∃ r, prngReg c r)) ∗ tbPt c tbM (tbl m 0)) := by
  rw [← PhiT_eq]
  exact Phi_at m c t.succ (t.val + 1) (Fin.val_succ t)
theorem owes_succ (c : Dev nD) (t : Fin (cfgM m).N) : (dats m 0 c).owesAt () t.succ = (dats m 0 c).owesAt () t.castSucc := rfl

set_option maxHeartbeats 1000000 in
/-- The body at any point, between the invariants. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost
  simp only [before_0, before_1, before_2, before_3, before_4, before_5]
  rw [after_0, after_1, after_2, after_3, after_4, after_5, after_6, after_7, Phi_castSucc, Phi_succ, owes_succ]
  by_cases h1 : k0_cond1 (grid0.coords t) = 1#1
  · iintro ⟨⟨⟨HS, Hg⟩, HT⟩, HW, ⟨%d0, H0⟩, ⟨%d1, H1⟩, ⟨%d2, H2⟩, ⟨%d3, H3⟩, ⟨%d4, H4⟩, ⟨%d5, H5⟩, ⟨%d6, H6⟩, ⟨%d7, H7⟩⟩
    ihave HS' : iprop((∃ d, owns (c : Thread nD τ) scM0 fullShare d) ∗ (∃ d, owns (c : Thread nD τ) scM1 fullShare d) ∗ (∃ d, owns (c : Thread nD τ) scM2 fullShare d)) $$ [HS]
    · iapply (PhiS_any m c t.val (le_of_lt t.isLt)); iexact HS
    icases HS' with ⟨HS0, HS1, HS2⟩
    iapply (run_first m c t h1 Set.univ _)
    isplitl [H0]; · iexact H0
    isplitl [H1]; · iexact H1
    isplitl [H2]; · iexact H2
    isplitl [H3]; · iexact H3
    isplitl [H4]; · iexact H4
    isplitl [H5]; · iexact H5
    isplitl [HT]; · iexact HT
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, HT, H6, H7, HS⟩
    isplitl [HS Hg HT]
    · isplitl [HS Hg]
      · isplitl [HS]
        · iexact HS
        iexact Hg
      iexact HT
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_same m c t (by rw [cond1_iff, coords_1] at h1; exact h1)]
    iintro ⟨⟨⟨⟨HS0, HS1, HS2⟩, Hg⟩, HT⟩, HW, ⟨%d0, H0⟩, ⟨%d1, H1⟩, ⟨%d2, H2⟩, ⟨%d3, H3⟩, ⟨%d4, H4⟩, ⟨%d5, H5⟩, ⟨%d6, H6⟩, ⟨%d7, H7⟩⟩
    iapply (run_rest m c t h1 Set.univ _)
    isplitl [H0]; · iexact H0
    isplitl [H1]; · iexact H1
    isplitl [H2]; · iexact H2
    isplitl [H3]; · iexact H3
    isplitl [H4]; · iexact H4
    isplitl [H5]; · iexact H5
    isplitl [HT]; · iexact HT
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, HT, H6, H7, HS⟩
    isplitl [HS Hg HT]
    · isplitl [HS Hg]
      · isplitl [HS]
        · iexact HS
        iexact Hg
      iexact HT
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
/-- No window is idle: what the body hands back is each window's buffer at its contents. -/
theorem body_obligation (c : Dev nD) : BodyObligation (dats (F := F) m 0 c) (defs₀ (F := F)) Variants.none () Set.univ := fun t => by
  rw [bigSep_W0, bigSep_W0, defs₀_row m]
  have i6 : idle0 (tbl m) 6 ((pcfg0.gridAt (tbl m)).coords t) = false := never_idle (tbl m) 6 (grid0.coords t)
  have i7 : idle0 (tbl m) 7 ((pcfg0.gridAt (tbl m)).coords t) = false := never_idle (tbl m) 7 (grid0.coords t)
  simp only [i6, i7]
  exact triple_restated (sound_body m c t) rfl .rfl fun _ => .rfl

set_option backward.isDefEq.respectTransparency.types false in
/-- The launch: every window's array at what the points wrote back to it, every other buffer as launched, and every
    semaphore at zero. -/
theorem run_main_quiescent : θ_run defs (onTc (τ := τ) (main (F := F))) (s₀ m ρ) (fun r => Pipeline.FramePost ((Pipeline.pin pcfgs fun _ => adm m)) (dats m) 0 (V m) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := fun c => by rw [PhiA_eq]; exact .rfl)
    (hout := fun c => by
      rw [PhiA_eq]
      change iprop((PhiS m c ((cfgM m).N) ∗ (∃ r, prngReg c r)) ∗ Pipeline.ΦT pre0 (tbl m) c) ⊢ _
      iintro ⟨⟨HS, Hg⟩, -⟩
      isplitl [HS]
      · iapply (PhiS_any m c _ le_rfl); iexact HS
      iexact Hg)
    (hQ' := fun _ h => h)

theorem arg6_rest : main_arg6 ∈ Pipeline.restRefs sig spec0 := by decide

/-- Every argument ends as launched, and every semaphore at zero. -/
theorem frame_run : θ_run defs (onTc (τ := τ) (main (F := F))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun r h => ⟨fun c =>
    ⟨((h.1 c).1 0).trans (((dats m 0 c).arrAt_in 0 rfl _).trans (A_eq m c 0)),
     ((h.1 c).1 1).trans (((dats m 0 c).arrAt_in 1 rfl _).trans (A_eq m c 1)),
     ((h.1 c).1 2).trans (((dats m 0 c).arrAt_in 2 rfl _).trans (A_eq m c 2)),
     ((h.1 c).1 3).trans (((dats m 0 c).arrAt_in 3 rfl _).trans (A_eq m c 3)),
     ((h.1 c).1 4).trans (((dats m 0 c).arrAt_in 4 rfl _).trans (A_eq m c 4)),
     ((h.1 c).1 5).trans (((dats m 0 c).arrAt_in 5 rfl _).trans (A_eq m c 5)),
     ((h.1 c).2 main_arg6 arg6_rest)⟩, h.2⟩) (run_main_quiescent m ρ)

end Cert.Kernel.Run

end
-- ==== Proof.KernelIdeal.Base.lean ====
/- What every run of the kernel's body is stated over: the buffers as launched, the table of the sequence lengths, the
   branch conditions of the body as inequalities between its grid column and a sequence length, and the windows'
   staging buffers and blocks. -/
module

public import proofs.«01_k».proof.Proof.Gen.KernelIdeal.Launch
public import proofs.«01_k».proof.Proof.Gen.KernelIdeal.Skeleton
public import proofs.«01_k».proof.Proof.Words
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The launch memory and the table -/

/-- Core `c`'s buffers when the pipelined region is entered: as launched. -/
abbrev V (c : Dev nD) (b : Ref sig .tc) : Buf (Elt F) ((c : Thread nD τ).loc b) := m ((c : Thread nD τ).loc b)

set_option maxHeartbeats 800000 in
/-- The program is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The sequence lengths, the table the windows' index maps read. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The table's memref as the body is handed it. -/
abbrev tbM : Memref sig .tc .smem S2 .i32 := Memref.whole main_arg6
abbrev htbM : tbM.IsWhole := Memref.isWhole_whole _
abbrev TbBuf (c : Dev nD) {S : Shape} {e : EltTy} (M : Memref sig .tc .smem S e) : Type := Buf (Elt F) (M.view.loc (c : Thread nD τ))
/-- Half of the table, held at the contents `f`. -/
abbrev tbPt (c : Dev nD) {S : Shape} {e : EltTy} (M : Memref sig .tc .smem S e) (f : TbBuf (F := F) c M) : sProp 𝕄 :=
  M.view.loc (c : Thread nD τ) ↦{fullShare.right} f
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The length of the sequence of grid point `i`, as the body loads it from table contents `xt`. -/
abbrev lenW (i : grid0.Coords) (xt : tbM.view.ty.Contents (Elt F)) : BitVec 32 :=
  tbM.view.readAt (Elt F) (Rect.unit (s := S2) (k0_off1 i) S1.size (k0_off1_inb i)).toLoadRect xt (Shape.Idx.first (numel1_S1.symm ▸ Nat.one_pos))

/-! ## The body's conditions -/

theorem col_lt (i : grid0.Coords) : (i 1).val < 14 := (i 1).isLt
theorem batch_lt (i : grid0.Coords) : (i 0).val < 2 := (i 0).isLt

theorem cond1_iff (i : grid0.Coords) : k0_cond1 i = 1#1 ↔ (i 1).val = 0 := Words.firstCond_iff (col_lt i)
theorem cond2_iff (i : grid0.Coords) (n : BitVec 32) : k0_cond2 i n = 1#1 ↔ (64 * (i 1).val : Int) < n.toInt ∧ (i 1).val / 4 + 1 = 1 :=
  Words.tilesCond_iff (col_lt i) 1 (by decide) n
theorem cond3_iff (i : grid0.Coords) (n : BitVec 32) : k0_cond3 i n = 1#1 ↔ (64 * (i 1).val : Int) < n.toInt ∧ (i 1).val / 4 + 1 = 2 :=
  Words.tilesCond_iff (col_lt i) 2 (by decide) n
theorem cond4_iff (i : grid0.Coords) (n : BitVec 32) : k0_cond4 i n = 1#1 ↔ (64 * (i 1).val : Int) < n.toInt ∧ (i 1).val / 4 + 1 = 3 :=
  Words.tilesCond_iff (col_lt i) 3 (by decide) n
theorem cond5_iff (i : grid0.Coords) (n : BitVec 32) : k0_cond5 i n = 1#1 ↔ (64 * (i 1).val : Int) < n.toInt ∧ (i 1).val / 4 + 1 = 4 :=
  Words.tilesCond_iff (col_lt i) 4 (by decide) n
theorem cond6_iff (i : grid0.Coords) (n : BitVec 32) : k0_cond6 i n = 1#1 ↔ n.toInt ≤ (64 * (i 1).val : Int) :=
  Words.padCond_iff (col_lt i) n

/-- At every point the body takes one of its branches, so that no window is idle. -/
theorem never_idle (pf : pre0.Contents (Elt F)) (w : Fin 8) (i : grid0.Coords) : idle0 pf w i = false := by
  have key : (!(k0_cond2 i (pf.atD 0 (k0_off1 i)) == 1#1) && !(k0_cond3 i (pf.atD 0 (k0_off1 i)) == 1#1) && !(k0_cond4 i (pf.atD 0 (k0_off1 i)) == 1#1) && !(k0_cond5 i (pf.atD 0 (k0_off1 i)) == 1#1) && !(k0_cond6 i (pf.atD 0 (k0_off1 i)) == 1#1)) = false := by
    have h := col_lt i
    generalize pf.atD 0 (k0_off1 i) = n
    rcases lt_or_ge (64 * (i 1).val : Int) n.toInt with hn | hn
    · have : (i 1).val / 4 + 1 = 1 ∨ (i 1).val / 4 + 1 = 2 ∨ (i 1).val / 4 + 1 = 3 ∨ (i 1).val / 4 + 1 = 4 := by omega
      rcases this with h' | h' | h' | h'
      · simp [(cond2_iff i n).2 ⟨hn, h'⟩]
      · simp [(cond3_iff i n).2 ⟨hn, h'⟩]
      · simp [(cond4_iff i n).2 ⟨hn, h'⟩]
      · simp [(cond5_iff i n).2 ⟨hn, h'⟩]
    · simp [(cond6_iff i n).2 hn]
  match w with
  | 0 => rfl
  | 1 => rfl
  | 2 => rfl
  | 3 => rfl
  | 4 => rfl
  | 5 => rfl
  | 6 => exact key
  | 7 => exact key

/-! ## The windows' blocks are inside their arrays -/

theorem coord0_toNat (i : grid0.Coords) : (BitVec.ofNat 32 (i 0).val).toNat = (i 0).val := by
  have := batch_lt i
  rw [BitVec.toNat_ofNat]; omega

/-- The windows of the queries are at the row `Words.blockCol` gives. -/
theorem transform_0_eq (pf : pre0.Contents (Elt F)) (i : grid0.Coords) :
    cc0_transform_0 k0_off1_inb numel1_S1 pf i = ![(i 0).val, (Words.blockCol (i 1).val (lenW i (pf 0))).toNat, 0, 0] := by
  rw [← coord0_toNat i]; rfl
theorem transform_1_eq (pf : pre0.Contents (Elt F)) (i : grid0.Coords) :
    cc0_transform_1 k0_off1_inb numel1_S1 pf i = ![(i 0).val, (Words.blockCol (i 1).val (lenW i (pf 0))).toNat, 0] := by
  rw [← coord0_toNat i]; rfl
theorem transform_2_eq (pf : pre0.Contents (Elt F)) (i : grid0.Coords) :
    cc0_transform_2 k0_off1_inb numel1_S1 pf i = ![(i 0).val, (Words.blockCol (i 1).val (lenW i (pf 0))).toNat, 0, 0] := by
  rw [← coord0_toNat i]; rfl

theorem row_lt (i : grid0.Coords) (n : BitVec 32) : (Words.blockCol (i 1).val n).toNat < 14 :=
  lt_of_le_of_lt (Words.blockCol_le _ (by have := col_lt i; omega) n) (col_lt i)

/-- Whatever the table holds, every window's block is inside its array. -/
theorem ok (pf : pre0.Contents (Elt F)) : ok0 pf := by
  refine ⟨fun i => ?_, fun i => ?_, fun i => ?_⟩
  · have hr := row_lt i (lenW i (pf 0))
    have hb := batch_lt i
    refine ⟨?_, .inr (Affine.block_words_dvd (of_decide_eq_true rfl) (by decide))⟩
    rw [transform_0_eq]
    intro a
    fin_cases a <;> simp [S1x64x16x512, S2x896x16x512] <;> omega
  · have hr := row_lt i (lenW i (pf 0))
    have hb := batch_lt i
    refine ⟨?_, .inl rfl⟩
    rw [transform_1_eq]
    intro a
    fin_cases a <;> simp [S1x64x16, S2x896x16] <;> omega
  · have hr := row_lt i (lenW i (pf 0))
    have hb := batch_lt i
    refine ⟨?_, .inr (Affine.block_words_dvd (of_decide_eq_true rfl) (by decide))⟩
    rw [transform_2_eq]
    intro a
    fin_cases a <;> simp [S1x64x16x64, S2x896x16x64] <;> omega

/-- The pipeline at the launched table. -/
abbrev adm : (pcfg0 (F := F)).Adm := ⟨tbl m, ok (tbl m)⟩
abbrev cfgM : Pipeline.Cfg sig Λ₀ := cfg0 (adm m)

/-! ## The windows' blocks and staging buffers -/

/-- Window `w`'s block at point `t`, read off its array as launched. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-! Each input's staging buffer holds its block at every point, for any proof data that leave it there. -/

theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! The staging memrefs at point `t`, and the scratch memrefs. -/

abbrev ms0 (t : Fin (cfgM m).N) : Memref sig .tc .vmem S1x64x16x512 .fp8e4m3 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x64x16 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x64x16x64 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x896x512 .fp8e4m3 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S2x896 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x896x64 .bf16 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x64x16x512 .bf16 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S1x64x16 .f32 := spec0_7.stage ((cfgM m).slots t 7)
abbrev hs7 (t : Fin (cfgM m).N) : (ms7 m t).IsWhole := hstage0_7 (((cfgM m).slots t 7).cast nbuf0_7)

abbrev scM0 : Memref sig .tc .vmem S896x512 .bf16 := Memref.whole cc0_scratch0
abbrev scM1 : Memref sig .tc .vmem S896x64 .bf16 := Memref.whole cc0_scratch1
abbrev scM2 : Memref sig .tc .vmem S1x896 .f32 := Memref.whole cc0_scratch2

/-- The three scratch buffers at some contents, and the register. -/
theorem PhiA_eq (c : Dev nD) :
    (Pipeline.ΦA spec0 c : sProp 𝕄)
      = iprop(((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA
  rw [scopedRest0_eq]
  simp only [scM0, scM1, scM2, owns_whole]
  try rfl

/-- The body at point `t`. -/
abbrev bodyAt (t : Fin (cfgM m).N) : Prog (TpuEff nD τ sig (Elt F) Λ₀ .tc) PUnit :=
  cc0_mla_prompt_attention (grid0.coords t) tbM htbM (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _)

theorem defs₀_row (t : Fin (cfgM m).N) :
    defs₀ (F := F) .tc (cfgM m).body ((cfgM m).bodyArgs t ((cfgM m).slots t)) = bodyAt m t := by
  unfold defs₀; rw [Defs.onTc_tc]

end Cert.KernelIdeal.Run

end
-- ==== Proof.KernelIdeal.Tiles.lean ====
/- What the kernel's body stores, as functions of the blocks it reads: the first column of a sequence its three scratch
   buffers, and each branch its block of outputs and of log-sum-exps, sixteen tokens at a time. -/
module

public import proofs.«01_k».proof.Proof.KernelIdeal.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The rectangles the body reads and writes. -/

abbrev r_S1x896_S1x896_0_0 : Rect S1x896 := Rect.unit (s := S1x896) ![0, 0] S1x896.size inb_S1x896_S1x896_0_0
abbrev r_S1x896x512_S1x896x512_0_0_0 : Rect S1x896x512 := Rect.unit (s := S1x896x512) ![0, 0, 0] S1x896x512.size inb_S1x896x512_S1x896x512_0_0_0
abbrev r_S896x512_S896x512_0_0 : Rect S896x512 := Rect.unit (s := S896x512) ![0, 0] S896x512.size inb_S896x512_S896x512_0_0
abbrev r_S1x896x64_S1x896x64_0_0_0 : Rect S1x896x64 := Rect.unit (s := S1x896x64) ![0, 0, 0] S1x896x64.size inb_S1x896x64_S1x896x64_0_0_0
abbrev r_S896x64_S896x64_0_0 : Rect S896x64 := Rect.unit (s := S896x64) ![0, 0] S896x64.size inb_S896x64_S896x64_0_0
abbrev r_S1x64x16x512_S1x16x16x512_0_0_0_0 : Rect S1x64x16x512 := Rect.unit (s := S1x64x16x512) ![0, 0, 0, 0] S1x16x16x512.size inb_S1x64x16x512_S1x16x16x512_0_0_0_0
abbrev r_S1x64x16_S1x16x16_0_0_0 : Rect S1x64x16 := Rect.unit (s := S1x64x16) ![0, 0, 0] S1x16x16.size inb_S1x64x16_S1x16x16_0_0_0
abbrev r_S1x64x16x64_S1x16x16x64_0_0_0_0 : Rect S1x64x16x64 := Rect.unit (s := S1x64x16x64) ![0, 0, 0, 0] S1x16x16x64.size inb_S1x64x16x64_S1x16x16x64_0_0_0_0
abbrev r_S1x896x512_S1x256x512_0_0_0 : Rect S1x896x512 := Rect.unit (s := S1x896x512) ![0, 0, 0] S1x256x512.size inb_S1x896x512_S1x256x512_0_0_0
abbrev r_S896x64_S256x64_0_0 : Rect S896x64 := Rect.unit (s := S896x64) ![0, 0] S256x64.size inb_S896x64_S256x64_0_0
abbrev r_S1x896_S1x256_0_0 : Rect S1x896 := Rect.unit (s := S1x896) ![0, 0] S1x256.size inb_S1x896_S1x256_0_0
abbrev r_S896x512_S256x512_0_0 : Rect S896x512 := Rect.unit (s := S896x512) ![0, 0] S256x512.size inb_S896x512_S256x512_0_0
abbrev r_S1x64x16x512_S1x16x16x512_0_16_0_0 : Rect S1x64x16x512 := Rect.unit (s := S1x64x16x512) ![0, 16, 0, 0] S1x16x16x512.size inb_S1x64x16x512_S1x16x16x512_0_16_0_0
abbrev r_S1x64x16_S1x16x16_0_16_0 : Rect S1x64x16 := Rect.unit (s := S1x64x16) ![0, 16, 0] S1x16x16.size inb_S1x64x16_S1x16x16_0_16_0
abbrev r_S1x64x16x64_S1x16x16x64_0_16_0_0 : Rect S1x64x16x64 := Rect.unit (s := S1x64x16x64) ![0, 16, 0, 0] S1x16x16x64.size inb_S1x64x16x64_S1x16x16x64_0_16_0_0
abbrev r_S1x64x16x512_S1x16x16x512_0_32_0_0 : Rect S1x64x16x512 := Rect.unit (s := S1x64x16x512) ![0, 32, 0, 0] S1x16x16x512.size inb_S1x64x16x512_S1x16x16x512_0_32_0_0
abbrev r_S1x64x16_S1x16x16_0_32_0 : Rect S1x64x16 := Rect.unit (s := S1x64x16) ![0, 32, 0] S1x16x16.size inb_S1x64x16_S1x16x16_0_32_0
abbrev r_S1x64x16x64_S1x16x16x64_0_32_0_0 : Rect S1x64x16x64 := Rect.unit (s := S1x64x16x64) ![0, 32, 0, 0] S1x16x16x64.size inb_S1x64x16x64_S1x16x16x64_0_32_0_0
abbrev r_S1x64x16x512_S1x16x16x512_0_48_0_0 : Rect S1x64x16x512 := Rect.unit (s := S1x64x16x512) ![0, 48, 0, 0] S1x16x16x512.size inb_S1x64x16x512_S1x16x16x512_0_48_0_0
abbrev r_S1x64x16_S1x16x16_0_48_0 : Rect S1x64x16 := Rect.unit (s := S1x64x16) ![0, 48, 0] S1x16x16.size inb_S1x64x16_S1x16x16_0_48_0
abbrev r_S1x64x16x64_S1x16x16x64_0_48_0_0 : Rect S1x64x16x64 := Rect.unit (s := S1x64x16x64) ![0, 48, 0, 0] S1x16x16x64.size inb_S1x64x16x64_S1x16x16x64_0_48_0_0
abbrev r_S1x896x512_S1x512x512_0_0_0 : Rect S1x896x512 := Rect.unit (s := S1x896x512) ![0, 0, 0] S1x512x512.size inb_S1x896x512_S1x512x512_0_0_0
abbrev r_S896x64_S512x64_0_0 : Rect S896x64 := Rect.unit (s := S896x64) ![0, 0] S512x64.size inb_S896x64_S512x64_0_0
abbrev r_S1x896_S1x512_0_0 : Rect S1x896 := Rect.unit (s := S1x896) ![0, 0] S1x512.size inb_S1x896_S1x512_0_0
abbrev r_S896x512_S512x512_0_0 : Rect S896x512 := Rect.unit (s := S896x512) ![0, 0] S512x512.size inb_S896x512_S512x512_0_0
abbrev r_S1x896x512_S1x768x512_0_0_0 : Rect S1x896x512 := Rect.unit (s := S1x896x512) ![0, 0, 0] S1x768x512.size inb_S1x896x512_S1x768x512_0_0_0
abbrev r_S896x64_S768x64_0_0 : Rect S896x64 := Rect.unit (s := S896x64) ![0, 0] S768x64.size inb_S896x64_S768x64_0_0
abbrev r_S1x896_S1x768_0_0 : Rect S1x896 := Rect.unit (s := S1x896) ![0, 0] S1x768.size inb_S1x896_S1x768_0_0
abbrev r_S896x512_S768x512_0_0 : Rect S896x512 := Rect.unit (s := S896x512) ![0, 0] S768x512.size inb_S896x512_S768x512_0_0
abbrev r_S1x64x16x512_S1x64x16x512_0_0_0_0 : Rect S1x64x16x512 := Rect.unit (s := S1x64x16x512) ![0, 0, 0, 0] S1x64x16x512.size inb_S1x64x16x512_S1x64x16x512_0_0_0_0
abbrev r_S1x64x16_S1x64x16_0_0_0 : Rect S1x64x16 := Rect.unit (s := S1x64x16) ![0, 0, 0] S1x64x16.size inb_S1x64x16_S1x64x16_0_0_0

/-- The first token of the column of grid point `i`, as a word. -/
abbrev row0 (i : grid0.Coords) : BitVec 32 := Scalar.muli (BitVec.ofNat 32 (i 1).val) 64#32

/-- The offsets of the row of sequence `b` in the array of the key scales, and that row. -/
def off2 (b : Nat) : Fin 2 → Nat := ![(Scalar.indexCast (BitVec.ofNat 32 b)).toNat, 0]
theorem off2_inb (b : Nat) (hb : b < 2) : ∀ a, off2 b a + S1x896.size a ≤ S2x896.size a := by
  have h : (BitVec.ofNat 32 b).toNat = b := by rw [BitVec.toNat_ofNat]; omega
  intro a
  fin_cases a <;> simp [off2, S1x896, S2x896, Scalar.indexCast] <;> omega
def csRow (b : Nat) (hb : b < 2) (x4 : Vec F S2x896 .f32) : Vec F S1x896 .f32 :=
  View.ld x4 (Rect.unit (s := S2x896) (off2 b) S1x896.size (off2_inb b hb))

/-- What the first column stores as the key scales, of the scales `s` of its sequence. -/
def setScale (s : Vec F S1x896 .f32) : Vec F S1x896 .f32 :=
  k0_pay5 s

/-- What it stores as the scaled values, of the scales and the block `x3` of the codes. -/
def setValues (s : Vec F S1x896 .f32) (x3 : Vec F S1x896x512 .fp8e4m3) : Vec F S896x512 .bf16 :=
  k0_pay214 s k0_pay6 (k0_pay7 s) (k0_pay8 s) (k0_pay9 s) (k0_pay10 s) (k0_pay11 s) (View.ld x3 r_S1x896x512_S1x896x512_0_0_0)

/-- What it stores as the unscaled keys' rope parts, of the scales and the block `x5` of the rope parts. -/
def setRopes (s : Vec F S1x896 .f32) (x5 : Vec F S1x896x64 .bf16) : Vec F S896x64 .bf16 :=
  k0_pay215 s k0_pay6 (k0_pay7 s) (k0_pay8 s) (k0_pay9 s) (k0_pay10 s) (k0_pay11 s) (View.ld x5 r_S1x896x64_S1x896x64_0_0_0)

/-- What the branch of 256 keys stores as the outputs of its tokens 0 to 15. -/
def o1_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay22 n (row0 i) (k0_pay13 (View.ld x1 r_S1x64x16_S1x16x16_0_0_0)) (k0_pay14 (View.ld x0 r_S1x64x16x512_S1x16x16x512_0_0_0_0) (View.ld x1 r_S1x64x16_S1x16x16_0_0_0) (View.ld x2 r_S1x64x16x64_S1x16x16x64_0_0_0_0) (View.ld x3 r_S1x896x512_S1x256x512_0_0_0) (View.ld r r_S896x64_S256x64_0_0) (View.ld k r_S1x896_S1x256_0_0)) k0_pay15 (View.ld u r_S896x512_S256x512_0_0)

/-- What the branch of 256 keys stores as the log-sum-exps of its tokens 0 to 15. -/
def l1_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay25 (k0_pay23 n (row0 i) (k0_pay13 (View.ld x1 r_S1x64x16_S1x16x16_0_0_0)) (k0_pay14 (View.ld x0 r_S1x64x16x512_S1x16x16x512_0_0_0_0) (View.ld x1 r_S1x64x16_S1x16x16_0_0_0) (View.ld x2 r_S1x64x16x64_S1x16x16x64_0_0_0_0) (View.ld x3 r_S1x896x512_S1x256x512_0_0_0) (View.ld r r_S896x64_S256x64_0_0) (View.ld k r_S1x896_S1x256_0_0)) k0_pay15) (((Scalar.ofBits .f32 0x00000000#32))) (k0_pay24 k0_pay12)

/-- What the branch of 256 keys stores as the outputs of its tokens 16 to 31. -/
def o1_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay35 n (row0 i) (k0_pay26 k0_pay12 (View.ld x1 r_S1x64x16_S1x16x16_0_16_0)) (k0_pay27 (View.ld x0 r_S1x64x16x512_S1x16x16x512_0_16_0_0) (View.ld x3 r_S1x896x512_S1x256x512_0_0_0)) (k0_pay28 k0_pay12 (View.ld x1 r_S1x64x16_S1x16x16_0_16_0) (View.ld x2 r_S1x64x16x64_S1x16x16x64_0_16_0_0) (View.ld r r_S896x64_S256x64_0_0)) (View.ld k r_S1x896_S1x256_0_0) (View.ld u r_S896x512_S256x512_0_0)

/-- What the branch of 256 keys stores as the log-sum-exps of its tokens 16 to 31. -/
def l1_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay38 k0_pay12 (k0_pay33 (row0 i) (k0_pay26 k0_pay12 (View.ld x1 r_S1x64x16_S1x16x16_0_16_0)) (k0_pay27 (View.ld x0 r_S1x64x16x512_S1x16x16x512_0_16_0_0) (View.ld x3 r_S1x896x512_S1x256x512_0_0_0)) (k0_pay28 k0_pay12 (View.ld x1 r_S1x64x16_S1x16x16_0_16_0) (View.ld x2 r_S1x64x16x64_S1x16x16x64_0_16_0_0) (View.ld r r_S896x64_S256x64_0_0)) (View.ld k r_S1x896_S1x256_0_0)) (k0_pay34 (F := F) n (row0 i)) (k0_pay36 (row0 i) (k0_pay26 k0_pay12 (View.ld x1 r_S1x64x16_S1x16x16_0_16_0)) (k0_pay27 (View.ld x0 r_S1x64x16x512_S1x16x16x512_0_16_0_0) (View.ld x3 r_S1x896x512_S1x256x512_0_0_0)) (k0_pay28 k0_pay12 (View.ld x1 r_S1x64x16_S1x16x16_0_16_0) (View.ld x2 r_S1x64x16x64_S1x16x16x64_0_16_0_0) (View.ld r r_S896x64_S256x64_0_0)) (View.ld k r_S1x896_S1x256_0_0)) (k0_pay37 (F := F))

/-- What the branch of 256 keys stores as the outputs of its tokens 32 to 47. -/
def o1_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay49 (k0_pay48 n (row0 i) (k0_pay39 (View.ld x0 r_S1x64x16x512_S1x16x16x512_0_32_0_0)) (k0_pay40 k0_pay12 (View.ld x1 r_S1x64x16_S1x16x16_0_32_0)) (k0_pay41 k0_pay12 (View.ld x1 r_S1x64x16_S1x16x16_0_32_0) (View.ld x2 r_S1x64x16x64_S1x16x16x64_0_32_0_0)) (View.ld x3 r_S1x896x512_S1x256x512_0_0_0) (View.ld r r_S896x64_S256x64_0_0) (View.ld k r_S1x896_S1x256_0_0) (View.ld u r_S896x512_S256x512_0_0))

/-- What the branch of 256 keys stores as the log-sum-exps of its tokens 32 to 47. -/
def l1_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay50 k0_pay12 (k0_pay40 k0_pay12 (View.ld x1 r_S1x64x16_S1x16x16_0_32_0)) (k0_pay44 (row0 i) (k0_pay39 (View.ld x0 r_S1x64x16x512_S1x16x16x512_0_32_0_0)) (k0_pay41 k0_pay12 (View.ld x1 r_S1x64x16_S1x16x16_0_32_0) (View.ld x2 r_S1x64x16x64_S1x16x16x64_0_32_0_0)) (View.ld x3 r_S1x896x512_S1x256x512_0_0_0) (View.ld r r_S896x64_S256x64_0_0) (View.ld k r_S1x896_S1x256_0_0)) (k0_pay46 (row0 i) (k0_pay39 (View.ld x0 r_S1x64x16x512_S1x16x16x512_0_32_0_0)) (k0_pay40 k0_pay12 (View.ld x1 r_S1x64x16_S1x16x16_0_32_0)) (k0_pay41 k0_pay12 (View.ld x1 r_S1x64x16_S1x16x16_0_32_0) (View.ld x2 r_S1x64x16x64_S1x16x16x64_0_32_0_0)) (View.ld x3 r_S1x896x512_S1x256x512_0_0_0) (View.ld r r_S896x64_S256x64_0_0) (View.ld k r_S1x896_S1x256_0_0)) (k0_pay47 (F := F) n (row0 i))

/-- What the branch of 256 keys stores as the outputs of its tokens 48 to 63. -/
def o1_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay216 (k0_pay57 (row0 i) (k0_pay51 (View.ld x0 r_S1x64x16x512_S1x16x16x512_0_48_0_0)) (k0_pay52 k0_pay12 (View.ld x1 r_S1x64x16_S1x16x16_0_48_0)) (View.ld x2 r_S1x64x16x64_S1x16x16x64_0_48_0_0) (View.ld x3 r_S1x896x512_S1x256x512_0_0_0) (View.ld r r_S896x64_S256x64_0_0) (View.ld k r_S1x896_S1x256_0_0)) (k0_pay58 (row0 i) (k0_pay51 (View.ld x0 r_S1x64x16x512_S1x16x16x512_0_48_0_0)) (k0_pay52 k0_pay12 (View.ld x1 r_S1x64x16_S1x16x16_0_48_0)) (View.ld x2 r_S1x64x16x64_S1x16x16x64_0_48_0_0) (View.ld x3 r_S1x896x512_S1x256x512_0_0_0) (View.ld r r_S896x64_S256x64_0_0) (View.ld k r_S1x896_S1x256_0_0) (View.ld u r_S896x512_S256x512_0_0)) (k0_pay59 (F := F) n (row0 i))

/-- What the branch of 256 keys stores as the log-sum-exps of its tokens 48 to 63. -/
def l1_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay217 k0_pay12 (k0_pay52 k0_pay12 (View.ld x1 r_S1x64x16_S1x16x16_0_48_0)) (k0_pay55 (row0 i) (k0_pay51 (View.ld x0 r_S1x64x16x512_S1x16x16x512_0_48_0_0)) (k0_pay52 k0_pay12 (View.ld x1 r_S1x64x16_S1x16x16_0_48_0)) (View.ld x2 r_S1x64x16x64_S1x16x16x64_0_48_0_0) (View.ld x3 r_S1x896x512_S1x256x512_0_0_0) (View.ld r r_S896x64_S256x64_0_0) (View.ld k r_S1x896_S1x256_0_0)) (k0_pay57 (row0 i) (k0_pay51 (View.ld x0 r_S1x64x16x512_S1x16x16x512_0_48_0_0)) (k0_pay52 k0_pay12 (View.ld x1 r_S1x64x16_S1x16x16_0_48_0)) (View.ld x2 r_S1x64x16x64_S1x16x16x64_0_48_0_0) (View.ld x3 r_S1x896x512_S1x256x512_0_0_0) (View.ld r r_S896x64_S256x64_0_0) (View.ld k r_S1x896_S1x256_0_0)) (k0_pay59 (F := F) n (row0 i))

/-- The block of outputs the branch of 256 keys leaves. -/
def out1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16x512 .bf16 :=
  View.canon [⟨r_S1x64x16x512_S1x16x16x512_0_48_0_0, o1_3 i n x0 x1 x2 x3 u r k⟩, ⟨r_S1x64x16x512_S1x16x16x512_0_32_0_0, o1_2 i n x0 x1 x2 x3 u r k⟩, ⟨r_S1x64x16x512_S1x16x16x512_0_16_0_0, o1_1 i n x0 x1 x2 x3 u r k⟩, ⟨r_S1x64x16x512_S1x16x16x512_0_0_0_0, o1_0 i n x0 x1 x2 x3 u r k⟩]

/-- The block of log-sum-exps the branch of 256 keys leaves. -/
def lse1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16 .f32 :=
  View.canon [⟨r_S1x64x16_S1x16x16_0_48_0, l1_3 i n x0 x1 x2 x3 u r k⟩, ⟨r_S1x64x16_S1x16x16_0_32_0, l1_2 i n x0 x1 x2 x3 u r k⟩, ⟨r_S1x64x16_S1x16x16_0_16_0, l1_1 i n x0 x1 x2 x3 u r k⟩, ⟨r_S1x64x16_S1x16x16_0_0_0, l1_0 i n x0 x1 x2 x3 u r k⟩]

/-- What the branch of 512 keys stores as the outputs of its tokens 0 to 15. -/
def o2_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay70 n ((row0 i)) (k0_pay61 (View.ld x1 r_S1x64x16_S1x16x16_0_0_0)) (k0_pay62 (View.ld x0 r_S1x64x16x512_S1x16x16x512_0_0_0_0) (View.ld x1 r_S1x64x16_S1x16x16_0_0_0) (View.ld x2 r_S1x64x16x64_S1x16x16x64_0_0_0_0) (View.ld x3 r_S1x896x512_S1x512x512_0_0_0) (View.ld r r_S896x64_S512x64_0_0) (View.ld k r_S1x896_S1x512_0_0)) k0_pay63 (View.ld u r_S896x512_S512x512_0_0)

/-- What the branch of 512 keys stores as the log-sum-exps of its tokens 0 to 15. -/
def l2_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay72 k0_pay60 (k0_pay71 n ((row0 i)) (k0_pay61 (View.ld x1 r_S1x64x16_S1x16x16_0_0_0)) (k0_pay62 (View.ld x0 r_S1x64x16x512_S1x16x16x512_0_0_0_0) (View.ld x1 r_S1x64x16_S1x16x16_0_0_0) (View.ld x2 r_S1x64x16x64_S1x16x16x64_0_0_0_0) (View.ld x3 r_S1x896x512_S1x512x512_0_0_0) (View.ld r r_S896x64_S512x64_0_0) (View.ld k r_S1x896_S1x512_0_0)) k0_pay63)

/-- What the branch of 512 keys stores as the outputs of its tokens 16 to 31. -/
def o2_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay83 (k0_pay82 n ((row0 i)) (k0_pay73 k0_pay60 (View.ld x1 r_S1x64x16_S1x16x16_0_16_0)) (k0_pay74 k0_pay60 (View.ld x1 r_S1x64x16_S1x16x16_0_16_0) (View.ld x2 r_S1x64x16x64_S1x16x16x64_0_16_0_0)) (k0_pay75 (View.ld x0 r_S1x64x16x512_S1x16x16x512_0_16_0_0) (View.ld x3 r_S1x896x512_S1x512x512_0_0_0)) (View.ld r r_S896x64_S512x64_0_0) (View.ld k r_S1x896_S1x512_0_0) (View.ld u r_S896x512_S512x512_0_0))

/-- What the branch of 512 keys stores as the log-sum-exps of its tokens 16 to 31. -/
def l2_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay84 k0_pay60 (k0_pay73 k0_pay60 (View.ld x1 r_S1x64x16_S1x16x16_0_16_0)) (k0_pay78 ((row0 i)) (k0_pay74 k0_pay60 (View.ld x1 r_S1x64x16_S1x16x16_0_16_0) (View.ld x2 r_S1x64x16x64_S1x16x16x64_0_16_0_0)) (k0_pay75 (View.ld x0 r_S1x64x16x512_S1x16x16x512_0_16_0_0) (View.ld x3 r_S1x896x512_S1x512x512_0_0_0)) (View.ld r r_S896x64_S512x64_0_0) (View.ld k r_S1x896_S1x512_0_0)) (k0_pay80 ((row0 i)) (k0_pay73 k0_pay60 (View.ld x1 r_S1x64x16_S1x16x16_0_16_0)) (k0_pay74 k0_pay60 (View.ld x1 r_S1x64x16_S1x16x16_0_16_0) (View.ld x2 r_S1x64x16x64_S1x16x16x64_0_16_0_0)) (k0_pay75 (View.ld x0 r_S1x64x16x512_S1x16x16x512_0_16_0_0) (View.ld x3 r_S1x896x512_S1x512x512_0_0_0)) (View.ld r r_S896x64_S512x64_0_0) (View.ld k r_S1x896_S1x512_0_0)) (k0_pay81 (F := F) n ((row0 i)))

/-- What the branch of 512 keys stores as the outputs of its tokens 32 to 47. -/
def o2_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay96 (k0_pay93 ((row0 i)) (k0_pay85 (View.ld x0 r_S1x64x16x512_S1x16x16x512_0_32_0_0)) (k0_pay86 k0_pay60 (View.ld x1 r_S1x64x16_S1x16x16_0_32_0)) (k0_pay87 (View.ld x2 r_S1x64x16x64_S1x16x16x64_0_32_0_0)) (View.ld x3 r_S1x896x512_S1x512x512_0_0_0) (View.ld r r_S896x64_S512x64_0_0) (View.ld k r_S1x896_S1x512_0_0) (View.ld u r_S896x512_S512x512_0_0)) (k0_pay94 (F := F) n ((row0 i))) (k0_pay95 ((row0 i)) (k0_pay85 (View.ld x0 r_S1x64x16x512_S1x16x16x512_0_32_0_0)) (k0_pay86 k0_pay60 (View.ld x1 r_S1x64x16_S1x16x16_0_32_0)) (k0_pay87 (View.ld x2 r_S1x64x16x64_S1x16x16x64_0_32_0_0)) (View.ld x3 r_S1x896x512_S1x512x512_0_0_0) (View.ld r r_S896x64_S512x64_0_0) (View.ld k r_S1x896_S1x512_0_0))

/-- What the branch of 512 keys stores as the log-sum-exps of its tokens 32 to 47. -/
def l2_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay97 k0_pay60 (k0_pay86 k0_pay60 (View.ld x1 r_S1x64x16_S1x16x16_0_32_0)) (k0_pay90 ((row0 i)) (k0_pay85 (View.ld x0 r_S1x64x16x512_S1x16x16x512_0_32_0_0)) (k0_pay86 k0_pay60 (View.ld x1 r_S1x64x16_S1x16x16_0_32_0)) (k0_pay87 (View.ld x2 r_S1x64x16x64_S1x16x16x64_0_32_0_0)) (View.ld x3 r_S1x896x512_S1x512x512_0_0_0) (View.ld r r_S896x64_S512x64_0_0) (View.ld k r_S1x896_S1x512_0_0)) (k0_pay92 ((row0 i)) (k0_pay85 (View.ld x0 r_S1x64x16x512_S1x16x16x512_0_32_0_0)) (k0_pay86 k0_pay60 (View.ld x1 r_S1x64x16_S1x16x16_0_32_0)) (k0_pay87 (View.ld x2 r_S1x64x16x64_S1x16x16x64_0_32_0_0)) (View.ld x3 r_S1x896x512_S1x512x512_0_0_0) (View.ld r r_S896x64_S512x64_0_0) (View.ld k r_S1x896_S1x512_0_0)) (k0_pay94 (F := F) n ((row0 i)))

/-- What the branch of 512 keys stores as the outputs of its tokens 48 to 63. -/
def o2_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay109 n (k0_pay102 ((row0 i))) (k0_pay105 ((row0 i)) (k0_pay98 (View.ld x0 r_S1x64x16x512_S1x16x16x512_0_48_0_0)) (((Scalar.ofBits .f32 0x00000000#32))) (k0_pay99 k0_pay60) (k0_pay100 (View.ld x1 r_S1x64x16_S1x16x16_0_48_0)) (View.ld x2 r_S1x64x16x64_S1x16x16x64_0_48_0_0) (View.ld x3 r_S1x896x512_S1x512x512_0_0_0) (View.ld r r_S896x64_S512x64_0_0) (View.ld k r_S1x896_S1x512_0_0)) (View.ld u r_S896x512_S512x512_0_0)

/-- What the branch of 512 keys stores as the log-sum-exps of its tokens 48 to 63. -/
def l2_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay218 (k0_pay110 n k0_pay60 (k0_pay101 (((Scalar.ofBits .f32 0x00000000#32))) (k0_pay99 k0_pay60) (k0_pay100 (View.ld x1 r_S1x64x16_S1x16x16_0_48_0))) (k0_pay102 ((row0 i))) (k0_pay104 ((row0 i)) (k0_pay98 (View.ld x0 r_S1x64x16x512_S1x16x16x512_0_48_0_0)) (((Scalar.ofBits .f32 0x00000000#32))) (k0_pay99 k0_pay60) (k0_pay100 (View.ld x1 r_S1x64x16_S1x16x16_0_48_0)) (View.ld x2 r_S1x64x16x64_S1x16x16x64_0_48_0_0) (View.ld x3 r_S1x896x512_S1x512x512_0_0_0) (View.ld r r_S896x64_S512x64_0_0) (View.ld k r_S1x896_S1x512_0_0)) (k0_pay105 ((row0 i)) (k0_pay98 (View.ld x0 r_S1x64x16x512_S1x16x16x512_0_48_0_0)) (((Scalar.ofBits .f32 0x00000000#32))) (k0_pay99 k0_pay60) (k0_pay100 (View.ld x1 r_S1x64x16_S1x16x16_0_48_0)) (View.ld x2 r_S1x64x16x64_S1x16x16x64_0_48_0_0) (View.ld x3 r_S1x896x512_S1x512x512_0_0_0) (View.ld r r_S896x64_S512x64_0_0) (View.ld k r_S1x896_S1x512_0_0)))

/-- The block of outputs the branch of 512 keys leaves. -/
def out2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16x512 .bf16 :=
  View.canon [⟨r_S1x64x16x512_S1x16x16x512_0_48_0_0, o2_3 i n x0 x1 x2 x3 u r k⟩, ⟨r_S1x64x16x512_S1x16x16x512_0_32_0_0, o2_2 i n x0 x1 x2 x3 u r k⟩, ⟨r_S1x64x16x512_S1x16x16x512_0_16_0_0, o2_1 i n x0 x1 x2 x3 u r k⟩, ⟨r_S1x64x16x512_S1x16x16x512_0_0_0_0, o2_0 i n x0 x1 x2 x3 u r k⟩]

/-- The block of log-sum-exps the branch of 512 keys leaves. -/
def lse2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16 .f32 :=
  View.canon [⟨r_S1x64x16_S1x16x16_0_48_0, l2_3 i n x0 x1 x2 x3 u r k⟩, ⟨r_S1x64x16_S1x16x16_0_32_0, l2_2 i n x0 x1 x2 x3 u r k⟩, ⟨r_S1x64x16_S1x16x16_0_16_0, l2_1 i n x0 x1 x2 x3 u r k⟩, ⟨r_S1x64x16_S1x16x16_0_0_0, l2_0 i n x0 x1 x2 x3 u r k⟩]

/-- What the branch of 768 keys stores as the outputs of its tokens 0 to 15. -/
def o3_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay121 n ((row0 i)) (k0_pay112 (View.ld x1 r_S1x64x16_S1x16x16_0_0_0)) (k0_pay113 (View.ld x0 r_S1x64x16x512_S1x16x16x512_0_0_0_0) (View.ld x1 r_S1x64x16_S1x16x16_0_0_0) (View.ld x2 r_S1x64x16x64_S1x16x16x64_0_0_0_0) (View.ld x3 r_S1x896x512_S1x768x512_0_0_0) (View.ld r r_S896x64_S768x64_0_0) (View.ld k r_S1x896_S1x768_0_0)) k0_pay114 (View.ld u r_S896x512_S768x512_0_0)

/-- What the branch of 768 keys stores as the log-sum-exps of its tokens 0 to 15. -/
def l3_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay123 k0_pay111 (k0_pay122 n ((row0 i)) (k0_pay112 (View.ld x1 r_S1x64x16_S1x16x16_0_0_0)) (k0_pay113 (View.ld x0 r_S1x64x16x512_S1x16x16x512_0_0_0_0) (View.ld x1 r_S1x64x16_S1x16x16_0_0_0) (View.ld x2 r_S1x64x16x64_S1x16x16x64_0_0_0_0) (View.ld x3 r_S1x896x512_S1x768x512_0_0_0) (View.ld r r_S896x64_S768x64_0_0) (View.ld k r_S1x896_S1x768_0_0)) k0_pay114)

/-- What the branch of 768 keys stores as the outputs of its tokens 16 to 31. -/
def o3_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay134 (k0_pay133 n ((row0 i)) (k0_pay124 k0_pay111 (View.ld x1 r_S1x64x16_S1x16x16_0_16_0)) (k0_pay125 k0_pay111 (View.ld x1 r_S1x64x16_S1x16x16_0_16_0) (View.ld x2 r_S1x64x16x64_S1x16x16x64_0_16_0_0)) (k0_pay126 (View.ld x0 r_S1x64x16x512_S1x16x16x512_0_16_0_0) (View.ld x3 r_S1x896x512_S1x768x512_0_0_0)) (View.ld r r_S896x64_S768x64_0_0) (View.ld k r_S1x896_S1x768_0_0) (View.ld u r_S896x512_S768x512_0_0))

/-- What the branch of 768 keys stores as the log-sum-exps of its tokens 16 to 31. -/
def l3_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay135 k0_pay111 (k0_pay124 k0_pay111 (View.ld x1 r_S1x64x16_S1x16x16_0_16_0)) (k0_pay129 ((row0 i)) (k0_pay125 k0_pay111 (View.ld x1 r_S1x64x16_S1x16x16_0_16_0) (View.ld x2 r_S1x64x16x64_S1x16x16x64_0_16_0_0)) (k0_pay126 (View.ld x0 r_S1x64x16x512_S1x16x16x512_0_16_0_0) (View.ld x3 r_S1x896x512_S1x768x512_0_0_0)) (View.ld r r_S896x64_S768x64_0_0) (View.ld k r_S1x896_S1x768_0_0)) (k0_pay131 ((row0 i)) (k0_pay124 k0_pay111 (View.ld x1 r_S1x64x16_S1x16x16_0_16_0)) (k0_pay125 k0_pay111 (View.ld x1 r_S1x64x16_S1x16x16_0_16_0) (View.ld x2 r_S1x64x16x64_S1x16x16x64_0_16_0_0)) (k0_pay126 (View.ld x0 r_S1x64x16x512_S1x16x16x512_0_16_0_0) (View.ld x3 r_S1x896x512_S1x768x512_0_0_0)) (View.ld r r_S896x64_S768x64_0_0) (View.ld k r_S1x896_S1x768_0_0)) (k0_pay132 (F := F) n ((row0 i)))

/-- What the branch of 768 keys stores as the outputs of its tokens 32 to 47. -/
def o3_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay147 (k0_pay144 ((row0 i)) (k0_pay136 (View.ld x0 r_S1x64x16x512_S1x16x16x512_0_32_0_0)) (k0_pay137 k0_pay111 (View.ld x1 r_S1x64x16_S1x16x16_0_32_0)) (k0_pay138 (View.ld x2 r_S1x64x16x64_S1x16x16x64_0_32_0_0)) (View.ld x3 r_S1x896x512_S1x768x512_0_0_0) (View.ld r r_S896x64_S768x64_0_0) (View.ld k r_S1x896_S1x768_0_0) (View.ld u r_S896x512_S768x512_0_0)) (k0_pay145 (F := F) n ((row0 i))) (k0_pay146 ((row0 i)) (k0_pay136 (View.ld x0 r_S1x64x16x512_S1x16x16x512_0_32_0_0)) (k0_pay137 k0_pay111 (View.ld x1 r_S1x64x16_S1x16x16_0_32_0)) (k0_pay138 (View.ld x2 r_S1x64x16x64_S1x16x16x64_0_32_0_0)) (View.ld x3 r_S1x896x512_S1x768x512_0_0_0) (View.ld r r_S896x64_S768x64_0_0) (View.ld k r_S1x896_S1x768_0_0))

/-- What the branch of 768 keys stores as the log-sum-exps of its tokens 32 to 47. -/
def l3_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay148 k0_pay111 (k0_pay137 k0_pay111 (View.ld x1 r_S1x64x16_S1x16x16_0_32_0)) (k0_pay141 ((row0 i)) (k0_pay136 (View.ld x0 r_S1x64x16x512_S1x16x16x512_0_32_0_0)) (k0_pay137 k0_pay111 (View.ld x1 r_S1x64x16_S1x16x16_0_32_0)) (k0_pay138 (View.ld x2 r_S1x64x16x64_S1x16x16x64_0_32_0_0)) (View.ld x3 r_S1x896x512_S1x768x512_0_0_0) (View.ld r r_S896x64_S768x64_0_0) (View.ld k r_S1x896_S1x768_0_0)) (k0_pay143 ((row0 i)) (k0_pay136 (View.ld x0 r_S1x64x16x512_S1x16x16x512_0_32_0_0)) (k0_pay137 k0_pay111 (View.ld x1 r_S1x64x16_S1x16x16_0_32_0)) (k0_pay138 (View.ld x2 r_S1x64x16x64_S1x16x16x64_0_32_0_0)) (View.ld x3 r_S1x896x512_S1x768x512_0_0_0) (View.ld r r_S896x64_S768x64_0_0) (View.ld k r_S1x896_S1x768_0_0)) (k0_pay145 (F := F) n ((row0 i)))

/-- What the branch of 768 keys stores as the outputs of its tokens 48 to 63. -/
def o3_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay160 n (k0_pay153 ((row0 i))) (k0_pay156 ((row0 i)) (k0_pay149 (View.ld x0 r_S1x64x16x512_S1x16x16x512_0_48_0_0)) (((Scalar.ofBits .f32 0x00000000#32))) (k0_pay150 k0_pay111) (k0_pay151 (View.ld x1 r_S1x64x16_S1x16x16_0_48_0)) (View.ld x2 r_S1x64x16x64_S1x16x16x64_0_48_0_0) (View.ld x3 r_S1x896x512_S1x768x512_0_0_0) (View.ld r r_S896x64_S768x64_0_0) (View.ld k r_S1x896_S1x768_0_0)) (View.ld u r_S896x512_S768x512_0_0)

/-- What the branch of 768 keys stores as the log-sum-exps of its tokens 48 to 63. -/
def l3_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay1 (k0_pay161 n k0_pay111 (k0_pay152 (((Scalar.ofBits .f32 0x00000000#32))) (k0_pay150 k0_pay111) (k0_pay151 (View.ld x1 r_S1x64x16_S1x16x16_0_48_0))) (k0_pay153 ((row0 i))) (k0_pay155 ((row0 i)) (k0_pay149 (View.ld x0 r_S1x64x16x512_S1x16x16x512_0_48_0_0)) (((Scalar.ofBits .f32 0x00000000#32))) (k0_pay150 k0_pay111) (k0_pay151 (View.ld x1 r_S1x64x16_S1x16x16_0_48_0)) (View.ld x2 r_S1x64x16x64_S1x16x16x64_0_48_0_0) (View.ld x3 r_S1x896x512_S1x768x512_0_0_0) (View.ld r r_S896x64_S768x64_0_0) (View.ld k r_S1x896_S1x768_0_0)) (k0_pay156 ((row0 i)) (k0_pay149 (View.ld x0 r_S1x64x16x512_S1x16x16x512_0_48_0_0)) (((Scalar.ofBits .f32 0x00000000#32))) (k0_pay150 k0_pay111) (k0_pay151 (View.ld x1 r_S1x64x16_S1x16x16_0_48_0)) (View.ld x2 r_S1x64x16x64_S1x16x16x64_0_48_0_0) (View.ld x3 r_S1x896x512_S1x768x512_0_0_0) (View.ld r r_S896x64_S768x64_0_0) (View.ld k r_S1x896_S1x768_0_0)))

/-- The block of outputs the branch of 768 keys leaves. -/
def out3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16x512 .bf16 :=
  View.canon [⟨r_S1x64x16x512_S1x16x16x512_0_48_0_0, o3_3 i n x0 x1 x2 x3 u r k⟩, ⟨r_S1x64x16x512_S1x16x16x512_0_32_0_0, o3_2 i n x0 x1 x2 x3 u r k⟩, ⟨r_S1x64x16x512_S1x16x16x512_0_16_0_0, o3_1 i n x0 x1 x2 x3 u r k⟩, ⟨r_S1x64x16x512_S1x16x16x512_0_0_0_0, o3_0 i n x0 x1 x2 x3 u r k⟩]

/-- The block of log-sum-exps the branch of 768 keys leaves. -/
def lse3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16 .f32 :=
  View.canon [⟨r_S1x64x16_S1x16x16_0_48_0, l3_3 i n x0 x1 x2 x3 u r k⟩, ⟨r_S1x64x16_S1x16x16_0_32_0, l3_2 i n x0 x1 x2 x3 u r k⟩, ⟨r_S1x64x16_S1x16x16_0_16_0, l3_1 i n x0 x1 x2 x3 u r k⟩, ⟨r_S1x64x16_S1x16x16_0_0_0, l3_0 i n x0 x1 x2 x3 u r k⟩]

/-- What the branch of 896 keys stores as the outputs of its tokens 0 to 15. -/
def o4_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay172 n ((row0 i)) (k0_pay163 (View.ld x1 r_S1x64x16_S1x16x16_0_0_0)) (k0_pay164 (View.ld x0 r_S1x64x16x512_S1x16x16x512_0_0_0_0) (View.ld x1 r_S1x64x16_S1x16x16_0_0_0) (View.ld x2 r_S1x64x16x64_S1x16x16x64_0_0_0_0) (View.ld x3 r_S1x896x512_S1x896x512_0_0_0) (View.ld r r_S896x64_S896x64_0_0) (View.ld k r_S1x896_S1x896_0_0)) k0_pay165 (View.ld u r_S896x512_S896x512_0_0)

/-- What the branch of 896 keys stores as the log-sum-exps of its tokens 0 to 15. -/
def l4_0 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay174 k0_pay162 (k0_pay173 n ((row0 i)) (k0_pay163 (View.ld x1 r_S1x64x16_S1x16x16_0_0_0)) (k0_pay164 (View.ld x0 r_S1x64x16x512_S1x16x16x512_0_0_0_0) (View.ld x1 r_S1x64x16_S1x16x16_0_0_0) (View.ld x2 r_S1x64x16x64_S1x16x16x64_0_0_0_0) (View.ld x3 r_S1x896x512_S1x896x512_0_0_0) (View.ld r r_S896x64_S896x64_0_0) (View.ld k r_S1x896_S1x896_0_0)) k0_pay165)

/-- What the branch of 896 keys stores as the outputs of its tokens 16 to 31. -/
def o4_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay185 (k0_pay184 n ((row0 i)) (k0_pay175 k0_pay162 (View.ld x1 r_S1x64x16_S1x16x16_0_16_0)) (k0_pay176 k0_pay162 (View.ld x1 r_S1x64x16_S1x16x16_0_16_0) (View.ld x2 r_S1x64x16x64_S1x16x16x64_0_16_0_0)) (k0_pay177 (View.ld x0 r_S1x64x16x512_S1x16x16x512_0_16_0_0) (View.ld x3 r_S1x896x512_S1x896x512_0_0_0)) (View.ld r r_S896x64_S896x64_0_0) (View.ld k r_S1x896_S1x896_0_0) (View.ld u r_S896x512_S896x512_0_0))

/-- What the branch of 896 keys stores as the log-sum-exps of its tokens 16 to 31. -/
def l4_1 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay186 k0_pay162 (k0_pay175 k0_pay162 (View.ld x1 r_S1x64x16_S1x16x16_0_16_0)) (k0_pay180 ((row0 i)) (k0_pay176 k0_pay162 (View.ld x1 r_S1x64x16_S1x16x16_0_16_0) (View.ld x2 r_S1x64x16x64_S1x16x16x64_0_16_0_0)) (k0_pay177 (View.ld x0 r_S1x64x16x512_S1x16x16x512_0_16_0_0) (View.ld x3 r_S1x896x512_S1x896x512_0_0_0)) (View.ld r r_S896x64_S896x64_0_0) (View.ld k r_S1x896_S1x896_0_0)) (k0_pay182 ((row0 i)) (k0_pay175 k0_pay162 (View.ld x1 r_S1x64x16_S1x16x16_0_16_0)) (k0_pay176 k0_pay162 (View.ld x1 r_S1x64x16_S1x16x16_0_16_0) (View.ld x2 r_S1x64x16x64_S1x16x16x64_0_16_0_0)) (k0_pay177 (View.ld x0 r_S1x64x16x512_S1x16x16x512_0_16_0_0) (View.ld x3 r_S1x896x512_S1x896x512_0_0_0)) (View.ld r r_S896x64_S896x64_0_0) (View.ld k r_S1x896_S1x896_0_0)) (k0_pay183 (F := F) n ((row0 i)))

/-- What the branch of 896 keys stores as the outputs of its tokens 32 to 47. -/
def o4_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay198 (k0_pay195 ((row0 i)) (k0_pay187 (View.ld x0 r_S1x64x16x512_S1x16x16x512_0_32_0_0)) (k0_pay188 k0_pay162 (View.ld x1 r_S1x64x16_S1x16x16_0_32_0)) (k0_pay189 (View.ld x2 r_S1x64x16x64_S1x16x16x64_0_32_0_0)) (View.ld x3 r_S1x896x512_S1x896x512_0_0_0) (View.ld r r_S896x64_S896x64_0_0) (View.ld k r_S1x896_S1x896_0_0) (View.ld u r_S896x512_S896x512_0_0)) (k0_pay196 (F := F) n ((row0 i))) (k0_pay197 ((row0 i)) (k0_pay187 (View.ld x0 r_S1x64x16x512_S1x16x16x512_0_32_0_0)) (k0_pay188 k0_pay162 (View.ld x1 r_S1x64x16_S1x16x16_0_32_0)) (k0_pay189 (View.ld x2 r_S1x64x16x64_S1x16x16x64_0_32_0_0)) (View.ld x3 r_S1x896x512_S1x896x512_0_0_0) (View.ld r r_S896x64_S896x64_0_0) (View.ld k r_S1x896_S1x896_0_0))

/-- What the branch of 896 keys stores as the log-sum-exps of its tokens 32 to 47. -/
def l4_2 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay199 k0_pay162 (k0_pay188 k0_pay162 (View.ld x1 r_S1x64x16_S1x16x16_0_32_0)) (k0_pay192 ((row0 i)) (k0_pay187 (View.ld x0 r_S1x64x16x512_S1x16x16x512_0_32_0_0)) (k0_pay188 k0_pay162 (View.ld x1 r_S1x64x16_S1x16x16_0_32_0)) (k0_pay189 (View.ld x2 r_S1x64x16x64_S1x16x16x64_0_32_0_0)) (View.ld x3 r_S1x896x512_S1x896x512_0_0_0) (View.ld r r_S896x64_S896x64_0_0) (View.ld k r_S1x896_S1x896_0_0)) (k0_pay194 ((row0 i)) (k0_pay187 (View.ld x0 r_S1x64x16x512_S1x16x16x512_0_32_0_0)) (k0_pay188 k0_pay162 (View.ld x1 r_S1x64x16_S1x16x16_0_32_0)) (k0_pay189 (View.ld x2 r_S1x64x16x64_S1x16x16x64_0_32_0_0)) (View.ld x3 r_S1x896x512_S1x896x512_0_0_0) (View.ld r r_S896x64_S896x64_0_0) (View.ld k r_S1x896_S1x896_0_0)) (k0_pay196 (F := F) n ((row0 i)))

/-- What the branch of 896 keys stores as the outputs of its tokens 48 to 63. -/
def o4_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16x512 .bf16 :=
  k0_pay211 n (k0_pay204 ((row0 i))) (k0_pay207 ((row0 i)) (k0_pay200 (View.ld x0 r_S1x64x16x512_S1x16x16x512_0_48_0_0)) (((Scalar.ofBits .f32 0x00000000#32))) (k0_pay201 k0_pay162) (k0_pay202 (View.ld x1 r_S1x64x16_S1x16x16_0_48_0)) (View.ld x2 r_S1x64x16x64_S1x16x16x64_0_48_0_0) (View.ld x3 r_S1x896x512_S1x896x512_0_0_0) (View.ld r r_S896x64_S896x64_0_0) (View.ld k r_S1x896_S1x896_0_0)) (View.ld u r_S896x512_S896x512_0_0)

/-- What the branch of 896 keys stores as the log-sum-exps of its tokens 48 to 63. -/
def l4_3 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x16x16 .f32 :=
  k0_pay2 (k0_pay212 n k0_pay162 (k0_pay203 (((Scalar.ofBits .f32 0x00000000#32))) (k0_pay201 k0_pay162) (k0_pay202 (View.ld x1 r_S1x64x16_S1x16x16_0_48_0))) (k0_pay204 ((row0 i))) (k0_pay206 ((row0 i)) (k0_pay200 (View.ld x0 r_S1x64x16x512_S1x16x16x512_0_48_0_0)) (((Scalar.ofBits .f32 0x00000000#32))) (k0_pay201 k0_pay162) (k0_pay202 (View.ld x1 r_S1x64x16_S1x16x16_0_48_0)) (View.ld x2 r_S1x64x16x64_S1x16x16x64_0_48_0_0) (View.ld x3 r_S1x896x512_S1x896x512_0_0_0) (View.ld r r_S896x64_S896x64_0_0) (View.ld k r_S1x896_S1x896_0_0)) (k0_pay207 ((row0 i)) (k0_pay200 (View.ld x0 r_S1x64x16x512_S1x16x16x512_0_48_0_0)) (((Scalar.ofBits .f32 0x00000000#32))) (k0_pay201 k0_pay162) (k0_pay202 (View.ld x1 r_S1x64x16_S1x16x16_0_48_0)) (View.ld x2 r_S1x64x16x64_S1x16x16x64_0_48_0_0) (View.ld x3 r_S1x896x512_S1x896x512_0_0_0) (View.ld r r_S896x64_S896x64_0_0) (View.ld k r_S1x896_S1x896_0_0)))

/-- The block of outputs the branch of 896 keys leaves. -/
def out4 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16x512 .bf16 :=
  View.canon [⟨r_S1x64x16x512_S1x16x16x512_0_48_0_0, o4_3 i n x0 x1 x2 x3 u r k⟩, ⟨r_S1x64x16x512_S1x16x16x512_0_32_0_0, o4_2 i n x0 x1 x2 x3 u r k⟩, ⟨r_S1x64x16x512_S1x16x16x512_0_16_0_0, o4_1 i n x0 x1 x2 x3 u r k⟩, ⟨r_S1x64x16x512_S1x16x16x512_0_0_0_0, o4_0 i n x0 x1 x2 x3 u r k⟩]

/-- The block of log-sum-exps the branch of 896 keys leaves. -/
def lse4 (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) : Vec F S1x64x16 .f32 :=
  View.canon [⟨r_S1x64x16_S1x16x16_0_48_0, l4_3 i n x0 x1 x2 x3 u r k⟩, ⟨r_S1x64x16_S1x16x16_0_32_0, l4_2 i n x0 x1 x2 x3 u r k⟩, ⟨r_S1x64x16_S1x16x16_0_16_0, l4_1 i n x0 x1 x2 x3 u r k⟩, ⟨r_S1x64x16_S1x16x16_0_0_0, l4_0 i n x0 x1 x2 x3 u r k⟩]

theorem cover6 (p0 p1 p2 p3 : Vec F S1x16x16x512 .bf16) (y : S1x64x16x512.Idx) :
    ∃ pc ∈ ([⟨r_S1x64x16x512_S1x16x16x512_0_48_0_0, p3⟩, ⟨r_S1x64x16x512_S1x16x16x512_0_32_0_0, p2⟩, ⟨r_S1x64x16x512_S1x16x16x512_0_16_0_0, p1⟩, ⟨r_S1x64x16x512_S1x16x16x512_0_0_0_0, p0⟩] : List (View.Piece (Elt F) S1x64x16x512 .bf16)), y ∈ pc.1.set :=
  View.cover_of_tiled [⟨r_S1x64x16x512_S1x16x16x512_0_48_0_0, p3⟩, ⟨r_S1x64x16x512_S1x16x16x512_0_32_0_0, p2⟩, ⟨r_S1x64x16x512_S1x16x16x512_0_16_0_0, p1⟩, ⟨r_S1x64x16x512_S1x16x16x512_0_0_0_0, p0⟩] S1x16x16x512.size (by rfl) y
theorem cover7 (p0 p1 p2 p3 : Vec F S1x16x16 .f32) (y : S1x64x16.Idx) :
    ∃ pc ∈ ([⟨r_S1x64x16_S1x16x16_0_48_0, p3⟩, ⟨r_S1x64x16_S1x16x16_0_32_0, p2⟩, ⟨r_S1x64x16_S1x16x16_0_16_0, p1⟩, ⟨r_S1x64x16_S1x16x16_0_0_0, p0⟩] : List (View.Piece (Elt F) S1x64x16 .f32)), y ∈ pc.1.set :=
  View.cover_of_tiled [⟨r_S1x64x16_S1x16x16_0_48_0, p3⟩, ⟨r_S1x64x16_S1x16x16_0_32_0, p2⟩, ⟨r_S1x64x16_S1x16x16_0_16_0, p1⟩, ⟨r_S1x64x16_S1x16x16_0_0_0, p0⟩] S1x16x16.size (by rfl) y
theorem cover6_pad (p : Vec F S1x64x16x512 .bf16) (y : S1x64x16x512.Idx) :
    ∃ pc ∈ ([⟨r_S1x64x16x512_S1x64x16x512_0_0_0_0, p⟩] : List (View.Piece (Elt F) S1x64x16x512 .bf16)), y ∈ pc.1.set :=
  View.cover_of_tiled [⟨r_S1x64x16x512_S1x64x16x512_0_0_0_0, p⟩] S1x64x16x512.size (by rfl) y
theorem cover7_pad (p : Vec F S1x64x16 .f32) (y : S1x64x16.Idx) :
    ∃ pc ∈ ([⟨r_S1x64x16_S1x64x16_0_0_0, p⟩] : List (View.Piece (Elt F) S1x64x16 .f32)), y ∈ pc.1.set :=
  View.cover_of_tiled [⟨r_S1x64x16_S1x64x16_0_0_0, p⟩] S1x64x16.size (by rfl) y

theorem cover11 (p : Vec F S896x512 .bf16) (y : S896x512.Idx) :
    ∃ pc ∈ ([⟨r_S896x512_S896x512_0_0, p⟩] : List (View.Piece (Elt F) S896x512 .bf16)), y ∈ pc.1.set :=
  View.cover_of_tiled [⟨r_S896x512_S896x512_0_0, p⟩] S896x512.size (by rfl) y
theorem cover12 (p : Vec F S896x64 .bf16) (y : S896x64.Idx) :
    ∃ pc ∈ ([⟨r_S896x64_S896x64_0_0, p⟩] : List (View.Piece (Elt F) S896x64 .bf16)), y ∈ pc.1.set :=
  View.cover_of_tiled [⟨r_S896x64_S896x64_0_0, p⟩] S896x64.size (by rfl) y
theorem cover13 (p : Vec F S1x896 .f32) (y : S1x896.Idx) :
    ∃ pc ∈ ([⟨r_S1x896_S1x896_0_0, p⟩] : List (View.Piece (Elt F) S1x896 .f32)), y ∈ pc.1.set :=
  View.cover_of_tiled [⟨r_S1x896_S1x896_0_0, p⟩] S1x896.size (by rfl) y

/-- What the first column of a sequence leaves in the scratch buffers. -/
def scr0 (s : Vec F S1x896 .f32) (x3 : Vec F S1x896x512 .fp8e4m3) : Vec F S896x512 .bf16 := View.canon [⟨r_S896x512_S896x512_0_0, setValues s x3⟩]
def scr1 (s : Vec F S1x896 .f32) (x5 : Vec F S1x896x64 .bf16) : Vec F S896x64 .bf16 := View.canon [⟨r_S896x64_S896x64_0_0, setRopes s x5⟩]
def scr2 (s : Vec F S1x896 .f32) : Vec F S1x896 .f32 := View.canon [⟨r_S1x896_S1x896_0_0, setScale s⟩]

/-- An assertion under a name, kept from being read. -/
def hid (P : sProp 𝕄) : sProp 𝕄 := P

/-- What a branch without tokens leaves. -/
def outPad : Vec F S1x64x16x512 .bf16 := View.canon [⟨r_S1x64x16x512_S1x64x16x512_0_0_0_0, k0_pay3⟩]
def lsePad : Vec F S1x64x16 .f32 := View.canon [⟨r_S1x64x16_S1x64x16_0_0_0, k0_pay4⟩]

end Cert.KernelIdeal.Run

end
-- ==== Proof.KernelIdeal.Run1.lean ====
/- The kernel's body past the first column of a sequence, in the branch of 256 keys. -/
module

public import proofs.«01_k».proof.Proof.KernelIdeal.Tiles

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body past the first column of a sequence, in the branch of 256 keys: on whole buffers that hold the blocks `x0` to `x5` and scratch contents `u`, `r`, `k`, it runs to the
    continuation holding the inputs as they were, the scratch as it was, and the two outputs at the stated blocks. -/
theorem run_1 (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hc1 : ¬k0_cond1 i = 1#1) (hc2 : k0_cond2 i (lenW i xt) = 1#1) (hc3 : ¬k0_cond3 i (lenW i xt) = 1#1) (hc4 : ¬k0_cond4 i (lenW i xt) = 1#1) (hc5 : ¬k0_cond5 i (lenW i xt) = 1#1) (hc6 : ¬k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ owns (c : Thread nD τ) arg11 fullShare u ∗ owns (c : Thread nD τ) arg12 fullShare r ∗ owns (c : Thread nD τ) arg13 fullShare k
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare (out1 i (lenW i xt) x0 x1 x2 x3 u r k) ∗ owns (c : Thread nD τ) arg10 fullShare (lse1 i (lenW i xt) x0 x1 x2 x3 u r k) ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%f11, %hf11, H11⟩, ⟨%f12, %hf12, H12⟩, ⟨%f13, %hf13, H13⟩, Hk⟩
  subst hf3; subst hf4; subst hf5; subst hf6; subst hf7; subst hf8; subst hf11; subst hf12; subst hf13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6 _ _ _ _)
  isplitl [H10]
  · iexists _; isplitr; swap; · iexact H10
    ipureintro; exact View.read_writes_eq_canon _ _ _ (cover7 _ _ _ _)
  isplitl [H11]
  · iexists _; isplitr; · ipureintro; rfl
    iexact H11
  isplitl [H12]
  · iexists _; isplitr; · ipureintro; rfl
    iexact H12
  iexists _; isplitr; · ipureintro; rfl
  iexact H13

end Cert.KernelIdeal.Run

end
-- ==== Proof.KernelIdeal.Run2.lean ====
/- The kernel's body past the first column of a sequence, in the branch of 512 keys. -/
module

public import proofs.«01_k».proof.Proof.KernelIdeal.Run1

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body past the first column of a sequence, in the branch of 512 keys: on whole buffers that hold the blocks `x0` to `x5` and scratch contents `u`, `r`, `k`, it runs to the
    continuation holding the inputs as they were, the scratch as it was, and the two outputs at the stated blocks. -/
theorem run_2 (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hc1 : ¬k0_cond1 i = 1#1) (hc2 : ¬k0_cond2 i (lenW i xt) = 1#1) (hc3 : k0_cond3 i (lenW i xt) = 1#1) (hc4 : ¬k0_cond4 i (lenW i xt) = 1#1) (hc5 : ¬k0_cond5 i (lenW i xt) = 1#1) (hc6 : ¬k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ owns (c : Thread nD τ) arg11 fullShare u ∗ owns (c : Thread nD τ) arg12 fullShare r ∗ owns (c : Thread nD τ) arg13 fullShare k
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare (out2 i (lenW i xt) x0 x1 x2 x3 u r k) ∗ owns (c : Thread nD τ) arg10 fullShare (lse2 i (lenW i xt) x0 x1 x2 x3 u r k) ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%f11, %hf11, H11⟩, ⟨%f12, %hf12, H12⟩, ⟨%f13, %hf13, H13⟩, Hk⟩
  subst hf3; subst hf4; subst hf5; subst hf6; subst hf7; subst hf8; subst hf11; subst hf12; subst hf13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6 _ _ _ _)
  isplitl [H10]
  · iexists _; isplitr; swap; · iexact H10
    ipureintro; exact View.read_writes_eq_canon _ _ _ (cover7 _ _ _ _)
  isplitl [H11]
  · iexists _; isplitr; · ipureintro; rfl
    iexact H11
  isplitl [H12]
  · iexists _; isplitr; · ipureintro; rfl
    iexact H12
  iexists _; isplitr; · ipureintro; rfl
  iexact H13

end Cert.KernelIdeal.Run

end
-- ==== Proof.KernelIdeal.Run3.lean ====
/- The kernel's body past the first column of a sequence, in the branch of 768 keys. -/
module

public import proofs.«01_k».proof.Proof.KernelIdeal.Run2

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body past the first column of a sequence, in the branch of 768 keys: on whole buffers that hold the blocks `x0` to `x5` and scratch contents `u`, `r`, `k`, it runs to the
    continuation holding the inputs as they were, the scratch as it was, and the two outputs at the stated blocks. -/
theorem run_3 (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hc1 : ¬k0_cond1 i = 1#1) (hc2 : ¬k0_cond2 i (lenW i xt) = 1#1) (hc3 : ¬k0_cond3 i (lenW i xt) = 1#1) (hc4 : k0_cond4 i (lenW i xt) = 1#1) (hc5 : ¬k0_cond5 i (lenW i xt) = 1#1) (hc6 : ¬k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ owns (c : Thread nD τ) arg11 fullShare u ∗ owns (c : Thread nD τ) arg12 fullShare r ∗ owns (c : Thread nD τ) arg13 fullShare k
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare (out3 i (lenW i xt) x0 x1 x2 x3 u r k) ∗ owns (c : Thread nD τ) arg10 fullShare (lse3 i (lenW i xt) x0 x1 x2 x3 u r k) ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%f11, %hf11, H11⟩, ⟨%f12, %hf12, H12⟩, ⟨%f13, %hf13, H13⟩, Hk⟩
  subst hf3; subst hf4; subst hf5; subst hf6; subst hf7; subst hf8; subst hf11; subst hf12; subst hf13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6 _ _ _ _)
  isplitl [H10]
  · iexists _; isplitr; swap; · iexact H10
    ipureintro; exact View.read_writes_eq_canon _ _ _ (cover7 _ _ _ _)
  isplitl [H11]
  · iexists _; isplitr; · ipureintro; rfl
    iexact H11
  isplitl [H12]
  · iexists _; isplitr; · ipureintro; rfl
    iexact H12
  iexists _; isplitr; · ipureintro; rfl
  iexact H13

end Cert.KernelIdeal.Run

end
-- ==== Proof.KernelIdeal.Run4.lean ====
/- The kernel's body past the first column of a sequence, in the branch of 896 keys. -/
module

public import proofs.«01_k».proof.Proof.KernelIdeal.Run3

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body past the first column of a sequence, in the branch of 896 keys: on whole buffers that hold the blocks `x0` to `x5` and scratch contents `u`, `r`, `k`, it runs to the
    continuation holding the inputs as they were, the scratch as it was, and the two outputs at the stated blocks. -/
theorem run_4 (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hc1 : ¬k0_cond1 i = 1#1) (hc2 : ¬k0_cond2 i (lenW i xt) = 1#1) (hc3 : ¬k0_cond3 i (lenW i xt) = 1#1) (hc4 : ¬k0_cond4 i (lenW i xt) = 1#1) (hc5 : k0_cond5 i (lenW i xt) = 1#1) (hc6 : ¬k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ owns (c : Thread nD τ) arg11 fullShare u ∗ owns (c : Thread nD τ) arg12 fullShare r ∗ owns (c : Thread nD τ) arg13 fullShare k
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare (out4 i (lenW i xt) x0 x1 x2 x3 u r k) ∗ owns (c : Thread nD τ) arg10 fullShare (lse4 i (lenW i xt) x0 x1 x2 x3 u r k) ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%f11, %hf11, H11⟩, ⟨%f12, %hf12, H12⟩, ⟨%f13, %hf13, H13⟩, Hk⟩
  subst hf3; subst hf4; subst hf5; subst hf6; subst hf7; subst hf8; subst hf11; subst hf12; subst hf13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6 _ _ _ _)
  isplitl [H10]
  · iexists _; isplitr; swap; · iexact H10
    ipureintro; exact View.read_writes_eq_canon _ _ _ (cover7 _ _ _ _)
  isplitl [H11]
  · iexists _; isplitr; · ipureintro; rfl
    iexact H11
  isplitl [H12]
  · iexists _; isplitr; · ipureintro; rfl
    iexact H12
  iexists _; isplitr; · ipureintro; rfl
  iexact H13

end Cert.KernelIdeal.Run

end
-- ==== Proof.KernelIdeal.RunPad.lean ====
/- The kernel's body past the first column of a sequence, in the branch without tokens. -/
module

public import proofs.«01_k».proof.Proof.KernelIdeal.Run4

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body past the first column of a sequence, in the branch without tokens: on whole buffers that hold the blocks `x0` to `x5` and scratch contents `u`, `r`, `k`, it runs to the
    continuation holding the inputs as they were, the scratch as it was, and the two outputs at the stated blocks. -/
theorem run_Pad (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hc1 : ¬k0_cond1 i = 1#1) (hc2 : ¬k0_cond2 i (lenW i xt) = 1#1) (hc3 : ¬k0_cond3 i (lenW i xt) = 1#1) (hc4 : ¬k0_cond4 i (lenW i xt) = 1#1) (hc5 : ¬k0_cond5 i (lenW i xt) = 1#1) (hc6 : k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ owns (c : Thread nD τ) arg11 fullShare u ∗ owns (c : Thread nD τ) arg12 fullShare r ∗ owns (c : Thread nD τ) arg13 fullShare k
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare outPad ∗ owns (c : Thread nD τ) arg10 fullShare lsePad ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%f11, %hf11, H11⟩, ⟨%f12, %hf12, H12⟩, ⟨%f13, %hf13, H13⟩, Hk⟩
  subst hf3; subst hf4; subst hf5; subst hf6; subst hf7; subst hf8; subst hf11; subst hf12; subst hf13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6_pad _)
  isplitl [H10]
  · iexists _; isplitr; swap; · iexact H10
    ipureintro; exact View.read_writes_eq_canon _ _ _ (cover7_pad _)
  isplitl [H11]
  · iexists _; isplitr; · ipureintro; rfl
    iexact H11
  isplitl [H12]
  · iexists _; isplitr; · ipureintro; rfl
    iexact H12
  iexists _; isplitr; · ipureintro; rfl
  iexact H13

end Cert.KernelIdeal.Run

end
-- ==== Proof.KernelIdeal.RunS1.lean ====
/- The kernel's body in the first column of a sequence, in the branch of 256 keys. -/
module

public import proofs.«01_k».proof.Proof.KernelIdeal.RunPad

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in the first column of a sequence, in the branch of 256 keys: on whole buffers that hold the blocks `x0` to `x5`, it runs to the
    continuation holding the inputs as they were, the scratch buffers set, and the two outputs at the stated blocks. -/
theorem run_S1 (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hu : scr0 (csRow (i 0).val (batch_lt i) x4) x3 = u) (hr : scr1 (csRow (i 0).val (batch_lt i) x4) x5 = r) (hk : scr2 (csRow (i 0).val (batch_lt i) x4) = k)
    (hc1 : k0_cond1 i = 1#1) (hc : k0_cond2 i (lenW i xt) = 1#1 ∧ ¬k0_cond3 i (lenW i xt) = 1#1 ∧ ¬k0_cond4 i (lenW i xt) = 1#1 ∧ ¬k0_cond5 i (lenW i xt) = 1#1 ∧ ¬k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare (out1 i (lenW i xt) x0 x1 x2 x3 u r k) ∗ owns (c : Thread nD τ) arg10 fullShare (lse1 i (lenW i xt) x0 x1 x2 x3 u r k) ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  rw [show (owns (c : Thread nD τ) arg3 fullShare x0 : sProp 𝕄) = hid (owns (c : Thread nD τ) arg3 fullShare x0) from rfl]
  unfold owns
  iintro ⟨H3, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%d11, %f11, -, H11⟩, ⟨%d12, %f12, -, H12⟩, ⟨%d13, %f13, -, H13⟩, Hk⟩
  subst hf4; subst hf5; subst hf6; subst hf7; subst hf8
  sl_exec (disch := first | sl_exact hc1)
  ihave H11' : owns (c : Thread nD τ) arg11 fullShare u $$ [H11]
  · unfold owns; iexists _; isplitr; swap; · iexact H11
    ipureintro; rw [← hu]; exact View.read_writes_eq_canon _ _ _ (cover11 _)
  ihave H12' : owns (c : Thread nD τ) arg12 fullShare r $$ [H12]
  · unfold owns; iexists _; isplitr; swap; · iexact H12
    ipureintro; rw [← hr]; exact View.read_writes_eq_canon _ _ _ (cover12 _)
  ihave H13' : owns (c : Thread nD τ) arg13 fullShare k $$ [H13]
  · unfold owns; iexists _; isplitr; swap; · iexact H13
    ipureintro; rw [← hk]; exact View.read_writes_eq_canon _ _ _ (cover13 _)
  unfold hid owns
  icases H3 with ⟨%f3, %hf3, H3⟩
  icases H11' with ⟨%g11, %hg11, H11⟩
  icases H12' with ⟨%g12, %hg12, H12⟩
  icases H13' with ⟨%g13, %hg13, H13⟩
  clear hu hr hk
  obtain ⟨hc2, hc3, hc4, hc5, hc6⟩ := hc
  subst hf3; subst hg11; subst hg12; subst hg13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6 _ _ _ _)
  isplitl [H10]
  · iexists _; isplitr; swap; · iexact H10
    ipureintro; exact View.read_writes_eq_canon _ _ _ (cover7 _ _ _ _)
  isplitl [H11]
  · iexists _; isplitr; · ipureintro; rfl
    iexact H11
  isplitl [H12]
  · iexists _; isplitr; · ipureintro; rfl
    iexact H12
  iexists _; isplitr; · ipureintro; rfl
  iexact H13

end Cert.KernelIdeal.Run

end
-- ==== Proof.KernelIdeal.RunSPad.lean ====
/- The kernel's body in the first column of a sequence, in the branch without tokens. -/
module

public import proofs.«01_k».proof.Proof.KernelIdeal.RunS1

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in the first column of a sequence, in the branch without tokens: on whole buffers that hold the blocks `x0` to `x5`, it runs to the
    continuation holding the inputs as they were, the scratch buffers set, and the two outputs at the stated blocks. -/
theorem run_SPad (c : Dev nD) (i : grid0.Coords) (arg3 : Memref sig .tc .vmem S1x64x16x512 .fp8e4m3) (harg3 : arg3.IsWhole) (arg4 : Memref sig .tc .vmem S1x64x16 .f32) (harg4 : arg4.IsWhole) (arg5 : Memref sig .tc .vmem S1x64x16x64 .bf16) (harg5 : arg5.IsWhole) (arg6 : Memref sig .tc .vmem S1x896x512 .fp8e4m3) (harg6 : arg6.IsWhole) (arg7 : Memref sig .tc .vmem S2x896 .f32) (harg7 : arg7.IsWhole) (arg8 : Memref sig .tc .vmem S1x896x64 .bf16) (harg8 : arg8.IsWhole) (arg9 : Memref sig .tc .vmem S1x64x16x512 .bf16) (harg9 : arg9.IsWhole) (arg10 : Memref sig .tc .vmem S1x64x16 .f32) (harg10 : arg10.IsWhole) (arg11 : Memref sig .tc .vmem S896x512 .bf16) (harg11 : arg11.IsWhole) (arg12 : Memref sig .tc .vmem S896x64 .bf16) (harg12 : arg12.IsWhole) (arg13 : Memref sig .tc .vmem S1x896 .f32) (harg13 : arg13.IsWhole)
    (xt : tbM.view.ty.Contents (Elt F)) (x0 : Vec F S1x64x16x512 .fp8e4m3) (x1 : Vec F S1x64x16 .f32) (x2 : Vec F S1x64x16x64 .bf16) (x3 : Vec F S1x896x512 .fp8e4m3) (x4 : Vec F S2x896 .f32) (x5 : Vec F S1x896x64 .bf16)
    (u : Vec F S896x512 .bf16) (r : Vec F S896x64 .bf16) (k : Vec F S1x896 .f32) (hu : scr0 (csRow (i 0).val (batch_lt i) x4) x3 = u) (hr : scr1 (csRow (i 0).val (batch_lt i) x4) x5 = r) (hk : scr2 (csRow (i 0).val (batch_lt i) x4) = k)
    (hc1 : k0_cond1 i = 1#1) (hc : ¬k0_cond2 i (lenW i xt) = 1#1 ∧ ¬k0_cond3 i (lenW i xt) = 1#1 ∧ ¬k0_cond4 i (lenW i xt) = 1#1 ∧ ¬k0_cond5 i (lenW i xt) = 1#1 ∧ k0_cond6 i (lenW i xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM xt ∗ owns (c : Thread nD τ) arg9 fullShare outPad ∗ owns (c : Thread nD τ) arg10 fullShare lsePad ∗ owns (c : Thread nD τ) arg11 fullShare u ∗ owns (c : Thread nD τ) arg12 fullShare r ∗ owns (c : Thread nD τ) arg13 fullShare k) -∗ K ⟨⟩))
      ⊢ wp frame (wpE (defs₀ (F := F)) Variants.none c none) E (cc0_mla_prompt_attention i tbM htbM arg3 harg3 arg4 harg4 arg5 harg5 arg6 harg6 arg7 harg7 arg8 harg8 arg9 harg9 arg10 harg10 arg11 harg11 arg12 harg12 arg13 harg13) K := by
  simp only [cc0_mla_prompt_attention_eq_skeleton]; unfold cc0_mla_prompt_attention_skel
  simp only [k0_part37_eq_skeleton, k0_part1_eq_skeleton]
  rw [show (owns (c : Thread nD τ) arg3 fullShare x0 : sProp 𝕄) = hid (owns (c : Thread nD τ) arg3 fullShare x0) from rfl]
  unfold owns
  iintro ⟨H3, ⟨%f4, %hf4, H4⟩, ⟨%f5, %hf5, H5⟩, ⟨%f6, %hf6, H6⟩, ⟨%f7, %hf7, H7⟩, ⟨%f8, %hf8, H8⟩, HT, ⟨%d9, %f9, -, H9⟩, ⟨%d10, %f10, -, H10⟩, ⟨%d11, %f11, -, H11⟩, ⟨%d12, %f12, -, H12⟩, ⟨%d13, %f13, -, H13⟩, Hk⟩
  subst hf4; subst hf5; subst hf6; subst hf7; subst hf8
  sl_exec (disch := first | sl_exact hc1)
  ihave H11' : owns (c : Thread nD τ) arg11 fullShare u $$ [H11]
  · unfold owns; iexists _; isplitr; swap; · iexact H11
    ipureintro; rw [← hu]; exact View.read_writes_eq_canon _ _ _ (cover11 _)
  ihave H12' : owns (c : Thread nD τ) arg12 fullShare r $$ [H12]
  · unfold owns; iexists _; isplitr; swap; · iexact H12
    ipureintro; rw [← hr]; exact View.read_writes_eq_canon _ _ _ (cover12 _)
  ihave H13' : owns (c : Thread nD τ) arg13 fullShare k $$ [H13]
  · unfold owns; iexists _; isplitr; swap; · iexact H13
    ipureintro; rw [← hk]; exact View.read_writes_eq_canon _ _ _ (cover13 _)
  unfold hid owns
  icases H3 with ⟨%f3, %hf3, H3⟩
  icases H11' with ⟨%g11, %hg11, H11⟩
  icases H12' with ⟨%g12, %hg12, H12⟩
  icases H13' with ⟨%g13, %hg13, H13⟩
  clear hu hr hk
  obtain ⟨hc2, hc3, hc4, hc5, hc6⟩ := hc
  subst hf3; subst hg11; subst hg12; subst hg13
  sl_exec (disch := first | sl_exact hc1 | sl_exact hc2 | sl_exact hc3 | sl_exact hc4 | sl_exact hc5 | sl_exact hc6)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HT]
  · iexact HT
  isplitl [H9]
  · iexists _; isplitr; swap; · iexact H9
    ipureintro; exact View.read_writes_eq_canon _ _ _ (cover6_pad _)
  isplitl [H10]
  · iexists _; isplitr; swap; · iexact H10
    ipureintro; exact View.read_writes_eq_canon _ _ _ (cover7_pad _)
  isplitl [H11]
  · iexists _; isplitr; · ipureintro; rfl
    iexact H11
  isplitl [H12]
  · iexists _; isplitr; · ipureintro; rfl
    iexact H12
  iexists _; isplitr; · ipureintro; rfl
  iexact H13

end Cert.KernelIdeal.Run

end
-- ==== Proof.KernelIdeal.Blocks.lean ====
/- The contents the kernel's run goes through: the scratch buffers between two grid points, and the blocks of outputs a point
   leaves, as functions of the launched arrays. -/
module

public import proofs.«01_k».proof.Proof.KernelIdeal.RunSPad

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Grid points -/

theorem coords_0 : ∀ t : Fin grid0.N, (grid0.coords t 0).val = t.val / 14 := by decide +kernel
theorem coords_1 : ∀ t : Fin grid0.N, (grid0.coords t 1).val = t.val % 14 := by decide +kernel

/-- The length of the sequence of point `t`. -/
abbrev lenP (t : Fin (cfgM m).N) : BitVec 32 := lenW (grid0.coords t) (tbl m 0)

/-! ## The inputs' blocks, at their shapes -/

def B0 (c : Dev nD) (t : Fin (cfgM m).N) : Vec F S1x64x16x512 .fp8e4m3 := iblk m c 0 t
def B1 (c : Dev nD) (t : Fin (cfgM m).N) : Vec F S1x64x16 .f32 := iblk m c 1 t
def B2 (c : Dev nD) (t : Fin (cfgM m).N) : Vec F S1x64x16x64 .bf16 := iblk m c 2 t
def B3 (c : Dev nD) (t : Fin (cfgM m).N) : Vec F S1x896x512 .fp8e4m3 := iblk m c 3 t
def B4 (c : Dev nD) (t : Fin (cfgM m).N) : Vec F S2x896 .f32 := iblk m c 4 t
def B5 (c : Dev nD) (t : Fin (cfgM m).N) : Vec F S1x896x64 .bf16 := iblk m c 5 t

/-! ## The scratch between two points -/

/-- The scaled values, the unscaled ropes and the scales of the sequence of point `t`. -/
def scrU (c : Dev nD) (t : Fin (cfgM m).N) : Vec F S896x512 .bf16 :=
  scr0 (csRow (grid0.coords t 0).val (batch_lt _) (B4 m c t)) (B3 m c t)
def scrR (c : Dev nD) (t : Fin (cfgM m).N) : Vec F S896x64 .bf16 :=
  scr1 (csRow (grid0.coords t 0).val (batch_lt _) (B4 m c t)) (B5 m c t)
def scrK (c : Dev nD) (t : Fin (cfgM m).N) : Vec F S1x896 .f32 :=
  scr2 (csRow (grid0.coords t 0).val (batch_lt _) (B4 m c t))

/-- An index of an array of three axes. -/
def at3 {s : Shape} (hr : s.rank = 3) (f : Fin 3 → Nat) (h : ∀ a : Fin s.rank, f (a.cast hr) < s.size a) : s.Idx := fun a => ⟨f (a.cast hr), h a⟩

theorem iblk3_congr (c : Dev nD) (t t' : Fin (cfgM m).N) (h : t.val / 14 = t'.val / 14) : B3 m c t = B3 m c t' := by
  have hi : cc0_transform_3 (grid0.coords t) = cc0_transform_3 (grid0.coords t') :=
    hreads0_3 _ _ fun a ha => by
      match a with
      | 0 => exact Fin.ext ((coords_0 t).trans (h.trans (coords_0 t').symm))
      | 1 => exact absurd ha (by decide)
  funext y
  refine congrArg (V m c main_arg3) (funext fun a => Fin.ext ?_)
  exact congrArg (fun f => f a * S1x896x512.size a + 1 * (y a).val) hi
theorem iblk5_congr (c : Dev nD) (t t' : Fin (cfgM m).N) (h : t.val / 14 = t'.val / 14) : B5 m c t = B5 m c t' := by
  have hi : cc0_transform_5 (grid0.coords t) = cc0_transform_5 (grid0.coords t') :=
    hreads0_5 _ _ fun a ha => by
      match a with
      | 0 => exact Fin.ext ((coords_0 t).trans (h.trans (coords_0 t').symm))
      | 1 => exact absurd ha (by decide)
  funext y
  refine congrArg (V m c main_arg5) (funext fun a => Fin.ext ?_)
  exact congrArg (fun f => f a * S1x896x64.size a + 1 * (y a).val) hi
theorem iblk4_congr (c : Dev nD) (t t' : Fin (cfgM m).N) : B4 m c t = B4 m c t' := by
  funext y
  rfl
theorem csRow_congr {b b' : Nat} (h : b = b') (hb : b < 2) (hb' : b' < 2) (x : Vec F S2x896 .f32) : csRow b hb x = csRow b' hb' x := by subst h; rfl

theorem scrU_congr (c : Dev nD) (t t' : Fin (cfgM m).N) (h : t.val / 14 = t'.val / 14) : scrU m c t = scrU m c t' := by
  unfold scrU
  rw [iblk3_congr m c t t' h, iblk4_congr m c t t', csRow_congr ((coords_0 t).trans (h.trans (coords_0 t').symm))]
theorem scrR_congr (c : Dev nD) (t t' : Fin (cfgM m).N) (h : t.val / 14 = t'.val / 14) : scrR m c t = scrR m c t' := by
  unfold scrR
  rw [iblk5_congr m c t t' h, iblk4_congr m c t t', csRow_congr ((coords_0 t).trans (h.trans (coords_0 t').symm))]
theorem scrK_congr (c : Dev nD) (t t' : Fin (cfgM m).N) (h : t.val / 14 = t'.val / 14) : scrK m c t = scrK m c t' := by
  unfold scrK
  rw [iblk4_congr m c t t', csRow_congr ((coords_0 t).trans (h.trans (coords_0 t').symm))]

/-- Before the first point the scratch holds anything; after a point, what its sequence's first point set. -/
def PhiS (c : Dev nD) : ℕ → sProp 𝕄
  | 0 => iprop((∃ d, owns (c : Thread nD τ) scM0 fullShare d) ∗ (∃ d, owns (c : Thread nD τ) scM1 fullShare d) ∗ (∃ d, owns (c : Thread nD τ) scM2 fullShare d))
  | n + 1 => if h : n < (cfgM m).N then iprop(owns (c : Thread nD τ) scM0 fullShare (scrU m c ⟨n, h⟩) ∗ owns (c : Thread nD τ) scM1 fullShare (scrR m c ⟨n, h⟩) ∗ owns (c : Thread nD τ) scM2 fullShare (scrK m c ⟨n, h⟩)) else BI.emp

theorem PhiS_succ (c : Dev nD) (t : Fin (cfgM m).N) :
    PhiS m c (t.val + 1) = iprop(owns (c : Thread nD τ) scM0 fullShare (scrU m c t) ∗ owns (c : Thread nD τ) scM1 fullShare (scrR m c t) ∗ owns (c : Thread nD τ) scM2 fullShare (scrK m c t)) := by
  exact (dif_pos t.isLt :)

theorem PhiS_any (c : Dev nD) (n : ℕ) (h : n ≤ (cfgM m).N) :
    PhiS m c n ⊢ iprop((∃ d, owns (c : Thread nD τ) scM0 fullShare d) ∗ (∃ d, owns (c : Thread nD τ) scM1 fullShare d) ∗ (∃ d, owns (c : Thread nD τ) scM2 fullShare d)) := by
  cases n with
  | zero => exact .rfl
  | succ n =>
    rw [PhiS_succ m c ⟨n, h⟩]
    iintro ⟨H0, H1, H2⟩
    isplitl [H0]; · iexists _; iexact H0
    isplitl [H1]; · iexists _; iexact H1
    iexists _; iexact H2

theorem PhiS_same (c : Dev nD) (t : Fin (cfgM m).N) (h : t.val % 14 ≠ 0) :
    PhiS m c t.val = iprop(owns (c : Thread nD τ) scM0 fullShare (scrU m c t) ∗ owns (c : Thread nD τ) scM1 fullShare (scrR m c t) ∗ owns (c : Thread nD τ) scM2 fullShare (scrK m c t)) := by
  obtain ⟨n, hn⟩ := t
  cases n with
  | zero => exact absurd rfl h
  | succ n =>
    have hn' : n < (cfgM m).N := Nat.lt_of_succ_lt hn
    have e : n / 14 = (n + 1) / 14 := by simp at h; omega
    rw [show (⟨n + 1, hn⟩ : Fin (cfgM m).N).val = (⟨n, hn'⟩ : Fin (cfgM m).N).val + 1 from rfl, PhiS_succ,
      scrU_congr m c ⟨n, hn'⟩ ⟨n + 1, hn⟩ e, scrR_congr m c ⟨n, hn'⟩ ⟨n + 1, hn⟩ e, scrK_congr m c ⟨n, hn'⟩ ⟨n + 1, hn⟩ e]

/-! ## The blocks a point leaves -/

/-- The block of outputs. -/
def outP (c : Dev nD) (t : Fin (cfgM m).N) : Vec F S1x64x16x512 .bf16 :=
  if k0_cond2 (grid0.coords t) (lenP m t) = 1#1 then out1 (grid0.coords t) (lenP m t) (B0 m c t) (B1 m c t) (B2 m c t) (B3 m c t) (scrU m c t) (scrR m c t) (scrK m c t)
  else if k0_cond3 (grid0.coords t) (lenP m t) = 1#1 then out2 (grid0.coords t) (lenP m t) (B0 m c t) (B1 m c t) (B2 m c t) (B3 m c t) (scrU m c t) (scrR m c t) (scrK m c t)
  else if k0_cond4 (grid0.coords t) (lenP m t) = 1#1 then out3 (grid0.coords t) (lenP m t) (B0 m c t) (B1 m c t) (B2 m c t) (B3 m c t) (scrU m c t) (scrR m c t) (scrK m c t)
  else if k0_cond5 (grid0.coords t) (lenP m t) = 1#1 then out4 (grid0.coords t) (lenP m t) (B0 m c t) (B1 m c t) (B2 m c t) (B3 m c t) (scrU m c t) (scrR m c t) (scrK m c t)
  else outPad
/-- The block of log-sum-exps. -/
def lseP (c : Dev nD) (t : Fin (cfgM m).N) : Vec F S1x64x16 .f32 :=
  if k0_cond2 (grid0.coords t) (lenP m t) = 1#1 then lse1 (grid0.coords t) (lenP m t) (B0 m c t) (B1 m c t) (B2 m c t) (B3 m c t) (scrU m c t) (scrR m c t) (scrK m c t)
  else if k0_cond3 (grid0.coords t) (lenP m t) = 1#1 then lse2 (grid0.coords t) (lenP m t) (B0 m c t) (B1 m c t) (B2 m c t) (B3 m c t) (scrU m c t) (scrR m c t) (scrK m c t)
  else if k0_cond4 (grid0.coords t) (lenP m t) = 1#1 then lse3 (grid0.coords t) (lenP m t) (B0 m c t) (B1 m c t) (B2 m c t) (B3 m c t) (scrU m c t) (scrR m c t) (scrK m c t)
  else if k0_cond5 (grid0.coords t) (lenP m t) = 1#1 then lse4 (grid0.coords t) (lenP m t) (B0 m c t) (B1 m c t) (B2 m c t) (B3 m c t) (scrU m c t) (scrR m c t) (scrK m c t)
  else lsePad

end Cert.KernelIdeal.Run

end
-- ==== Proof.KernelIdeal.Frame.lean ====
/- The kernel's frame: the body at every grid point between the scratch contents of Blocks.lean, the pipeline's launch over it,
   and the program's run: it terminates with its arguments unchanged, its semaphores at zero, and its results at what the
   points wrote back. -/
module

public import proofs.«01_k».proof.Proof.KernelIdeal.Blocks
public import Idealize.ShloMosaic.Lib.Claim
public import Idealize.ShloMosaic.Lib.Pipeline.Frame

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body at a point in the first column: whatever the scratch holds before. -/
theorem run_first (c : Dev nD) (t : Fin (cfgM m).N) (h1 : k0_cond1 (grid0.coords t) = 1#1) (E : Set ℕ) (K : PUnit → sProp 𝕄) :
    iprop(owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ tbPt c tbM (tbl m 0) ∗ (∃ d, owns (c : Thread nD τ) (ms6 m t) fullShare d) ∗ (∃ d, owns (c : Thread nD τ) (ms7 m t) fullShare d) ∗ (∃ d, owns (c : Thread nD τ) scM0 fullShare d) ∗ (∃ d, owns (c : Thread nD τ) scM1 fullShare d) ∗ (∃ d, owns (c : Thread nD τ) scM2 fullShare d)
        ∗ (iprop(owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ tbPt c tbM (tbl m 0) ∗ owns (c : Thread nD τ) (ms6 m t) fullShare (outP m c t) ∗ owns (c : Thread nD τ) (ms7 m t) fullShare (lseP m c t) ∗ PhiS m c (t.val + 1)) -∗ K ⟨⟩))
      ⊢ wp frame (wpE (defs₀ (F := F)) Variants.none c none) E (bodyAt m t) K := by
  have hj := (cond1_iff _).1 h1
  rw [PhiS_succ]
  rcases lt_or_ge (64 * (grid0.coords t 1).val : Int) (lenP m t).toInt with hn | hn
  · have hk : (grid0.coords t 1).val / 4 + 1 = 1 := by omega
    have h2 : k0_cond2 (grid0.coords t) (lenP m t) = 1#1 := (cond2_iff _ _).2 ⟨hn, by omega⟩
    have h3 : ¬k0_cond3 (grid0.coords t) (lenP m t) = 1#1 := fun h => by have := (cond3_iff _ _).1 h; omega
    have h4 : ¬k0_cond4 (grid0.coords t) (lenP m t) = 1#1 := fun h => by have := (cond4_iff _ _).1 h; omega
    have h5 : ¬k0_cond5 (grid0.coords t) (lenP m t) = 1#1 := fun h => by have := (cond5_iff _ _).1 h; omega
    have h6 : ¬k0_cond6 (grid0.coords t) (lenP m t) = 1#1 := fun h => by have := (cond6_iff _ _).1 h; omega
    rw [show outP m c t = out1 (grid0.coords t) (lenP m t) (B0 m c t) (B1 m c t) (B2 m c t) (B3 m c t) (scrU m c t) (scrR m c t) (scrK m c t) from by unfold outP; rw [if_pos h2], show lseP m c t = lse1 (grid0.coords t) (lenP m t) (B0 m c t) (B1 m c t) (B2 m c t) (B3 m c t) (scrU m c t) (scrR m c t) (scrK m c t) from by unfold lseP; rw [if_pos h2]]
    exact run_S1 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ rfl rfl rfl h1 ⟨h2, h3, h4, h5, h6⟩ E K
  · skip
    have h2 : ¬k0_cond2 (grid0.coords t) (lenP m t) = 1#1 := fun h => by have := (cond2_iff _ _).1 h; omega
    have h3 : ¬k0_cond3 (grid0.coords t) (lenP m t) = 1#1 := fun h => by have := (cond3_iff _ _).1 h; omega
    have h4 : ¬k0_cond4 (grid0.coords t) (lenP m t) = 1#1 := fun h => by have := (cond4_iff _ _).1 h; omega
    have h5 : ¬k0_cond5 (grid0.coords t) (lenP m t) = 1#1 := fun h => by have := (cond5_iff _ _).1 h; omega
    have h6 : k0_cond6 (grid0.coords t) (lenP m t) = 1#1 := (cond6_iff _ _).2 hn
    rw [show outP m c t = outPad from by unfold outP; rw [if_neg h2, if_neg h3, if_neg h4, if_neg h5], show lseP m c t = lsePad from by unfold lseP; rw [if_neg h2, if_neg h3, if_neg h4, if_neg h5]]
    exact run_SPad c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ rfl rfl rfl h1 ⟨h2, h3, h4, h5, h6⟩ E K

/-- The body at any other point: the scratch holds what the first column of its sequence set. -/
theorem run_rest (c : Dev nD) (t : Fin (cfgM m).N) (h1 : ¬k0_cond1 (grid0.coords t) = 1#1) (E : Set ℕ) (K : PUnit → sProp 𝕄) :
    iprop(owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ tbPt c tbM (tbl m 0) ∗ (∃ d, owns (c : Thread nD τ) (ms6 m t) fullShare d) ∗ (∃ d, owns (c : Thread nD τ) (ms7 m t) fullShare d) ∗ owns (c : Thread nD τ) scM0 fullShare (scrU m c t) ∗ owns (c : Thread nD τ) scM1 fullShare (scrR m c t) ∗ owns (c : Thread nD τ) scM2 fullShare (scrK m c t)
        ∗ (iprop(owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ tbPt c tbM (tbl m 0) ∗ owns (c : Thread nD τ) (ms6 m t) fullShare (outP m c t) ∗ owns (c : Thread nD τ) (ms7 m t) fullShare (lseP m c t) ∗ PhiS m c (t.val + 1)) -∗ K ⟨⟩))
      ⊢ wp frame (wpE (defs₀ (F := F)) Variants.none c none) E (bodyAt m t) K := by
  have hj := col_lt (grid0.coords t)
  rw [PhiS_succ]
  rcases lt_or_ge (64 * (grid0.coords t 1).val : Int) (lenP m t).toInt with hn | hn
  · have h4 : (grid0.coords t 1).val / 4 + 1 = 1 ∨ (grid0.coords t 1).val / 4 + 1 = 2 ∨ (grid0.coords t 1).val / 4 + 1 = 3 ∨ (grid0.coords t 1).val / 4 + 1 = 4 := by omega
    rcases h4 with hk | hk | hk | hk
    · skip
      have h2 : k0_cond2 (grid0.coords t) (lenP m t) = 1#1 := (cond2_iff _ _).2 ⟨hn, by omega⟩
      have h3 : ¬k0_cond3 (grid0.coords t) (lenP m t) = 1#1 := fun h => by have := (cond3_iff _ _).1 h; omega
      have h4 : ¬k0_cond4 (grid0.coords t) (lenP m t) = 1#1 := fun h => by have := (cond4_iff _ _).1 h; omega
      have h5 : ¬k0_cond5 (grid0.coords t) (lenP m t) = 1#1 := fun h => by have := (cond5_iff _ _).1 h; omega
      have h6 : ¬k0_cond6 (grid0.coords t) (lenP m t) = 1#1 := fun h => by have := (cond6_iff _ _).1 h; omega
      rw [show outP m c t = out1 (grid0.coords t) (lenP m t) (B0 m c t) (B1 m c t) (B2 m c t) (B3 m c t) (scrU m c t) (scrR m c t) (scrK m c t) from by unfold outP; rw [if_pos h2], show lseP m c t = lse1 (grid0.coords t) (lenP m t) (B0 m c t) (B1 m c t) (B2 m c t) (B3 m c t) (scrU m c t) (scrR m c t) (scrK m c t) from by unfold lseP; rw [if_pos h2]]
      exact run_1 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ h1 h2 h3 h4 h5 h6 E K
    · skip
      have h2 : ¬k0_cond2 (grid0.coords t) (lenP m t) = 1#1 := fun h => by have := (cond2_iff _ _).1 h; omega
      have h3 : k0_cond3 (grid0.coords t) (lenP m t) = 1#1 := (cond3_iff _ _).2 ⟨hn, by omega⟩
      have h4 : ¬k0_cond4 (grid0.coords t) (lenP m t) = 1#1 := fun h => by have := (cond4_iff _ _).1 h; omega
      have h5 : ¬k0_cond5 (grid0.coords t) (lenP m t) = 1#1 := fun h => by have := (cond5_iff _ _).1 h; omega
      have h6 : ¬k0_cond6 (grid0.coords t) (lenP m t) = 1#1 := fun h => by have := (cond6_iff _ _).1 h; omega
      rw [show outP m c t = out2 (grid0.coords t) (lenP m t) (B0 m c t) (B1 m c t) (B2 m c t) (B3 m c t) (scrU m c t) (scrR m c t) (scrK m c t) from by unfold outP; rw [if_neg h2, if_pos h3], show lseP m c t = lse2 (grid0.coords t) (lenP m t) (B0 m c t) (B1 m c t) (B2 m c t) (B3 m c t) (scrU m c t) (scrR m c t) (scrK m c t) from by unfold lseP; rw [if_neg h2, if_pos h3]]
      exact run_2 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ h1 h2 h3 h4 h5 h6 E K
    · skip
      have h2 : ¬k0_cond2 (grid0.coords t) (lenP m t) = 1#1 := fun h => by have := (cond2_iff _ _).1 h; omega
      have h3 : ¬k0_cond3 (grid0.coords t) (lenP m t) = 1#1 := fun h => by have := (cond3_iff _ _).1 h; omega
      have h4 : k0_cond4 (grid0.coords t) (lenP m t) = 1#1 := (cond4_iff _ _).2 ⟨hn, by omega⟩
      have h5 : ¬k0_cond5 (grid0.coords t) (lenP m t) = 1#1 := fun h => by have := (cond5_iff _ _).1 h; omega
      have h6 : ¬k0_cond6 (grid0.coords t) (lenP m t) = 1#1 := fun h => by have := (cond6_iff _ _).1 h; omega
      rw [show outP m c t = out3 (grid0.coords t) (lenP m t) (B0 m c t) (B1 m c t) (B2 m c t) (B3 m c t) (scrU m c t) (scrR m c t) (scrK m c t) from by unfold outP; rw [if_neg h2, if_neg h3, if_pos h4], show lseP m c t = lse3 (grid0.coords t) (lenP m t) (B0 m c t) (B1 m c t) (B2 m c t) (B3 m c t) (scrU m c t) (scrR m c t) (scrK m c t) from by unfold lseP; rw [if_neg h2, if_neg h3, if_pos h4]]
      exact run_3 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ h1 h2 h3 h4 h5 h6 E K
    · skip
      have h2 : ¬k0_cond2 (grid0.coords t) (lenP m t) = 1#1 := fun h => by have := (cond2_iff _ _).1 h; omega
      have h3 : ¬k0_cond3 (grid0.coords t) (lenP m t) = 1#1 := fun h => by have := (cond3_iff _ _).1 h; omega
      have h4 : ¬k0_cond4 (grid0.coords t) (lenP m t) = 1#1 := fun h => by have := (cond4_iff _ _).1 h; omega
      have h5 : k0_cond5 (grid0.coords t) (lenP m t) = 1#1 := (cond5_iff _ _).2 ⟨hn, by omega⟩
      have h6 : ¬k0_cond6 (grid0.coords t) (lenP m t) = 1#1 := fun h => by have := (cond6_iff _ _).1 h; omega
      rw [show outP m c t = out4 (grid0.coords t) (lenP m t) (B0 m c t) (B1 m c t) (B2 m c t) (B3 m c t) (scrU m c t) (scrR m c t) (scrK m c t) from by unfold outP; rw [if_neg h2, if_neg h3, if_neg h4, if_pos h5], show lseP m c t = lse4 (grid0.coords t) (lenP m t) (B0 m c t) (B1 m c t) (B2 m c t) (B3 m c t) (scrU m c t) (scrR m c t) (scrK m c t) from by unfold lseP; rw [if_neg h2, if_neg h3, if_neg h4, if_pos h5]]
      exact run_4 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ h1 h2 h3 h4 h5 h6 E K
  · skip
    have h2 : ¬k0_cond2 (grid0.coords t) (lenP m t) = 1#1 := fun h => by have := (cond2_iff _ _).1 h; omega
    have h3 : ¬k0_cond3 (grid0.coords t) (lenP m t) = 1#1 := fun h => by have := (cond3_iff _ _).1 h; omega
    have h4 : ¬k0_cond4 (grid0.coords t) (lenP m t) = 1#1 := fun h => by have := (cond4_iff _ _).1 h; omega
    have h5 : ¬k0_cond5 (grid0.coords t) (lenP m t) = 1#1 := fun h => by have := (cond5_iff _ _).1 h; omega
    have h6 : k0_cond6 (grid0.coords t) (lenP m t) = 1#1 := (cond6_iff _ _).2 hn
    rw [show outP m c t = outPad from by unfold outP; rw [if_neg h2, if_neg h3, if_neg h4, if_neg h5], show lseP m c t = lsePad from by unfold lseP; rw [if_neg h2, if_neg h3, if_neg h4, if_neg h5]]
    exact run_Pad c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _) scM2 (Memref.isWhole_whole _) (tbl m 0) (B0 m c t) (B1 m c t) (B2 m c t) (B3 m c t) (B4 m c t) (B5 m c t) _ _ _ h1 h2 h3 h4 h5 h6 E K

/-! ## The proof data -/

/-- The arrays as launched; after the body at a point each input's buffer at its block and each output's at the block the
    point computes; between the points the scratch, the register and half the table. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outP m c t
    | ⟨7, _⟩ => lseP m c t
  Φ k := iprop((PhiS m c k.val ∗ (∃ r, prngReg c r)) ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = outP m c t := by dsimp only [dats]; try rfl
theorem after_7 (c : Dev nD) (t : Fin (cfgM m).N) : (dats m 0 c).after 7 t = lseP m c t := by dsimp only [dats]; try rfl
theorem before_0 (c : Dev nD) (t : Fin (cfgM m).N) (d) : (dats m 0 c).before 0 t d = iblk m c 0 t :=
  before0_of m (dats m 0 c) (A_eq m c 0) (after_0 m c) t d
theorem before_1 (c : Dev nD) (t : Fin (cfgM m).N) (d) : (dats m 0 c).before 1 t d = iblk m c 1 t :=
  before1_of m (dats m 0 c) (A_eq m c 1) (after_1 m c) t d
theorem before_2 (c : Dev nD) (t : Fin (cfgM m).N) (d) : (dats m 0 c).before 2 t d = iblk m c 2 t :=
  before2_of m (dats m 0 c) (A_eq m c 2) (after_2 m c) t d
theorem before_3 (c : Dev nD) (t : Fin (cfgM m).N) (d) : (dats m 0 c).before 3 t d = iblk m c 3 t :=
  before3_of m (dats m 0 c) (A_eq m c 3) (after_3 m c) t d
theorem before_4 (c : Dev nD) (t : Fin (cfgM m).N) (d) : (dats m 0 c).before 4 t d = iblk m c 4 t :=
  before4_of m (dats m 0 c) (A_eq m c 4) (after_4 m c) t d
theorem before_5 (c : Dev nD) (t : Fin (cfgM m).N) (d) : (dats m 0 c).before 5 t d = iblk m c 5 t :=
  before5_of m (dats m 0 c) (A_eq m c 5) (after_5 m c) t d

theorem Phi_at (c : Dev nD) (k : Fin ((cfgM m).N + 1)) (n : ℕ) (h : k.val = n) :
    (dats m 0 c).Φ k = iprop((PhiS m c n ∗ (∃ r, prngReg c r)) ∗ Pipeline.ΦT pre0 (tbl m) c) := by
  subst h
  dsimp only [dats]

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d)) ∗ (∃ d, owns (c : Thread nD τ) (ms1 m t) fullShare ((dats m 0 c).before 1 t d)) ∗ (∃ d, owns (c : Thread nD τ) (ms2 m t) fullShare ((dats m 0 c).before 2 t d)) ∗ (∃ d, owns (c : Thread nD τ) (ms3 m t) fullShare ((dats m 0 c).before 3 t d)) ∗ (∃ d, owns (c : Thread nD τ) (ms4 m t) fullShare ((dats m 0 c).before 4 t d)) ∗ (∃ d, owns (c : Thread nD τ) (ms5 m t) fullShare ((dats m 0 c).before 5 t d)) ∗ (∃ d, owns (c : Thread nD τ) (ms6 m t) fullShare ((dats m 0 c).before 6 t d)) ∗ (∃ d, owns (c : Thread nD τ) (ms7 m t) fullShare ((dats m 0 c).before 7 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t) ∗ owns (c : Thread nD τ) (ms1 m t) fullShare ((dats m 0 c).after 1 t) ∗ owns (c : Thread nD τ) (ms2 m t) fullShare ((dats m 0 c).after 2 t) ∗ owns (c : Thread nD τ) (ms3 m t) fullShare ((dats m 0 c).after 3 t) ∗ owns (c : Thread nD τ) (ms4 m t) fullShare ((dats m 0 c).after 4 t) ∗ owns (c : Thread nD τ) (ms5 m t) fullShare ((dats m 0 c).after 5 t) ∗ owns (c : Thread nD τ) (ms6 m t) fullShare ((dats m 0 c).after 6 t) ∗ owns (c : Thread nD τ) (ms7 m t) fullShare ((dats m 0 c).after 7 t))

theorem Phi_castSucc (c : Dev nD) (t : Fin (cfgM m).N) :
    (dats m 0 c).Φ t.castSucc = iprop((PhiS m c t.val ∗ (∃ r, prngReg c r)) ∗ tbPt c tbM (tbl m 0)) := by
  rw [← PhiT_eq]
  exact Phi_at m c t.castSucc t.val (Fin.val_castSucc t)
theorem Phi_succ (c : Dev nD) (t : Fin (cfgM m).N) :
    (dats m 0 c).Φ t.succ = iprop((PhiS m c (t.val + 1) ∗ (∃ r, prngReg c r)) ∗ tbPt c tbM (tbl m 0)) := by
  rw [← PhiT_eq]
  exact Phi_at m c t.succ (t.val + 1) (Fin.val_succ t)
theorem owes_succ (c : Dev nD) (t : Fin (cfgM m).N) : (dats m 0 c).owesAt () t.succ = (dats m 0 c).owesAt () t.castSucc := rfl

set_option maxHeartbeats 1000000 in
/-- The body at any point, between the invariants. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost
  simp only [before_0, before_1, before_2, before_3, before_4, before_5]
  rw [after_0, after_1, after_2, after_3, after_4, after_5, after_6, after_7, Phi_castSucc, Phi_succ, owes_succ]
  by_cases h1 : k0_cond1 (grid0.coords t) = 1#1
  · iintro ⟨⟨⟨HS, Hg⟩, HT⟩, HW, ⟨%d0, H0⟩, ⟨%d1, H1⟩, ⟨%d2, H2⟩, ⟨%d3, H3⟩, ⟨%d4, H4⟩, ⟨%d5, H5⟩, ⟨%d6, H6⟩, ⟨%d7, H7⟩⟩
    ihave HS' : iprop((∃ d, owns (c : Thread nD τ) scM0 fullShare d) ∗ (∃ d, owns (c : Thread nD τ) scM1 fullShare d) ∗ (∃ d, owns (c : Thread nD τ) scM2 fullShare d)) $$ [HS]
    · iapply (PhiS_any m c t.val (le_of_lt t.isLt)); iexact HS
    icases HS' with ⟨HS0, HS1, HS2⟩
    iapply (run_first m c t h1 Set.univ _)
    isplitl [H0]; · iexact H0
    isplitl [H1]; · iexact H1
    isplitl [H2]; · iexact H2
    isplitl [H3]; · iexact H3
    isplitl [H4]; · iexact H4
    isplitl [H5]; · iexact H5
    isplitl [HT]; · iexact HT
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, HT, H6, H7, HS⟩
    isplitl [HS Hg HT]
    · isplitl [HS Hg]
      · isplitl [HS]
        · iexact HS
        iexact Hg
      iexact HT
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_same m c t (by rw [cond1_iff, coords_1] at h1; exact h1)]
    iintro ⟨⟨⟨⟨HS0, HS1, HS2⟩, Hg⟩, HT⟩, HW, ⟨%d0, H0⟩, ⟨%d1, H1⟩, ⟨%d2, H2⟩, ⟨%d3, H3⟩, ⟨%d4, H4⟩, ⟨%d5, H5⟩, ⟨%d6, H6⟩, ⟨%d7, H7⟩⟩
    iapply (run_rest m c t h1 Set.univ _)
    isplitl [H0]; · iexact H0
    isplitl [H1]; · iexact H1
    isplitl [H2]; · iexact H2
    isplitl [H3]; · iexact H3
    isplitl [H4]; · iexact H4
    isplitl [H5]; · iexact H5
    isplitl [HT]; · iexact HT
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, HT, H6, H7, HS⟩
    isplitl [HS Hg HT]
    · isplitl [HS Hg]
      · isplitl [HS]
        · iexact HS
        iexact Hg
      iexact HT
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
/-- No window is idle: what the body hands back is each window's buffer at its contents. -/
theorem body_obligation (c : Dev nD) : BodyObligation (dats (F := F) m 0 c) (defs₀ (F := F)) Variants.none () Set.univ := fun t => by
  rw [bigSep_W0, bigSep_W0, defs₀_row m]
  have i6 : idle0 (tbl m) 6 ((pcfg0.gridAt (tbl m)).coords t) = false := never_idle (tbl m) 6 (grid0.coords t)
  have i7 : idle0 (tbl m) 7 ((pcfg0.gridAt (tbl m)).coords t) = false := never_idle (tbl m) 7 (grid0.coords t)
  simp only [i6, i7]
  exact triple_restated (sound_body m c t) rfl .rfl fun _ => .rfl

set_option backward.isDefEq.respectTransparency.types false in
/-- The launch: every window's array at what the points wrote back to it, every other buffer as launched, and every
    semaphore at zero. -/
theorem run_main_quiescent : θ_run defs (onTc (τ := τ) (main (F := F))) (s₀ m ρ) (fun r => Pipeline.FramePost ((Pipeline.pin pcfgs fun _ => adm m)) (dats m) 0 (V m) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := fun c => by rw [PhiA_eq]; exact .rfl)
    (hout := fun c => by
      rw [PhiA_eq]
      change iprop((PhiS m c ((cfgM m).N) ∗ (∃ r, prngReg c r)) ∗ Pipeline.ΦT pre0 (tbl m) c) ⊢ _
      iintro ⟨⟨HS, Hg⟩, -⟩
      isplitl [HS]
      · iapply (PhiS_any m c _ le_rfl); iexact HS
      iexact Hg)
    (hQ' := fun _ h => h)

theorem arg6_rest : main_arg6 ∈ Pipeline.restRefs sig spec0 := by decide

/-- Every argument ends as launched, and every semaphore at zero. -/
theorem frame_run : θ_run defs (onTc (τ := τ) (main (F := F))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun r h => ⟨fun c =>
    ⟨((h.1 c).1 0).trans (((dats m 0 c).arrAt_in 0 rfl _).trans (A_eq m c 0)),
     ((h.1 c).1 1).trans (((dats m 0 c).arrAt_in 1 rfl _).trans (A_eq m c 1)),
     ((h.1 c).1 2).trans (((dats m 0 c).arrAt_in 2 rfl _).trans (A_eq m c 2)),
     ((h.1 c).1 3).trans (((dats m 0 c).arrAt_in 3 rfl _).trans (A_eq m c 3)),
     ((h.1 c).1 4).trans (((dats m 0 c).arrAt_in 4 rfl _).trans (A_eq m c 4)),
     ((h.1 c).1 5).trans (((dats m 0 c).arrAt_in 5 rfl _).trans (A_eq m c 5)),
     ((h.1 c).2 main_arg6 arg6_rest)⟩, h.2⟩) (run_main_quiescent m ρ)

end Cert.KernelIdeal.Run

end
-- ==== Proof.Preserves.lean ====
/- The named constants: each float constant of a program is, in its idealization, the real number of its name, and the
   constant itself where the program is run on machine numbers. -/
module

public import proofs.«01_k».proof.Defs

@[expose] public section

noncomputable section

namespace Cert.Preserves

open Idealize.ShloMosaic

/-- The kernel's two constants: the scale of its scores in base two, and the logarithm of two. -/
theorem kernel : Cert.preserves_Kernel_KernelIdeal :=
  ⟨IdealRules.named_const.statement Cert.KernelIdeal.κ "scale_log2e" .f32 0x3DD53B95#32 _ rfl,
   IdealRules.named_const.statement Cert.KernelIdeal.κ "ln2" .f32 0x3F317218#32 _ rfl⟩

/-- The reference's constant: the scale of its scores. -/
theorem reference : Cert.preserves_Reference_ReferenceIdeal :=
  IdealRules.named_const.statement Cert.ReferenceIdeal.κ "scale" .f32 0x3D93CD3A#32 _ rfl

end Cert.Preserves

end
-- ==== Proof.Select.lean ====
/- Selections by comparisons of words: what the kernel's and the reference's masks and masked sums pick. -/
module

public import proofs.«01_k».proof.Proof.Words
public import Idealize.ShloMosaic.PureOps.Ideal
public import Mathlib.Algebra.BigOperators.Fin

@[expose] public section

namespace Cert.Words

open Idealize.ShloMosaic

theorem select_ofBool {α : Type} (p : Prop) [Decidable p] (x y : α) :
    Scalar.select (BitVec.ofBool (decide p)) x y = if p then x else y := by
  unfold Scalar.select
  by_cases h : p <;> simp [h]

theorem toInt_ofNat {a : ℕ} (h : a < 2 ^ 31) : (BitVec.ofNat 32 a).toInt = (a : Int) :=
  toInt_eq (Affine.ofNat a ⟨rfl, by simpa using h⟩)

/-- Selecting by `a ≤ b` of two small words. -/
theorem select_sle {α : Type} {a b : ℕ} (ha : a < 2 ^ 31) (hb : b < 2 ^ 31) (x y : α) :
    Scalar.select (IntOp.cmpi CmpIPredicate.sle (BitVec.ofNat 32 a) (BitVec.ofNat 32 b)) x y = if a ≤ b then x else y := by
  rw [WordCmp.cmpi_sle_eq, select_ofBool, toInt_ofNat ha, toInt_ofNat hb]
  simp only [Int.ofNat_le]

/-- Selecting by `a < n` of a small word and any word. -/
theorem select_slt {α : Type} {a : ℕ} (ha : a < 2 ^ 31) (n : BitVec 32) (x y : α) :
    Scalar.select (IntOp.cmpi CmpIPredicate.slt (BitVec.ofNat 32 a) n) x y = if (a : Int) < n.toInt then x else y := by
  rw [WordCmp.cmpi_slt_eq, select_ofBool, toInt_ofNat ha]

theorem select_eq {α : Type} {a b : ℕ} (ha : a < 2 ^ 31) (hb : b < 2 ^ 31) (x y : α) :
    Scalar.select (IntOp.cmpi CmpIPredicate.eq (BitVec.ofNat 32 a) (BitVec.ofNat 32 b)) x y = if a = b then x else y := by
  rw [WordCmp.cmpi_eq_eq, select_ofBool]
  refine if_congr ⟨fun h => ?_, fun h => by rw [h]⟩ rfl rfl
  have := congrArg BitVec.toInt h
  rw [toInt_ofNat ha, toInt_ofNat hb] at this
  exact_mod_cast this

/-- A sum of the entries at index `k` alone is the entry. -/
theorem sum_pick_left {N : ℕ} (hN : N ≤ 2 ^ 31) (k : Fin N) (f : Fin N → EReal) :
    ∑ x : Fin N, Scalar.select (IntOp.cmpi CmpIPredicate.eq (BitVec.ofNat 32 k.val) (BitVec.ofNat 32 x.val)) (f x) 0 = f k := by
  rw [Finset.sum_eq_single k]
  · rw [select_eq (by omega) (by omega), if_pos rfl]
  · intro x _ hx
    rw [select_eq (by omega) (by omega), if_neg fun h => hx (Fin.ext h.symm)]
  · exact fun h => absurd (Finset.mem_univ k) h

theorem sum_pick_right {N : ℕ} (hN : N ≤ 2 ^ 31) (k : Fin N) (f : Fin N → EReal) :
    ∑ x : Fin N, Scalar.select (IntOp.cmpi CmpIPredicate.eq (BitVec.ofNat 32 x.val) (BitVec.ofNat 32 k.val)) (f x) 0 = f k := by
  rw [Finset.sum_eq_single k]
  · rw [select_eq (by omega) (by omega), if_pos rfl]
  · intro x _ hx
    rw [select_eq (by omega) (by omega), if_neg fun h => hx (Fin.ext h)]
  · exact fun h => absurd (Finset.mem_univ k) h

/-- The word of `-∞` is `-∞`, and that of `+∞` is `+∞`. -/
theorem ofBits_bot : Ideal.ofBits FTy.f32 0xFF800000#32 = ⊥ := by simp [Ideal.ofBits, Ideal.ieee]
theorem ofBits_top : Ideal.ofBits FTy.f32 0x7F800000#32 = ⊤ := by simp [Ideal.ofBits, Ideal.ieee]

end Cert.Words
-- ==== Proof.Row.lean ====
/- One query row of causal attention over the extended reals, as the reference and as the kernel compute it, and that the
   two agree. The kernel folds the query's scale and the logarithm's base into the exponent, and sums over a prefix of the
   keys; nothing is asked of the codes and the ropes, which may be infinite. -/
module

public import Idealize.ShloMosaic.PureOps.Ideal
public import Mathlib.Data.EReal.Operations
public import Mathlib.Data.EReal.Inv
public import Mathlib.Analysis.SpecialFunctions.Pow.Real

@[expose] public section

noncomputable section

namespace Cert.Row

open Idealize.ShloMosaic

variable {K N : ℕ}

/-- The scores with the keys after token `t` masked by `-∞`. -/
def mask (t : ℕ) (s : Fin K → EReal) (κ : Fin K) : EReal := if κ.val ≤ t then s κ else ⊥

/-- The largest of the scores. -/
def top (v : Fin K → EReal) : EReal := Finset.fold max ⊥ v Finset.univ

/-- The reference's score of a key: codes and ropes dotted, the codes' product scaled by both scales. -/
def score (q : Fin 512 → EReal) (qr : Fin 64 → EReal) (g σ : ℝ) (C : Fin K → Fin 512 → EReal) (R : Fin K → Fin 64 → EReal)
    (a : Fin K → ℝ) (κ : Fin K) : EReal :=
  ((∑ x, q x * C κ x) * g * a κ + ∑ x, qr x * R κ x) * σ

/-- The kernel's score of a key: the ropes divided by the scales, the key's scale multiplied last. -/
def kscore (q : Fin 512 → EReal) (qr : Fin 64 → EReal) (g σ : ℝ) (C : Fin K → Fin 512 → EReal) (R : Fin K → Fin 64 → EReal)
    (a : Fin K → ℝ) (κ : Fin K) : EReal :=
  (∑ x, q x * C κ x + ∑ x, Ideal.div (qr x) g * Ideal.div (R κ x) (a κ)) * ((a κ : EReal) * ((σ * (Real.log 2)⁻¹ : ℝ) : EReal))

/-- The reference's weight of a key, before the division by the total. -/
def weight (v : Fin K → EReal) (κ : Fin K) : EReal := Ideal.exp (v κ - top v)
/-- The kernel's weight of a key. -/
def kweight (g : EReal) (v : Fin K → EReal) (κ : Fin K) : EReal := Ideal.exp2 ((v κ - top v) * g)

/-- The reference's output at one position: the values weighted, over the total of the weights. -/
def out (v : Fin K → EReal) (a c : Fin K → EReal) : EReal := Ideal.div (∑ κ, weight v κ * a κ * c κ) (∑ κ, weight v κ)
/-- The kernel's output at one position, of values already scaled. -/
def kout (g : EReal) (v u : Fin K → EReal) : EReal := Ideal.div (∑ κ, kweight g v κ * u κ) (∑ κ, kweight g v κ)

/-- The reference's log-sum-exp. -/
def lse (v : Fin K → EReal) : EReal := top v + Ideal.log (∑ κ, weight v κ)
/-- The kernel's log-sum-exp. -/
def klse (g : EReal) (v : Fin K → EReal) : EReal :=
  top v * g * ((Real.log 2 : ℝ) : EReal) + Ideal.log (∑ κ, kweight g v κ)

/-! Positive real factors over the extended reals. -/

theorem add_mul_coe {r : ℝ} (h : 0 ≤ r) (x y : EReal) : (x + y) * (r : EReal) = x * r + y * r :=
  EReal.right_distrib_of_nonneg_of_ne_top (EReal.coe_nonneg.2 h) (EReal.coe_ne_top r) x y

theorem sub_mul_coe {r : ℝ} (h : 0 ≤ r) (x y : EReal) : (x - y) * (r : EReal) = x * r - y * r := by
  rw [sub_eq_add_neg, add_mul_coe h, EReal.neg_mul, ← sub_eq_add_neg]

theorem sum_mul_coe {ι : Type*} (s : Finset ι) (f : ι → EReal) {r : ℝ} (h : 0 ≤ r) :
    (∑ i ∈ s, f i) * (r : EReal) = ∑ i ∈ s, f i * r := by
  classical
  induction s using Finset.induction_on with
  | empty => simp
  | insert a s ha ih => rw [Finset.sum_insert ha, Finset.sum_insert ha, add_mul_coe h, ih]

theorem exp_mul_log (z : EReal) : Ideal.exp (z * ((Real.log 2 : ℝ) : EReal)) = Ideal.exp2 z := by
  have hl : 0 < Real.log 2 := Real.log_pos one_lt_two
  induction z with
  | bot => rw [EReal.bot_mul_coe_of_pos hl]; rfl
  | top => rw [EReal.top_mul_coe_of_pos hl]; rfl
  | coe x =>
    rw [← EReal.coe_mul, Ideal.exp_coe, Ideal.exp2_coe]
    congr 1
    show Real.exp (x * Real.log 2) = (2 : ℝ) ^ x
    rw [Real.rpow_def_of_pos two_pos, mul_comm]

theorem le_top (v : Fin K → EReal) (κ : Fin K) : v κ ≤ top v :=
  Finset.le_sup (f := v) (Finset.mem_univ κ)

theorem top_le {v : Fin K → EReal} {b : EReal} (h : ∀ κ, v κ ≤ b) : top v ≤ b :=
  Finset.sup_le (f := v) fun κ _ => h κ

/-- A positive factor comes out of the maximum. -/
theorem top_mul {r : ℝ} (h : 0 < r) (v : Fin K → EReal) : top (fun κ => v κ * (r : EReal)) = top v * r := by
  have hr : (0 : EReal) ≤ r := EReal.coe_nonneg.2 h.le
  refine le_antisymm (top_le fun κ => mul_le_mul_of_nonneg_right (le_top v κ) hr) ?_
  have hi : (0 : EReal) ≤ ((r⁻¹ : ℝ) : EReal) := EReal.coe_nonneg.2 (inv_pos.2 h).le
  have h1 : top v ≤ top (fun κ => v κ * (r : EReal)) * ((r⁻¹ : ℝ) : EReal) := top_le fun κ => by
    have := mul_le_mul_of_nonneg_right (le_top (fun κ => v κ * (r : EReal)) κ) hi
    rwa [mul_assoc, ← EReal.coe_mul, mul_inv_cancel₀ h.ne', EReal.coe_one, mul_one] at this
  have h2 := mul_le_mul_of_nonneg_right h1 hr
  rwa [mul_assoc, ← EReal.coe_mul, inv_mul_cancel₀ h.ne', EReal.coe_one, mul_one] at h2

/-! The scores. -/

/-- The reference's score is the kernel's times the query's scale and the logarithm of two. -/
theorem score_eq (q : Fin 512 → EReal) (qr : Fin 64 → EReal) {g σ : ℝ} (hg : 0 < g) (hσ : 0 < σ) (C : Fin K → Fin 512 → EReal)
    (R : Fin K → Fin 64 → EReal) (a : Fin K → ℝ) (ha : ∀ κ, 0 < a κ) (κ : Fin K) :
    score q qr g σ C R a κ = kscore q qr g σ C R a κ * ((g * Real.log 2 : ℝ) : EReal) := by
  have hl : 0 < Real.log 2 := Real.log_pos one_lt_two
  have hk := ha κ
  have hB : ∑ x, Ideal.div (qr x) g * Ideal.div (R κ x) (a κ) = (∑ x, qr x * R κ x) * ((1 / g * (1 / a κ) : ℝ) : EReal) := by
    rw [sum_mul_coe _ _ (by positivity)]
    refine Finset.sum_congr rfl fun x _ => ?_
    rw [Ideal.div_coe hg.ne', Ideal.div_coe hk.ne', EReal.coe_mul]
    exact mul_mul_mul_comm _ _ _ _
  unfold score kscore
  rw [hB]
  generalize (∑ x, q x * C κ x) = A
  generalize (∑ x, qr x * R κ x) = B
  have hr : 0 ≤ a κ * (σ * (Real.log 2)⁻¹) * (g * Real.log 2) := by positivity
  rw [add_mul_coe hσ.le, mul_assoc (A + _), ← EReal.coe_mul, ← EReal.coe_mul, add_mul_coe hr, mul_assoc B, ← EReal.coe_mul,
    mul_assoc A, ← EReal.coe_mul, mul_assoc A, ← EReal.coe_mul]
  congr 3
  · field_simp
  · field_simp

theorem mask_mul {r : ℝ} (h : 0 < r) (t : ℕ) {s s' : Fin K → EReal} (hs : ∀ κ, s κ = s' κ * (r : EReal)) :
    mask t s = fun κ => mask t s' κ * (r : EReal) := by
  funext κ
  unfold mask
  split_ifs
  · exact hs κ
  · rw [EReal.bot_mul_coe_of_pos h]

/-! Weights, outputs and log-sum-exps of scores that differ by the factor. -/

theorem weight_eq {g : ℝ} (hg : 0 < g) (v : Fin K → EReal) (κ : Fin K) :
    weight (fun κ => v κ * ((g * Real.log 2 : ℝ) : EReal)) κ = kweight g v κ := by
  have hl : 0 < Real.log 2 := Real.log_pos one_lt_two
  unfold weight kweight
  rw [top_mul (mul_pos hg hl), ← sub_mul_coe (mul_pos hg hl).le, EReal.coe_mul, ← mul_assoc, exp_mul_log]

theorem out_eq {g : ℝ} (hg : 0 < g) (v a c : Fin K → EReal) :
    out (fun κ => v κ * ((g * Real.log 2 : ℝ) : EReal)) a c = kout g v (fun κ => c κ * a κ) := by
  unfold out kout
  simp only [weight_eq hg, mul_assoc, mul_comm (a _)]

theorem lse_eq {g : ℝ} (hg : 0 < g) (v : Fin K → EReal) :
    lse (fun κ => v κ * ((g * Real.log 2 : ℝ) : EReal)) = klse g v := by
  unfold lse klse
  rw [top_mul (mul_pos hg (Real.log_pos one_lt_two))]
  simp only [weight_eq hg]
  rw [EReal.coe_mul, ← mul_assoc]

/-! Keys past the token's add nothing: the sums and the maximum may be taken over any prefix that has the token. -/

theorem sum_prefix (h : K ≤ N) (f : Fin N → EReal) (hz : ∀ κ : Fin N, K ≤ κ.val → f κ = 0) :
    ∑ κ, f κ = ∑ κ : Fin K, f (Fin.castLE h κ) := by
  obtain ⟨L, rfl⟩ := Nat.exists_eq_add_of_le h
  rw [Fin.sum_univ_add, Finset.sum_eq_zero (s := Finset.univ) (f := fun i : Fin L => f (Fin.natAdd K i)), add_zero]
  · rfl
  · intro i _
    exact hz _ (Nat.le_add_right K i.val)

theorem top_prefix (h : K ≤ N) (f : Fin N → EReal) (hz : ∀ κ : Fin N, K ≤ κ.val → f κ = ⊥) :
    top f = top (fun κ : Fin K => f (Fin.castLE h κ)) := by
  refine le_antisymm (top_le fun κ => ?_) (top_le fun κ => le_top f _)
  by_cases hk : κ.val < K
  · exact le_top (fun κ : Fin K => f (Fin.castLE h κ)) ⟨κ.val, hk⟩
  · rw [hz κ (not_lt.1 hk)]; exact bot_le

theorem mask_prefix (h : K ≤ N) (t : ℕ) (s : Fin N → EReal) :
    (fun κ : Fin K => mask t s (Fin.castLE h κ)) = mask t fun κ => s (Fin.castLE h κ) := rfl

theorem mask_out {t : ℕ} (ht : t < K) (s : Fin N → EReal) (κ : Fin N) (hk : K ≤ κ.val) : mask t s κ = ⊥ :=
  if_neg (by omega)

theorem weight_out {t : ℕ} (ht : t < K) (s : Fin N → EReal) (κ : Fin N) (hk : K ≤ κ.val) : weight (mask t s) κ = 0 := by
  unfold weight
  rw [mask_out ht s κ hk, sub_eq_add_neg, EReal.bot_add]
  rfl

theorem weight_prefix (h : K ≤ N) {t : ℕ} (ht : t < K) (s : Fin N → EReal) (κ : Fin K) :
    weight (mask t s) (Fin.castLE h κ) = weight (mask t fun κ : Fin K => s (Fin.castLE h κ)) κ := by
  unfold weight
  rw [top_prefix h _ (mask_out ht s), mask_prefix]
  rfl

theorem out_prefix (h : K ≤ N) {t : ℕ} (ht : t < K) (s a c : Fin N → EReal) :
    out (mask t s) a c
      = out (mask t fun κ : Fin K => s (Fin.castLE h κ)) (fun κ => a (Fin.castLE h κ)) (fun κ => c (Fin.castLE h κ)) := by
  unfold out
  rw [sum_prefix h _ (weight_out ht s), sum_prefix h (fun κ => weight (mask t s) κ * a κ * c κ)
    (fun κ hk => by rw [weight_out ht s κ hk, zero_mul, zero_mul])]
  simp only [weight_prefix h ht]

theorem lse_prefix (h : K ≤ N) {t : ℕ} (ht : t < K) (s : Fin N → EReal) :
    lse (mask t s) = lse (mask t fun κ : Fin K => s (Fin.castLE h κ)) := by
  unfold lse
  rw [sum_prefix h _ (weight_out ht s), top_prefix h _ (mask_out ht s), mask_prefix]
  simp only [weight_prefix h ht]

/-! The kernel's row over the first `K` keys is the reference's over all of them. -/

section
variable (h : K ≤ N) {t : ℕ} (ht : t < K) (q : Fin 512 → EReal) (qr : Fin 64 → EReal) {g σ : ℝ} (hg : 0 < g) (hσ : 0 < σ)
  (C : Fin N → Fin 512 → EReal) (R : Fin N → Fin 64 → EReal) (a : Fin N → ℝ) (ha : ∀ κ, 0 < a κ)

include ht hg hσ ha

theorem mask_score : (mask t fun κ : Fin K => score q qr g σ C R a (Fin.castLE h κ))
    = fun κ => mask t (fun κ : Fin K => kscore q qr g σ (fun κ => C (Fin.castLE h κ)) (fun κ => R (Fin.castLE h κ)) (fun κ => a (Fin.castLE h κ)) κ) κ
        * ((g * Real.log 2 : ℝ) : EReal) :=
  mask_mul (mul_pos hg (Real.log_pos one_lt_two)) t fun κ =>
    score_eq q qr hg hσ (fun κ => C (Fin.castLE h κ)) (fun κ => R (Fin.castLE h κ)) (fun κ => a (Fin.castLE h κ)) (fun κ => ha _) κ

/-- The kernel's output is the reference's. -/
theorem kout_eq (d : Fin 512) :
    kout g (mask t (kscore q qr g σ (fun κ : Fin K => C (Fin.castLE h κ)) (fun κ => R (Fin.castLE h κ)) (fun κ => a (Fin.castLE h κ))))
        (fun κ => C (Fin.castLE h κ) d * (a (Fin.castLE h κ) : EReal))
      = out (mask t (score q qr g σ C R a)) (fun κ => (a κ : EReal)) (fun κ => C κ d) := by
  rw [out_prefix h ht, mask_score h ht q qr hg hσ C R a ha, out_eq hg]

/-- The kernel's log-sum-exp is the reference's. -/
theorem klse_eq :
    klse g (mask t (kscore q qr g σ (fun κ : Fin K => C (Fin.castLE h κ)) (fun κ => R (Fin.castLE h κ)) (fun κ => a (Fin.castLE h κ))))
      = lse (mask t (score q qr g σ C R a)) := by
  rw [lse_prefix h ht, mask_score h ht q qr hg hσ C R a ha, lse_eq hg]

end

end Cert.Row

end
-- ==== Proof.Spec.lean ====
/- Causal attention over compressed keys as one function of an index: what both programs' results are shown to be. -/
module

public import proofs.«01_k».proof.Proof.Row
public import Idealize.ShloMosaic.Lib.Pointwise

@[expose] public section

noncomputable section

namespace Cert.Spec

open Idealize.ShloMosaic

/-- The codes, the ropes and the scales of the queries and of the keys, and the two lengths. -/
structure Inputs where
  q : (⟨4, ![2, 896, 16, 512]⟩ : Shape).Idx → EReal
  g : (⟨3, ![2, 896, 16]⟩ : Shape).Idx → EReal
  qr : (⟨4, ![2, 896, 16, 64]⟩ : Shape).Idx → EReal
  C : (⟨3, ![2, 896, 512]⟩ : Shape).Idx → EReal
  a : (⟨2, ![2, 896]⟩ : Shape).Idx → EReal
  R : (⟨3, ![2, 896, 64]⟩ : Shape).Idx → EReal
  len : (⟨1, ![2]⟩ : Shape).Idx → BitVec 32

/-- The scales are positive real numbers. -/
structure Inputs.Usable (I : Inputs) : Prop where
  g_pos : ∀ i, 0 < I.g i
  g_lt : ∀ i, I.g i < ⊤
  a_pos : ∀ i, 0 < I.a i
  a_lt : ∀ i, I.a i < ⊤

variable (I : Inputs) (b : Fin 2) (t : Fin 896) (h : Fin 16)

/-- The scores of the query of head `h` at token `t`, with the keys after the token masked. -/
def scores : Fin 896 → EReal :=
  Row.mask t.val (Row.score (fun x => I.q (ix4 b t h x)) (fun x => I.qr (ix4 b t h x)) (I.g (ix3 b t h)).toReal (Real.sqrt 192)⁻¹
    (fun κ x => I.C (ix3 b κ x)) (fun κ x => I.R (ix3 b κ x)) fun κ => (I.a (ix2 b κ)).toReal)

/-- The output: the scaled values weighted by the softmax of the scores, and 0 at a token past the sequence's length. -/
def o (d : Fin 512) : EReal :=
  if (t.val : Int) < (I.len (ix1 b)).toInt then
    Row.out (scores I b t h) (fun κ => ((I.a (ix2 b κ)).toReal : EReal)) (fun κ => I.C (ix3 b κ d)) else 0

/-- The log-sum-exp of the scores, and 0 at a token past the sequence's length. -/
def l : EReal := if (t.val : Int) < (I.len (ix1 b)).toInt then Row.lse (scores I b t h) else 0

end Cert.Spec

end
-- ==== Proof.Usable.lean ====
/- What the precondition says: every scale is positive and finite. -/
module

public import proofs.«01_k».proof.Pre_usable
public import proofs.«01_k».proof.Proof.Select
public import proofs.«01_k».proof.Proof.Spec
public import Idealize.ShloMosaic.Lib.ReduceAll
public import Idealize.ShloMosaic.Lib.Affine
public import Idealize.ShloMosaic.Lib.ValueIdxCore
public import Idealize.ShloMosaic.PureOps.Ideal.Laws

@[expose] public section

noncomputable section

namespace Cert.Usable

open Idealize.ShloMosaic

/-- A comparison "greater" of extended reals that came out true. -/
theorem lt_of_ogt {x y : EReal} (h : Ideal.cmp .ogt x y = 1#1) : y < x := by
  by_contra hn
  simp [Ideal.cmp, hn] at h

/-- A comparison "less" that came out true. -/
theorem lt_of_olt {x y : EReal} (h : Ideal.cmp .olt x y = 1#1) : x < y := by
  by_contra hn
  simp [Ideal.cmp, hn] at h

instance : Subsingleton Cert.Pre_usable.S_.Idx := ⟨fun a b => funext fun k => k.elim0⟩

variable [Cert.Pre_usable.Facts]

/-- Arguments which the precondition accepts have positive finite scales. -/
theorem usable_of_fn (q : FVec Ideal Cert.Pre_usable.S2x896x16x512 .fp8e4m3) (g : FVec Ideal Cert.Pre_usable.S2x896x16 .f32)
    (qr : FVec Ideal Cert.Pre_usable.S2x896x16x64 .bf16) (C : FVec Ideal Cert.Pre_usable.S2x896x512 .fp8e4m3)
    (a : FVec Ideal Cert.Pre_usable.S2x896 .f32) (R : FVec Ideal Cert.Pre_usable.S2x896x64 .bf16) (n : IVec Cert.Pre_usable.S2 32)
    (h : Cert.Pre_usable.fn (F := Ideal) q g qr C a R n = fun _ => 1#1) :
    (Spec.Inputs.mk q g qr C a R n).Usable := by
  have h := congrFun h (fun k => k.elim0)
  obtain ⟨h, h4⟩ := IntOp.andi_eq_one.1 h
  obtain ⟨h, h3⟩ := IntOp.andi_eq_one.1 h
  obtain ⟨h1, h2⟩ := IntOp.andi_eq_one.1 h
  refine ⟨fun i => ?_, fun i => ?_, fun i => ?_, fun i => ?_⟩
  · have e := lt_of_ogt (Host.reduce_andi_all _ _ _ _ _ h1 i)
    exact (Ideal.ofBits_zero_f32).symm.trans_lt e
  · exact (lt_of_olt (Host.reduce_andi_all _ _ _ _ _ h2 i)).trans_eq Words.ofBits_top
  · have e := lt_of_ogt (Host.reduce_andi_all _ _ _ _ _ h3 i)
    exact (Ideal.ofBits_zero_f32).symm.trans_lt e
  · exact (lt_of_olt (Host.reduce_andi_all _ _ _ _ _ h4 i)).trans_eq Words.ofBits_top

end Cert.Usable

end
-- ==== Proof.KernelIdeal.Stage.lean ====
/- The steps of a tile of sixteen tokens that do not depend on the number of keys, and their readings at one row. -/
module

public import proofs.«01_k».proof.Proof.KernelIdeal.Tiles
public import proofs.«01_k».proof.Proof.Select
public import proofs.«01_k».proof.Proof.Row
public import Idealize.ShloMosaic.Lib.Pointwise
public import Idealize.ShloMosaic.PureOps.IdealRules

@[expose] public section

set_option maxRecDepth 16384

noncomputable section

namespace Cert.KernelIdeal.Run

open Cert.KernelIdeal.Gen
open Idealize.ShloMosaic Idealize.ShloMosaic.TcCoe Idealize.SL.Sem

section

variable {F : FTy → Type} [FloatOps F] [Named F]

/-- The scale of each of the 256 query rows of sixteen tokens, as a column: row `16 a + h` is token `a`, head `h`. -/
def qCol (x1 : Vec F S1x16x16 .f32) : FVec F S256x1 .f32 := k0_pay13 x1

/-- The token of each row, `base` being the tile's first. -/
def rowTok (base : BitVec 32) : IVec S256x1 32 :=
  addi (broadcast S256x1 base) (shapeCast S256x1 (iota .tc S16x16x1 32 [0] iota_S16x16x1_d0_w32) shapeCasts_S16x16x1_S256x1)

/-- Which rows are tokens of the sequence. -/
def live (n base : BitVec 32) : IVec S256x1 1 := cmpi .slt (rowTok base) (broadcast S256x1 n)

/-- The log-sum-exps of the rows as a column, from the rows' maxima, scales and totals. -/
def lseCol (n base : BitVec 32) (mx col l : FVec F S256x1 .f32) : FVec F S16x16x1 .f32 :=
  shapeCast S16x16x1 (select (live n base)
    (addf (mulf (mulf mx col) (broadcast S256x1 (Named.named κ "ln2" 0x3F317218#32 : F .f32))) (log l))
    (broadcast S256x1 (Scalar.ofBits .f32 0x00000000#32 : F .f32))) shapeCasts_S256x1_S16x16x1

/-- The column of log-sum-exps laid out by token and head. -/
def lseTile (c : FVec F S16x16x1 .f32) : FVec F S1x16x16 .f32 := k0_pay25 c (Scalar.ofBits .f32 0x00000000#32) (k0_pay24 k0_pay12)

end

/-- The row of token `a` of a tile and head `h`. -/
def row (a h : Fin 16) : Fin 256 := ⟨a.val * 16 + h.val, by omega⟩

/-- The token of a row in its tile, and its head. -/
def tokOf (r : Fin 256) : Fin 16 := ⟨r.val / 16, by omega⟩
def headOf (r : Fin 256) : Fin 16 := ⟨r.val % 16, by omega⟩

theorem tokOf_row (a h : Fin 16) : tokOf (row a h) = a :=
  Fin.ext (by show (a.val * 16 + h.val) / 16 = a.val; omega)
theorem headOf_row (a h : Fin 16) : headOf (row a h) = h :=
  Fin.ext (by show (a.val * 16 + h.val) % 16 = h.val; omega)

variable (n base : BitVec 32) (mx col l : FVec Ideal S256x1 .f32) (a h : Fin 16) (d : Fin 512) {b : ℕ}

theorem qCol_sum (x1 : Vec Ideal S1x16x16 .f32) (r : Fin 256) : qCol x1 (ix2 r 0)
    = ∑ x : Fin 16, Scalar.select (IntOp.cmpi CmpIPredicate.eq (BitVec.ofNat 32 (headOf r).val) (BitVec.ofNat 32 x.val)) (x1 (ix3 0 (tokOf r) x)) 0 := by
  pointwise [qCol, k0_pay13, k0_pay12]
  rfl

/-- The column of scales reads the scale of the row's token and head. -/
theorem qCol_apply (x1 : Vec Ideal S1x16x16 .f32) : qCol x1 (ix2 (row a h) 0) = x1 (ix3 0 a h) := by
  rw [qCol_sum, tokOf_row, headOf_row]
  exact Words.sum_pick_left (by norm_num) h fun x => x1 (ix3 0 a x)

theorem rowTok_sum (r : Fin 256) : rowTok base (ix2 r 0) = IntOp.addi base (BitVec.ofNat 32 (tokOf r).val) := by
  pointwise [rowTok]
  rfl

/-- The token of a row. -/
theorem rowTok_apply (hb : base = BitVec.ofNat 32 b) : rowTok base (ix2 (row a h) 0) = BitVec.ofNat 32 (b + a.val) := by
  rw [rowTok_sum, tokOf_row, hb]
  exact (BitVec.ofNat_add b a.val).symm

/-- Selecting by the rows that are tokens of the sequence. -/
theorem select_live {α : Type} (hb : base = BitVec.ofNat 32 b) (hlt : b + 16 ≤ 896) (x y : α) :
    Scalar.select (live n base (ix2 (row a h) 0)) x y = if ((b + a.val : ℕ) : Int) < n.toInt then x else y := by
  have : live n base (ix2 (row a h) 0) = IntOp.cmpi CmpIPredicate.slt (rowTok base (ix2 (row a h) 0)) n := rfl
  rw [this, rowTok_apply base a h hb, Words.select_slt (by omega)]

/-- The tile of log-sum-exps reads the column's row. -/
theorem lseTile_apply (c : FVec Ideal S16x16x1 .f32) : lseTile c (ix3 0 a h) = c (ix3 a h 0) := by
  pointwise [lseTile, k0_pay25, k0_pay24, k0_pay12]
  exact Words.sum_pick_right (by norm_num) h fun x => c (ix3 a x 0)

theorem ln2_eq (w : BitVec FTy.f32.bits) : Named.named (F := Ideal) κ "ln2" w = ((Real.log 2 : ℝ) : EReal) :=
  IdealRules.named_const.ideal_named_scalar κ "ln2" w _ rfl

/-- The column of log-sum-exps at a row. -/
theorem lseCol_apply (hb : base = BitVec.ofNat 32 b) (hlt : b + 16 ≤ 896) :
    lseCol n base mx col l (ix3 a h 0) = if ((b + a.val : ℕ) : Int) < n.toInt then
      mx (ix2 (row a h) 0) * col (ix2 (row a h) 0) * ((Real.log 2 : ℝ) : EReal) + Ideal.log (l (ix2 (row a h) 0)) else 0 := by
  pointwise [lseCol]
  rw [ln2_eq]
  exact select_live n base a h hb hlt _ _

end Cert.KernelIdeal.Run

end
-- ==== Proof.KernelIdeal.Reads.lean ====
/- What the body reads, at an index: its blocks sixteen tokens or K keys at a time, and its three scratch buffers. -/
module

public import proofs.«01_k».proof.Proof.KernelIdeal.Stage
public import Idealize.ShloMosaic.Lib.Pipeline.Value

@[expose] public section

set_option maxRecDepth 16384

noncomputable section

namespace Cert.KernelIdeal.Run

open Cert.KernelIdeal.Gen
open Idealize.ShloMosaic Idealize.ShloMosaic.TcCoe Idealize.SL.Sem

/-! The rectangles read: sixteen tokens of a block from token `z`, or the first `K` keys. -/

theorem ld0_0 (x : Vec Ideal S1x64x16x512 .fp8e4m3) (a h : Fin 16) (d : Fin 512) :
    View.ld x r_S1x64x16x512_S1x16x16x512_0_0_0_0 (ix4 0 a h d) = x (ix4 0 ⟨0 + a.val, by omega⟩ h d) := by
  pointwise
theorem ld1_0 (x : Vec Ideal S1x64x16 .f32) (a h : Fin 16) :
    View.ld x r_S1x64x16_S1x16x16_0_0_0 (ix3 0 a h) = x (ix3 0 ⟨0 + a.val, by omega⟩ h) := by
  pointwise
theorem ld2_0 (x : Vec Ideal S1x64x16x64 .bf16) (a h : Fin 16) (d : Fin 64) :
    View.ld x r_S1x64x16x64_S1x16x16x64_0_0_0_0 (ix4 0 a h d) = x (ix4 0 ⟨0 + a.val, by omega⟩ h d) := by
  pointwise

theorem ld0_16 (x : Vec Ideal S1x64x16x512 .fp8e4m3) (a h : Fin 16) (d : Fin 512) :
    View.ld x r_S1x64x16x512_S1x16x16x512_0_16_0_0 (ix4 0 a h d) = x (ix4 0 ⟨16 + a.val, by omega⟩ h d) := by
  pointwise
theorem ld1_16 (x : Vec Ideal S1x64x16 .f32) (a h : Fin 16) :
    View.ld x r_S1x64x16_S1x16x16_0_16_0 (ix3 0 a h) = x (ix3 0 ⟨16 + a.val, by omega⟩ h) := by
  pointwise
theorem ld2_16 (x : Vec Ideal S1x64x16x64 .bf16) (a h : Fin 16) (d : Fin 64) :
    View.ld x r_S1x64x16x64_S1x16x16x64_0_16_0_0 (ix4 0 a h d) = x (ix4 0 ⟨16 + a.val, by omega⟩ h d) := by
  pointwise

theorem ld0_32 (x : Vec Ideal S1x64x16x512 .fp8e4m3) (a h : Fin 16) (d : Fin 512) :
    View.ld x r_S1x64x16x512_S1x16x16x512_0_32_0_0 (ix4 0 a h d) = x (ix4 0 ⟨32 + a.val, by omega⟩ h d) := by
  pointwise
theorem ld1_32 (x : Vec Ideal S1x64x16 .f32) (a h : Fin 16) :
    View.ld x r_S1x64x16_S1x16x16_0_32_0 (ix3 0 a h) = x (ix3 0 ⟨32 + a.val, by omega⟩ h) := by
  pointwise
theorem ld2_32 (x : Vec Ideal S1x64x16x64 .bf16) (a h : Fin 16) (d : Fin 64) :
    View.ld x r_S1x64x16x64_S1x16x16x64_0_32_0_0 (ix4 0 a h d) = x (ix4 0 ⟨32 + a.val, by omega⟩ h d) := by
  pointwise

theorem ld0_48 (x : Vec Ideal S1x64x16x512 .fp8e4m3) (a h : Fin 16) (d : Fin 512) :
    View.ld x r_S1x64x16x512_S1x16x16x512_0_48_0_0 (ix4 0 a h d) = x (ix4 0 ⟨48 + a.val, by omega⟩ h d) := by
  pointwise
theorem ld1_48 (x : Vec Ideal S1x64x16 .f32) (a h : Fin 16) :
    View.ld x r_S1x64x16_S1x16x16_0_48_0 (ix3 0 a h) = x (ix3 0 ⟨48 + a.val, by omega⟩ h) := by
  pointwise
theorem ld2_48 (x : Vec Ideal S1x64x16x64 .bf16) (a h : Fin 16) (d : Fin 64) :
    View.ld x r_S1x64x16x64_S1x16x16x64_0_48_0_0 (ix4 0 a h d) = x (ix4 0 ⟨48 + a.val, by omega⟩ h d) := by
  pointwise

theorem ld3_256 (x : Vec Ideal S1x896x512 .fp8e4m3) (κ : Fin 256) (d : Fin 512) :
    View.ld x r_S1x896x512_S1x256x512_0_0_0 (ix3 0 κ d) = x (ix3 0 (Fin.castLE (by norm_num) κ) d) := by
  pointwise
  rfl
theorem ldU_256 (x : Vec Ideal S896x512 .bf16) (κ : Fin 256) (d : Fin 512) :
    View.ld x r_S896x512_S256x512_0_0 (ix2 κ d) = x (ix2 (Fin.castLE (by norm_num) κ) d) := by
  pointwise
  rfl
theorem ldR_256 (x : Vec Ideal S896x64 .bf16) (κ : Fin 256) (d : Fin 64) :
    View.ld x r_S896x64_S256x64_0_0 (ix2 κ d) = x (ix2 (Fin.castLE (by norm_num) κ) d) := by
  pointwise
  rfl
theorem ldK_256 (x : Vec Ideal S1x896 .f32) (κ : Fin 256) :
    View.ld x r_S1x896_S1x256_0_0 (ix2 0 κ) = x (ix2 0 (Fin.castLE (by norm_num) κ)) := by
  pointwise
  rfl

theorem ld3_512 (x : Vec Ideal S1x896x512 .fp8e4m3) (κ : Fin 512) (d : Fin 512) :
    View.ld x r_S1x896x512_S1x512x512_0_0_0 (ix3 0 κ d) = x (ix3 0 (Fin.castLE (by norm_num) κ) d) := by
  pointwise
  rfl
theorem ldU_512 (x : Vec Ideal S896x512 .bf16) (κ : Fin 512) (d : Fin 512) :
    View.ld x r_S896x512_S512x512_0_0 (ix2 κ d) = x (ix2 (Fin.castLE (by norm_num) κ) d) := by
  pointwise
  rfl
theorem ldR_512 (x : Vec Ideal S896x64 .bf16) (κ : Fin 512) (d : Fin 64) :
    View.ld x r_S896x64_S512x64_0_0 (ix2 κ d) = x (ix2 (Fin.castLE (by norm_num) κ) d) := by
  pointwise
  rfl
theorem ldK_512 (x : Vec Ideal S1x896 .f32) (κ : Fin 512) :
    View.ld x r_S1x896_S1x512_0_0 (ix2 0 κ) = x (ix2 0 (Fin.castLE (by norm_num) κ)) := by
  pointwise
  rfl

theorem ld3_768 (x : Vec Ideal S1x896x512 .fp8e4m3) (κ : Fin 768) (d : Fin 512) :
    View.ld x r_S1x896x512_S1x768x512_0_0_0 (ix3 0 κ d) = x (ix3 0 (Fin.castLE (by norm_num) κ) d) := by
  pointwise
  rfl
theorem ldU_768 (x : Vec Ideal S896x512 .bf16) (κ : Fin 768) (d : Fin 512) :
    View.ld x r_S896x512_S768x512_0_0 (ix2 κ d) = x (ix2 (Fin.castLE (by norm_num) κ) d) := by
  pointwise
  rfl
theorem ldR_768 (x : Vec Ideal S896x64 .bf16) (κ : Fin 768) (d : Fin 64) :
    View.ld x r_S896x64_S768x64_0_0 (ix2 κ d) = x (ix2 (Fin.castLE (by norm_num) κ) d) := by
  pointwise
  rfl
theorem ldK_768 (x : Vec Ideal S1x896 .f32) (κ : Fin 768) :
    View.ld x r_S1x896_S1x768_0_0 (ix2 0 κ) = x (ix2 0 (Fin.castLE (by norm_num) κ)) := by
  pointwise
  rfl

theorem ld3_896 (x : Vec Ideal S1x896x512 .fp8e4m3) (κ : Fin 896) (d : Fin 512) :
    View.ld x r_S1x896x512_S1x896x512_0_0_0 (ix3 0 κ d) = x (ix3 0 (Fin.castLE (by norm_num) κ) d) := by
  pointwise
  rfl
theorem ldU_896 (x : Vec Ideal S896x512 .bf16) (κ : Fin 896) (d : Fin 512) :
    View.ld x r_S896x512_S896x512_0_0 (ix2 κ d) = x (ix2 (Fin.castLE (by norm_num) κ) d) := by
  pointwise
  rfl
theorem ldR_896 (x : Vec Ideal S896x64 .bf16) (κ : Fin 896) (d : Fin 64) :
    View.ld x r_S896x64_S896x64_0_0 (ix2 κ d) = x (ix2 (Fin.castLE (by norm_num) κ) d) := by
  pointwise
  rfl
theorem ldK_896 (x : Vec Ideal S1x896 .f32) (κ : Fin 896) :
    View.ld x r_S1x896_S1x896_0_0 (ix2 0 κ) = x (ix2 0 (Fin.castLE (by norm_num) κ)) := by
  pointwise
  rfl

/-- The first token of the tile of sixteen from token `z` of a block. -/
theorem base_eq (i : grid0.Coords) (z : ℕ) : Scalar.addi (row0 i) (BitVec.ofNat 32 z) = BitVec.ofNat 32 (64 * (i 1).val + z) := by
  show BitVec.ofNat 32 (i 1).val * BitVec.ofNat 32 64 + BitVec.ofNat 32 z = _
  rw [← BitVec.ofNat_mul, ← BitVec.ofNat_add, Nat.mul_comm]

/-! The scratch buffers, at an index: the scales are read as a column 128 keys at a time by masked sums. -/

section
variable (s : Vec Ideal S1x896 .f32)

theorem pay7_apply (x : Fin 128) : k0_pay7 s (ix2 x 0) = s (ix2 0 ⟨0 + x.val, by omega⟩) := by
  have h : k0_pay7 s (ix2 x 0) = ∑ y : Fin 128, Scalar.select (IntOp.cmpi CmpIPredicate.eq (BitVec.ofNat 32 x.val) (BitVec.ofNat 32 y.val))
      (s (ix2 0 ⟨0 + y.val, by omega⟩)) 0 := by
    pointwise [k0_pay7, k0_pay6]
  rw [h]
  exact Words.sum_pick_left (by norm_num) x fun y => s (ix2 0 ⟨0 + y.val, by omega⟩)

theorem pay8_apply (x : Fin 128) : k0_pay8 s (ix2 x 0) = s (ix2 0 ⟨128 + x.val, by omega⟩) := by
  have h : k0_pay8 s (ix2 x 0) = ∑ y : Fin 128, Scalar.select (IntOp.cmpi CmpIPredicate.eq (BitVec.ofNat 32 x.val) (BitVec.ofNat 32 y.val))
      (s (ix2 0 ⟨128 + y.val, by omega⟩)) 0 := by
    pointwise [k0_pay8, k0_pay6]
  rw [h]
  exact Words.sum_pick_left (by norm_num) x fun y => s (ix2 0 ⟨128 + y.val, by omega⟩)

theorem pay9_apply (x : Fin 128) : k0_pay9 s (ix2 x 0) = s (ix2 0 ⟨256 + x.val, by omega⟩) := by
  have h : k0_pay9 s (ix2 x 0) = ∑ y : Fin 128, Scalar.select (IntOp.cmpi CmpIPredicate.eq (BitVec.ofNat 32 x.val) (BitVec.ofNat 32 y.val))
      (s (ix2 0 ⟨256 + y.val, by omega⟩)) 0 := by
    pointwise [k0_pay9, k0_pay6]
  rw [h]
  exact Words.sum_pick_left (by norm_num) x fun y => s (ix2 0 ⟨256 + y.val, by omega⟩)

theorem pay10_apply (x : Fin 128) : k0_pay10 s (ix2 x 0) = s (ix2 0 ⟨384 + x.val, by omega⟩) := by
  have h : k0_pay10 s (ix2 x 0) = ∑ y : Fin 128, Scalar.select (IntOp.cmpi CmpIPredicate.eq (BitVec.ofNat 32 x.val) (BitVec.ofNat 32 y.val))
      (s (ix2 0 ⟨384 + y.val, by omega⟩)) 0 := by
    pointwise [k0_pay10, k0_pay6]
  rw [h]
  exact Words.sum_pick_left (by norm_num) x fun y => s (ix2 0 ⟨384 + y.val, by omega⟩)

theorem pay11_apply (x : Fin 128) : k0_pay11 s (ix2 x 0) = s (ix2 0 ⟨512 + x.val, by omega⟩) := by
  have h : k0_pay11 s (ix2 x 0) = ∑ y : Fin 128, Scalar.select (IntOp.cmpi CmpIPredicate.eq (BitVec.ofNat 32 x.val) (BitVec.ofNat 32 y.val))
      (s (ix2 0 ⟨512 + y.val, by omega⟩)) 0 := by
    pointwise [k0_pay11, k0_pay6]
  rw [h]
  exact Words.sum_pick_left (by norm_num) x fun y => s (ix2 0 ⟨512 + y.val, by omega⟩)

/-- The scales of the keys as a column. -/
def keyCol : FVec Ideal S896x1 .f32 := k0_pay213 s k0_pay6 (k0_pay7 s) (k0_pay8 s) (k0_pay9 s) (k0_pay10 s) (k0_pay11 s)

theorem keyCol_read (k : Fin 896) : keyCol s (ix2 k 0) =
      if h : k.val < 128 then k0_pay7 s (ix2 ⟨k.val, h⟩ 0) else
      if h : k.val - 128 < 128 then k0_pay8 s (ix2 ⟨k.val - 128, h⟩ 0) else
      if h : k.val - 128 - 128 < 128 then k0_pay9 s (ix2 ⟨k.val - 128 - 128, h⟩ 0) else
      if h : k.val - 128 - 128 - 128 < 128 then k0_pay10 s (ix2 ⟨k.val - 128 - 128 - 128, h⟩ 0) else
      if h : k.val - 128 - 128 - 128 - 128 < 128 then k0_pay11 s (ix2 ⟨k.val - 128 - 128 - 128 - 128, h⟩ 0) else
      if h : k.val - 128 - 128 - 128 - 128 - 128 < 128 then ∑ x : Fin 128, Scalar.select (IntOp.cmpi CmpIPredicate.eq (BitVec.ofNat 32 (k.val - 128 - 128 - 128 - 128 - 128)) (BitVec.ofNat 32 x.val)) (s (ix2 0 ⟨640 + x.val, by omega⟩)) 0 else
      ∑ x : Fin 128, Scalar.select (IntOp.cmpi CmpIPredicate.eq (BitVec.ofNat 32 (k.val - 128 - 128 - 128 - 128 - 128 - 128)) (BitVec.ofNat 32 x.val)) (s (ix2 0 ⟨768 + x.val, by omega⟩)) 0 := by
  pointwise [keyCol, k0_pay213, k0_pay6]

theorem keyCol_apply (k : Fin 896) : keyCol s (ix2 k 0) = s (ix2 0 k) := by
  rw [keyCol_read]
  have e5 : ∀ h : k.val - 128 - 128 - 128 - 128 - 128 < 128, ∑ x : Fin 128, Scalar.select (IntOp.cmpi CmpIPredicate.eq (BitVec.ofNat 32 (k.val - 128 - 128 - 128 - 128 - 128)) (BitVec.ofNat 32 x.val)) (s (ix2 0 ⟨640 + x.val, by omega⟩)) 0 = s (ix2 0 ⟨640 + (k.val - 128 - 128 - 128 - 128 - 128), by omega⟩) := fun h =>
    Words.sum_pick_left (by norm_num) ⟨k.val - 128 - 128 - 128 - 128 - 128, h⟩ fun y => s (ix2 0 ⟨640 + y.val, by omega⟩)
  have e6 : ∑ x : Fin 128, Scalar.select (IntOp.cmpi CmpIPredicate.eq (BitVec.ofNat 32 (k.val - 128 - 128 - 128 - 128 - 128 - 128)) (BitVec.ofNat 32 x.val)) (s (ix2 0 ⟨768 + x.val, by omega⟩)) 0 = s (ix2 0 ⟨768 + (k.val - 128 - 128 - 128 - 128 - 128 - 128), by omega⟩) :=
    Words.sum_pick_left (by norm_num) ⟨k.val - 128 - 128 - 128 - 128 - 128 - 128, by omega⟩ fun y => s (ix2 0 ⟨768 + y.val, by omega⟩)
  split_ifs with h0 h1 h2 h3 h4 h5
  · rw [pay7_apply]; congr 2; exact Fin.ext (by show 0 + (k.val) = k.val; omega)
  · rw [pay8_apply]; congr 2; exact Fin.ext (by show 128 + (k.val - 128) = k.val; omega)
  · rw [pay9_apply]; congr 2; exact Fin.ext (by show 256 + (k.val - 128 - 128) = k.val; omega)
  · rw [pay10_apply]; congr 2; exact Fin.ext (by show 384 + (k.val - 128 - 128 - 128) = k.val; omega)
  · rw [pay11_apply]; congr 2; exact Fin.ext (by show 512 + (k.val - 128 - 128 - 128 - 128) = k.val; omega)
  · rw [e5 h5]; congr 2; exact Fin.ext (by show 640 + (k.val - 128 - 128 - 128 - 128 - 128) = k.val; omega)
  · rw [e6]; congr 2; exact Fin.ext (by show 768 + (k.val - 128 - 128 - 128 - 128 - 128 - 128) = k.val; omega)

theorem setValues_read (x3 : Vec Ideal S1x896x512 .fp8e4m3) (k : Fin 896) (d : Fin 512) :
    setValues s x3 (ix2 k d) = View.ld x3 r_S1x896x512_S1x896x512_0_0_0 (ix3 0 k d) * keyCol s (ix2 k 0) := by
  unfold setValues keyCol
  generalize k0_pay7 s = c7
  generalize k0_pay8 s = c8
  generalize k0_pay9 s = c9
  generalize k0_pay10 s = c10
  generalize k0_pay11 s = c11
  generalize View.ld x3 r_S1x896x512_S1x896x512_0_0_0 = x
  unfold k0_pay214
  generalize k0_pay213 s k0_pay6 c7 c8 c9 c10 c11 = c
  pointwise

theorem setRopes_read (x5 : Vec Ideal S1x896x64 .bf16) (k : Fin 896) (d : Fin 64) :
    setRopes s x5 (ix2 k d) = Ideal.div (View.ld x5 r_S1x896x64_S1x896x64_0_0_0 (ix3 0 k d)) (keyCol s (ix2 k 0)) := by
  unfold setRopes keyCol
  generalize k0_pay7 s = c7
  generalize k0_pay8 s = c8
  generalize k0_pay9 s = c9
  generalize k0_pay10 s = c10
  generalize k0_pay11 s = c11
  generalize View.ld x5 r_S1x896x64_S1x896x64_0_0_0 = x
  unfold k0_pay215
  generalize k0_pay213 s k0_pay6 c7 c8 c9 c10 c11 = c
  pointwise

/-- The values scaled. -/
theorem scr0_apply (x3 : Vec Ideal S1x896x512 .fp8e4m3) (k : Fin 896) (d : Fin 512) :
    scr0 s x3 (ix2 k d) = x3 (ix3 0 k d) * s (ix2 0 k) := by
  unfold scr0
  rw [View.canon_unit_zero (by funext a; fin_cases a <;> rfl), setValues_read, keyCol_apply, ld3_896]
  rfl

/-- The ropes over the scales. -/
theorem scr1_apply (x5 : Vec Ideal S1x896x64 .bf16) (k : Fin 896) (d : Fin 64) :
    scr1 s x5 (ix2 k d) = Ideal.div (x5 (ix3 0 k d)) (s (ix2 0 k)) := by
  unfold scr1
  rw [View.canon_unit_zero (by funext a; fin_cases a <;> rfl), setRopes_read, keyCol_apply,
    View.ld_unit_zero (by funext a; fin_cases a <;> rfl)]

/-- The scales with the score's constant. -/
theorem scr2_apply (k : Fin 896) :
    scr2 s (ix2 0 k) = s (ix2 0 k) * (((Real.sqrt 192)⁻¹ * (Real.log 2)⁻¹ : ℝ) : EReal) := by
  unfold scr2
  rw [View.canon_unit_zero (by funext a; fin_cases a <;> rfl)]
  have h : ∀ w : BitVec FTy.f32.bits, Named.named (F := Ideal) κ "scale_log2e" w = (((Real.sqrt 192)⁻¹ * (Real.log 2)⁻¹ : ℝ) : EReal) :=
    fun w => IdealRules.named_const.ideal_named_scalar κ "scale_log2e" w _ rfl
  pointwise [setScale, k0_pay5]
  rw [h]

end

theorem csRow_apply {b : ℕ} (hb : b < 2) (x4 : Vec Ideal S2x896 .f32) (k : Fin 896) : csRow b hb x4 (ix2 0 k) = x4 (ix2 ⟨b, hb⟩ k) := by
  unfold csRow
  refine congrArg x4 (funext fun a => Fin.ext ?_)
  have h : (BitVec.ofNat 32 b).toNat = b := by rw [BitVec.toNat_ofNat]; omega
  fin_cases a
  · show (Scalar.indexCast (BitVec.ofNat 32 b)).toNat + 1 * 0 = b
    simpa [Scalar.indexCast] using h
  · show 0 + 1 * k.val = k.val
    omega

end Cert.KernelIdeal.Run

end
-- ==== Proof.KernelIdeal.Rows.lean ====
/- The token of a block: its scores, its output and its log-sum-exp as the kernel computes them from the first K keys. -/
module

public import proofs.«01_k».proof.Proof.KernelIdeal.Reads

@[expose] public section

set_option maxRecDepth 16384

noncomputable section

namespace Cert.KernelIdeal.Run

open Cert.KernelIdeal.Gen
open Idealize.ShloMosaic Idealize.ShloMosaic.TcCoe Idealize.SL.Sem

section

variable (K : ℕ) (hK : K ≤ 896) (j : ℕ) (n : BitVec 32) (x0 : Vec Ideal S1x64x16x512 .fp8e4m3) (x1 : Vec Ideal S1x64x16 .f32)
  (x2 : Vec Ideal S1x64x16x64 .bf16) (x3 : Vec Ideal S1x896x512 .fp8e4m3) (u : Vec Ideal S896x512 .bf16) (r : Vec Ideal S896x64 .bf16)
  (k : Vec Ideal S1x896 .f32)

/-- The scores of a head's query at token `y` of a block against the first `K` keys, as the kernel computes them. -/
def tokScore (y : Fin 64) (h : Fin 16) (κ : Fin K) : EReal :=
  (∑ x, x0 (ix4 0 y h x) * x3 (ix3 0 (Fin.castLE hK κ) x)
    + ∑ x, Ideal.div (x2 (ix4 0 y h x)) (x1 (ix3 0 y h)) * r (ix2 (Fin.castLE hK κ) x)) * k (ix2 0 (Fin.castLE hK κ))

/-- The output at token `y` of block `j`, from the first `K` keys. -/
def tokO (y : Fin 64) (h : Fin 16) (d : Fin 512) : EReal :=
  if ((64 * j + y.val : ℕ) : Int) < n.toInt then
    Row.kout (x1 (ix3 0 y h)) (Row.mask (64 * j + y.val) (tokScore K hK x0 x1 x2 x3 r k y h)) (fun κ => u (ix2 (Fin.castLE hK κ) d)) else 0

/-- The log-sum-exp at token `y` of block `j`, from the first `K` keys. -/
def tokL (y : Fin 64) (h : Fin 16) : EReal :=
  if ((64 * j + y.val : ℕ) : Int) < n.toInt then
    Row.klse (x1 (ix3 0 y h)) (Row.mask (64 * j + y.val) (tokScore K hK x0 x1 x2 x3 r k y h)) else 0

end

theorem idx4 {a b c d : ℕ} (x : (⟨4, ![a, b, c, d]⟩ : Shape).Idx) : x = ix4 (x 0) (x 1) (x 2) (x 3) := by
  funext e; fin_cases e <;> rfl
theorem idx3 {a b c : ℕ} (x : (⟨3, ![a, b, c]⟩ : Shape).Idx) : x = ix3 (x 0) (x 1) (x 2) := by
  funext e; fin_cases e <;> rfl
theorem idxO (x : S1x16x16x512.Idx) : ∃ (a h : Fin 16) (d : Fin 512), x = ix4 0 a h d :=
  ⟨x 1, x 2, x 3, (idx4 x).trans (congrArg (fun z : Fin 1 => (ix4 z (x 1) (x 2) (x 3) : S1x16x16x512.Idx)) (Subsingleton.elim (α := Fin 1) (x 0) 0))⟩
theorem idxL (x : S1x16x16.Idx) : ∃ (a h : Fin 16), x = ix3 0 a h :=
  ⟨x 1, x 2, (idx3 x).trans (congrArg (fun z : Fin 1 => (ix3 z (x 1) (x 2) : S1x16x16.Idx)) (Subsingleton.elim (α := Fin 1) (x 0) 0))⟩

theorem pieceO_0 (G : Fin 64 → Fin 16 → Fin 512 → EReal) (a h : Fin 16) (d : Fin 512) :
    (fun y : S1x64x16x512.Idx => G (y 1) (y 2) (y 3)) (r_S1x64x16x512_S1x16x16x512_0_0_0_0.emb (ix4 0 a h d)) = G ⟨0 + a.val, by omega⟩ h d := by
  have e1 : r_S1x64x16x512_S1x16x16x512_0_0_0_0.emb (ix4 0 a h d) 1 = (⟨0 + a.val, by omega⟩ : Fin 64) := Fin.ext (by show 0 + 1 * a.val = 0 + a.val; omega)
  have e2 : r_S1x64x16x512_S1x16x16x512_0_0_0_0.emb (ix4 0 a h d) 2 = (h : Fin 16) := Fin.ext (by show 0 + 1 * h.val = h.val; omega)
  have e3 : r_S1x64x16x512_S1x16x16x512_0_0_0_0.emb (ix4 0 a h d) 3 = (d : Fin 512) := Fin.ext (by show 0 + 1 * d.val = d.val; omega)
  show G _ _ _ = _
  rw [e1, e2, e3]
theorem pieceL_0 (G : Fin 64 → Fin 16 → EReal) (a h : Fin 16) :
    (fun y : S1x64x16.Idx => G (y 1) (y 2)) (r_S1x64x16_S1x16x16_0_0_0.emb (ix3 0 a h)) = G ⟨0 + a.val, by omega⟩ h := by
  have e1 : r_S1x64x16_S1x16x16_0_0_0.emb (ix3 0 a h) 1 = (⟨0 + a.val, by omega⟩ : Fin 64) := Fin.ext (by show 0 + 1 * a.val = 0 + a.val; omega)
  have e2 : r_S1x64x16_S1x16x16_0_0_0.emb (ix3 0 a h) 2 = (h : Fin 16) := Fin.ext (by show 0 + 1 * h.val = h.val; omega)
  show G _ _ = _
  rw [e1, e2]

theorem pieceO_16 (G : Fin 64 → Fin 16 → Fin 512 → EReal) (a h : Fin 16) (d : Fin 512) :
    (fun y : S1x64x16x512.Idx => G (y 1) (y 2) (y 3)) (r_S1x64x16x512_S1x16x16x512_0_16_0_0.emb (ix4 0 a h d)) = G ⟨16 + a.val, by omega⟩ h d := by
  have e1 : r_S1x64x16x512_S1x16x16x512_0_16_0_0.emb (ix4 0 a h d) 1 = (⟨16 + a.val, by omega⟩ : Fin 64) := Fin.ext (by show 16 + 1 * a.val = 16 + a.val; omega)
  have e2 : r_S1x64x16x512_S1x16x16x512_0_16_0_0.emb (ix4 0 a h d) 2 = (h : Fin 16) := Fin.ext (by show 0 + 1 * h.val = h.val; omega)
  have e3 : r_S1x64x16x512_S1x16x16x512_0_16_0_0.emb (ix4 0 a h d) 3 = (d : Fin 512) := Fin.ext (by show 0 + 1 * d.val = d.val; omega)
  show G _ _ _ = _
  rw [e1, e2, e3]
theorem pieceL_16 (G : Fin 64 → Fin 16 → EReal) (a h : Fin 16) :
    (fun y : S1x64x16.Idx => G (y 1) (y 2)) (r_S1x64x16_S1x16x16_0_16_0.emb (ix3 0 a h)) = G ⟨16 + a.val, by omega⟩ h := by
  have e1 : r_S1x64x16_S1x16x16_0_16_0.emb (ix3 0 a h) 1 = (⟨16 + a.val, by omega⟩ : Fin 64) := Fin.ext (by show 16 + 1 * a.val = 16 + a.val; omega)
  have e2 : r_S1x64x16_S1x16x16_0_16_0.emb (ix3 0 a h) 2 = (h : Fin 16) := Fin.ext (by show 0 + 1 * h.val = h.val; omega)
  show G _ _ = _
  rw [e1, e2]

theorem pieceO_32 (G : Fin 64 → Fin 16 → Fin 512 → EReal) (a h : Fin 16) (d : Fin 512) :
    (fun y : S1x64x16x512.Idx => G (y 1) (y 2) (y 3)) (r_S1x64x16x512_S1x16x16x512_0_32_0_0.emb (ix4 0 a h d)) = G ⟨32 + a.val, by omega⟩ h d := by
  have e1 : r_S1x64x16x512_S1x16x16x512_0_32_0_0.emb (ix4 0 a h d) 1 = (⟨32 + a.val, by omega⟩ : Fin 64) := Fin.ext (by show 32 + 1 * a.val = 32 + a.val; omega)
  have e2 : r_S1x64x16x512_S1x16x16x512_0_32_0_0.emb (ix4 0 a h d) 2 = (h : Fin 16) := Fin.ext (by show 0 + 1 * h.val = h.val; omega)
  have e3 : r_S1x64x16x512_S1x16x16x512_0_32_0_0.emb (ix4 0 a h d) 3 = (d : Fin 512) := Fin.ext (by show 0 + 1 * d.val = d.val; omega)
  show G _ _ _ = _
  rw [e1, e2, e3]
theorem pieceL_32 (G : Fin 64 → Fin 16 → EReal) (a h : Fin 16) :
    (fun y : S1x64x16.Idx => G (y 1) (y 2)) (r_S1x64x16_S1x16x16_0_32_0.emb (ix3 0 a h)) = G ⟨32 + a.val, by omega⟩ h := by
  have e1 : r_S1x64x16_S1x16x16_0_32_0.emb (ix3 0 a h) 1 = (⟨32 + a.val, by omega⟩ : Fin 64) := Fin.ext (by show 32 + 1 * a.val = 32 + a.val; omega)
  have e2 : r_S1x64x16_S1x16x16_0_32_0.emb (ix3 0 a h) 2 = (h : Fin 16) := Fin.ext (by show 0 + 1 * h.val = h.val; omega)
  show G _ _ = _
  rw [e1, e2]

theorem pieceO_48 (G : Fin 64 → Fin 16 → Fin 512 → EReal) (a h : Fin 16) (d : Fin 512) :
    (fun y : S1x64x16x512.Idx => G (y 1) (y 2) (y 3)) (r_S1x64x16x512_S1x16x16x512_0_48_0_0.emb (ix4 0 a h d)) = G ⟨48 + a.val, by omega⟩ h d := by
  have e1 : r_S1x64x16x512_S1x16x16x512_0_48_0_0.emb (ix4 0 a h d) 1 = (⟨48 + a.val, by omega⟩ : Fin 64) := Fin.ext (by show 48 + 1 * a.val = 48 + a.val; omega)
  have e2 : r_S1x64x16x512_S1x16x16x512_0_48_0_0.emb (ix4 0 a h d) 2 = (h : Fin 16) := Fin.ext (by show 0 + 1 * h.val = h.val; omega)
  have e3 : r_S1x64x16x512_S1x16x16x512_0_48_0_0.emb (ix4 0 a h d) 3 = (d : Fin 512) := Fin.ext (by show 0 + 1 * d.val = d.val; omega)
  show G _ _ _ = _
  rw [e1, e2, e3]
theorem pieceL_48 (G : Fin 64 → Fin 16 → EReal) (a h : Fin 16) :
    (fun y : S1x64x16.Idx => G (y 1) (y 2)) (r_S1x64x16_S1x16x16_0_48_0.emb (ix3 0 a h)) = G ⟨48 + a.val, by omega⟩ h := by
  have e1 : r_S1x64x16_S1x16x16_0_48_0.emb (ix3 0 a h) 1 = (⟨48 + a.val, by omega⟩ : Fin 64) := Fin.ext (by show 48 + 1 * a.val = 48 + a.val; omega)
  have e2 : r_S1x64x16_S1x16x16_0_48_0.emb (ix3 0 a h) 2 = (h : Fin 16) := Fin.ext (by show 0 + 1 * h.val = h.val; omega)
  show G _ _ = _
  rw [e1, e2]

theorem outPad_apply (y : S1x64x16x512.Idx) : (outPad : Vec Ideal S1x64x16x512 .bf16) y = 0 := by
  unfold outPad
  rw [View.canon_unit_zero (by funext a; fin_cases a <;> rfl), idx4 y]
  pointwise [k0_pay3]
theorem lsePad_apply (y : S1x64x16.Idx) : (lsePad : Vec Ideal S1x64x16 .f32) y = 0 := by
  unfold lsePad
  rw [View.canon_unit_zero (by funext a; fin_cases a <;> rfl), idx3 y]
  pointwise [k0_pay4]

end Cert.KernelIdeal.Run

end
-- ==== Proof.KernelIdeal.Stage1.lean ====
/- The steps of a tile of sixteen tokens against 256 keys: what the branch stores is their composition, and their
   readings at one row. -/
module

public import proofs.«01_k».proof.Proof.KernelIdeal.Stage

@[expose] public section

set_option maxRecDepth 16384

noncomputable section

namespace Cert.KernelIdeal.Run

open Cert.KernelIdeal.Gen
open Idealize.ShloMosaic Idealize.ShloMosaic.TcCoe Idealize.SL.Sem

section

variable {F : FTy → Type} [FloatOps F] [Named F]

/-- The scores of 256 rows against 256 keys, with the key scale and the logarithm's base folded in. -/
def score1 (x0 : Vec F S1x16x16x512 .fp8e4m3) (col : FVec F S256x1 .f32) (x2 : Vec F S1x16x16x64 .bf16) (x3 : Vec F S1x256x512 .fp8e4m3) (r : Vec F S256x64 .bf16) (k : Vec F S1x256 .f32) : FVec F S256x256 .f32 :=
  mulf (addf
    (matmul dot_S256x512_S256x512_S256x256_1_1_0_0_n_n none (shapeCast S256x512 (shapeCast S16x16x512 x0 shapeCasts_S1x16x16x512_S16x16x512) shapeCasts_S16x16x512_S256x512)
      (shapeCast S256x512 x3 shapeCasts_S1x256x512_S256x512) (constant S256x256 .f32 0x00000000#32))
    (matmul dot_S256x64_S256x64_S256x256_1_1_0_0_n_n none
      (truncf .bf16 (divf (extf .f32 (shapeCast S256x64 (shapeCast S16x16x64 x2 shapeCasts_S1x16x16x64_S16x16x64) shapeCasts_S16x16x64_S256x64) bitsLt_bf16_f32)
        (broadcastTo S256x64 col broadcasts_S256x1_S256x64)) bitsLt_bf16_f32) r (constant S256x256 .f32 0x00000000#32)))
    (broadcastTo S256x256 k broadcasts_S1x256_S256x256)

/-- The scores with the keys after a row's token masked; the keys before 0 are those of earlier tokens for every row. -/
def masked1 (base : BitVec 32) (v : FVec F S256x256 .f32) : FVec F S256x256 .f32 :=
  select (cmpi .sle (addi (broadcast S256x256 0#32) (iota .tc S256x256 32 [1] iota_S256x256_d1_w32)) (broadcastTo S256x256 (rowTok base) broadcasts_S256x1_S256x256))
    v (broadcast S256x256 (Scalar.ofBits .f32 0xFF800000#32 : F .f32))

/-- The maximum of each row. -/
def rowMax1 (v : FVec F S256x256 .f32) : FVec F S256x1 .f32 :=
  shapeCast S256x1 (multiReduction .maximumf [1] S256 v 0xFF800000#32 reduces_S256x256_S256 (.inl rfl) rfl) shapeCasts_S256_S256x1

/-- The weights of the keys, before they are divided by their total. -/
def weight1 (v : FVec F S256x256 .f32) (mx col : FVec F S256x1 .f32) : FVec F S256x256 .f32 :=
  exp2 (mulf (subf v (broadcastTo S256x256 mx broadcasts_S256x1_S256x256)) (broadcastTo S256x256 col broadcasts_S256x1_S256x256))

/-- The total of each row's weights. -/
def total1 (p : FVec F S256x256 .f32) : FVec F S256x1 .f32 :=
  shapeCast S256x1 (multiReduction .add [1] S256 p 0x00000000#32 reduces_S256x256_S256 (.inl rfl) rfl) shapeCasts_S256_S256x1

/-- The outputs of the rows: the weighted values over the total where the row is a token of the sequence, 0 elsewhere. -/
def outTile1 (n base : BitVec 32) (p : FVec F S256x256 .f32) (l : FVec F S256x1 .f32) (u : Vec F S256x512 .bf16) : FVec F S1x16x16x512 .bf16 :=
  shapeCast S1x16x16x512 (shapeCast S16x16x512 (truncf .bf16 (select
    (broadcastTo S256x512 (shapeCast S256x1 (live n base) shapeCasts_S256x1_S256x1) broadcasts_S256x1_S256x512)
    (divf (matmul dot_S256x256_S256x512_S256x512_1_0_0_1_n_n none (truncf .bf16 p bitsLt_bf16_f32) u (constant S256x512 .f32 0x00000000#32))
      (broadcastTo S256x512 l broadcasts_S256x1_S256x512))
    (broadcast S256x512 (Scalar.ofBits .f32 0x00000000#32 : F .f32))) bitsLt_bf16_f32) shapeCasts_S256x512_S16x16x512) shapeCasts_S16x16x512_S1x16x16x512

theorem o1_0_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o1_0 i n x0 x1 x2 x3 u r k = (let mk := (masked1 (Scalar.addi (row0 i) 0#32) (score1 (View.ld x0 r_S1x64x16x512_S1x16x16x512_0_0_0_0) (qCol (View.ld x1 r_S1x64x16_S1x16x16_0_0_0)) (View.ld x2 r_S1x64x16x64_S1x16x16x64_0_0_0_0) (View.ld x3 r_S1x896x512_S1x256x512_0_0_0) (View.ld r r_S896x64_S256x64_0_0) (View.ld k r_S1x896_S1x256_0_0))); let p := weight1 mk (rowMax1 mk) (qCol (View.ld x1 r_S1x64x16_S1x16x16_0_0_0));
      outTile1 n (Scalar.addi (row0 i) 0#32) p (total1 p) (View.ld u r_S896x512_S256x512_0_0)) := rfl
theorem l1_0_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l1_0 i n x0 x1 x2 x3 u r k = (let mk := (masked1 (Scalar.addi (row0 i) 0#32) (score1 (View.ld x0 r_S1x64x16x512_S1x16x16x512_0_0_0_0) (qCol (View.ld x1 r_S1x64x16_S1x16x16_0_0_0)) (View.ld x2 r_S1x64x16x64_S1x16x16x64_0_0_0_0) (View.ld x3 r_S1x896x512_S1x256x512_0_0_0) (View.ld r r_S896x64_S256x64_0_0) (View.ld k r_S1x896_S1x256_0_0)));
      lseTile (lseCol n (Scalar.addi (row0 i) 0#32) (rowMax1 mk) (qCol (View.ld x1 r_S1x64x16_S1x16x16_0_0_0)) (total1 (weight1 mk (rowMax1 mk) (qCol (View.ld x1 r_S1x64x16_S1x16x16_0_0_0)))))) := rfl
theorem o1_1_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o1_1 i n x0 x1 x2 x3 u r k = (let mk := (masked1 (Scalar.addi (row0 i) 16#32) (score1 (View.ld x0 r_S1x64x16x512_S1x16x16x512_0_16_0_0) (qCol (View.ld x1 r_S1x64x16_S1x16x16_0_16_0)) (View.ld x2 r_S1x64x16x64_S1x16x16x64_0_16_0_0) (View.ld x3 r_S1x896x512_S1x256x512_0_0_0) (View.ld r r_S896x64_S256x64_0_0) (View.ld k r_S1x896_S1x256_0_0))); let p := weight1 mk (rowMax1 mk) (qCol (View.ld x1 r_S1x64x16_S1x16x16_0_16_0));
      outTile1 n (Scalar.addi (row0 i) 16#32) p (total1 p) (View.ld u r_S896x512_S256x512_0_0)) := rfl
theorem l1_1_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l1_1 i n x0 x1 x2 x3 u r k = (let mk := (masked1 (Scalar.addi (row0 i) 16#32) (score1 (View.ld x0 r_S1x64x16x512_S1x16x16x512_0_16_0_0) (qCol (View.ld x1 r_S1x64x16_S1x16x16_0_16_0)) (View.ld x2 r_S1x64x16x64_S1x16x16x64_0_16_0_0) (View.ld x3 r_S1x896x512_S1x256x512_0_0_0) (View.ld r r_S896x64_S256x64_0_0) (View.ld k r_S1x896_S1x256_0_0)));
      lseTile (lseCol n (Scalar.addi (row0 i) 16#32) (rowMax1 mk) (qCol (View.ld x1 r_S1x64x16_S1x16x16_0_16_0)) (total1 (weight1 mk (rowMax1 mk) (qCol (View.ld x1 r_S1x64x16_S1x16x16_0_16_0)))))) := rfl
theorem o1_2_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o1_2 i n x0 x1 x2 x3 u r k = (let mk := (masked1 (Scalar.addi (row0 i) 32#32) (score1 (View.ld x0 r_S1x64x16x512_S1x16x16x512_0_32_0_0) (qCol (View.ld x1 r_S1x64x16_S1x16x16_0_32_0)) (View.ld x2 r_S1x64x16x64_S1x16x16x64_0_32_0_0) (View.ld x3 r_S1x896x512_S1x256x512_0_0_0) (View.ld r r_S896x64_S256x64_0_0) (View.ld k r_S1x896_S1x256_0_0))); let p := weight1 mk (rowMax1 mk) (qCol (View.ld x1 r_S1x64x16_S1x16x16_0_32_0));
      outTile1 n (Scalar.addi (row0 i) 32#32) p (total1 p) (View.ld u r_S896x512_S256x512_0_0)) := rfl
theorem l1_2_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l1_2 i n x0 x1 x2 x3 u r k = (let mk := (masked1 (Scalar.addi (row0 i) 32#32) (score1 (View.ld x0 r_S1x64x16x512_S1x16x16x512_0_32_0_0) (qCol (View.ld x1 r_S1x64x16_S1x16x16_0_32_0)) (View.ld x2 r_S1x64x16x64_S1x16x16x64_0_32_0_0) (View.ld x3 r_S1x896x512_S1x256x512_0_0_0) (View.ld r r_S896x64_S256x64_0_0) (View.ld k r_S1x896_S1x256_0_0)));
      lseTile (lseCol n (Scalar.addi (row0 i) 32#32) (rowMax1 mk) (qCol (View.ld x1 r_S1x64x16_S1x16x16_0_32_0)) (total1 (weight1 mk (rowMax1 mk) (qCol (View.ld x1 r_S1x64x16_S1x16x16_0_32_0)))))) := rfl
theorem o1_3_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o1_3 i n x0 x1 x2 x3 u r k = (let mk := (masked1 (Scalar.addi (row0 i) 48#32) (score1 (View.ld x0 r_S1x64x16x512_S1x16x16x512_0_48_0_0) (qCol (View.ld x1 r_S1x64x16_S1x16x16_0_48_0)) (View.ld x2 r_S1x64x16x64_S1x16x16x64_0_48_0_0) (View.ld x3 r_S1x896x512_S1x256x512_0_0_0) (View.ld r r_S896x64_S256x64_0_0) (View.ld k r_S1x896_S1x256_0_0))); let p := weight1 mk (rowMax1 mk) (qCol (View.ld x1 r_S1x64x16_S1x16x16_0_48_0));
      outTile1 n (Scalar.addi (row0 i) 48#32) p (total1 p) (View.ld u r_S896x512_S256x512_0_0)) := rfl
theorem l1_3_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l1_3 i n x0 x1 x2 x3 u r k = (let mk := (masked1 (Scalar.addi (row0 i) 48#32) (score1 (View.ld x0 r_S1x64x16x512_S1x16x16x512_0_48_0_0) (qCol (View.ld x1 r_S1x64x16_S1x16x16_0_48_0)) (View.ld x2 r_S1x64x16x64_S1x16x16x64_0_48_0_0) (View.ld x3 r_S1x896x512_S1x256x512_0_0_0) (View.ld r r_S896x64_S256x64_0_0) (View.ld k r_S1x896_S1x256_0_0)));
      lseTile (lseCol n (Scalar.addi (row0 i) 48#32) (rowMax1 mk) (qCol (View.ld x1 r_S1x64x16_S1x16x16_0_48_0)) (total1 (weight1 mk (rowMax1 mk) (qCol (View.ld x1 r_S1x64x16_S1x16x16_0_48_0)))))) := rfl

end

variable (n base : BitVec 32) (v : FVec Ideal S256x256 .f32) (mx col l : FVec Ideal S256x1 .f32) (a h : Fin 16) (d : Fin 512) (κ : Fin 256) {b : ℕ}

theorem score1_read (x0 : Vec Ideal S1x16x16x512 .fp8e4m3) (x2 : Vec Ideal S1x16x16x64 .bf16) (x3 : Vec Ideal S1x256x512 .fp8e4m3) (r : Vec Ideal S256x64 .bf16) (k : Vec Ideal S1x256 .f32) (i : Fin 256) :
    score1 x0 col x2 x3 r k (ix2 i κ)
      = (∑ x, x0 (ix4 0 (tokOf i) (headOf i) x) * x3 (ix3 0 κ x)
          + ∑ x, Ideal.div (x2 (ix4 0 (tokOf i) (headOf i) x)) (col (ix2 i 0)) * r (ix2 κ x)) * k (ix2 0 κ) := by
  pointwise [score1]
  rfl

theorem score1_apply (x0 : Vec Ideal S1x16x16x512 .fp8e4m3) (x2 : Vec Ideal S1x16x16x64 .bf16) (x3 : Vec Ideal S1x256x512 .fp8e4m3) (r : Vec Ideal S256x64 .bf16) (k : Vec Ideal S1x256 .f32) :
    score1 x0 col x2 x3 r k (ix2 (row a h) κ)
      = (∑ x, x0 (ix4 0 a h x) * x3 (ix3 0 κ x) + ∑ x, Ideal.div (x2 (ix4 0 a h x)) (col (ix2 (row a h) 0)) * r (ix2 κ x)) * k (ix2 0 κ) := by
  rw [score1_read, tokOf_row, headOf_row]

theorem masked1_apply (hb : base = BitVec.ofNat 32 b) (hlt : b + 16 ≤ 896) :
    masked1 base v (ix2 (row a h) κ) = Row.mask (b + a.val) (fun κ => v (ix2 (row a h) κ)) κ := by
  pointwise [masked1]
  rw [rowTok_apply base a h hb, Words.ofBits_bot]
  have e : IntOp.addi (0#32) (BitVec.ofNat 32 κ.val) = BitVec.ofNat 32 κ.val := BitVec.zero_add _
  rw [e, Words.select_sle (by omega) (by omega)]
  rfl

theorem rowMax1_apply (r : Fin 256) : rowMax1 v (ix2 r 0) = Row.top fun κ => v (ix2 r κ) := by
  pointwise [rowMax1]
  rw [Words.ofBits_bot]
  rfl

theorem weight1_apply (r : Fin 256) :
    weight1 v (rowMax1 v) col (ix2 r κ) = Row.kweight (col (ix2 r 0)) (fun κ => v (ix2 r κ)) κ := by
  have := rowMax1_apply v r
  generalize rowMax1 v = mx at this ⊢
  pointwise [weight1]
  rw [this]
  rfl

theorem total1_apply (r : Fin 256) : total1 v (ix2 r 0) = ∑ κ, v (ix2 r κ) := by
  pointwise [total1]

theorem outTile1_apply (u : Vec Ideal S256x512 .bf16) (hb : base = BitVec.ofNat 32 b) (hlt : b + 16 ≤ 896) :
    outTile1 n base v l u (ix4 0 a h d) = if ((b + a.val : ℕ) : Int) < n.toInt then
      Ideal.div (∑ κ, v (ix2 (row a h) κ) * u (ix2 κ d)) (l (ix2 (row a h) 0)) else 0 := by
  pointwise [outTile1]
  exact select_live n base a h hb hlt _ _

/-- The outputs of a tile, of any scores. -/
theorem out1_row (u : Vec Ideal S256x512 .bf16) (hb : base = BitVec.ofNat 32 b) (hlt : b + 16 ≤ 896) :
    outTile1 n base (weight1 (masked1 base v) (rowMax1 (masked1 base v)) col)
        (total1 (weight1 (masked1 base v) (rowMax1 (masked1 base v)) col)) u (ix4 0 a h d)
      = if ((b + a.val : ℕ) : Int) < n.toInt then
          Row.kout (col (ix2 (row a h) 0)) (Row.mask (b + a.val) fun κ => v (ix2 (row a h) κ)) (fun κ => u (ix2 κ d)) else 0 := by
  rw [outTile1_apply n base _ _ a h d u hb hlt, total1_apply]
  simp only [weight1_apply, masked1_apply base v a h _ hb hlt ]
  rfl

/-- The log-sum-exps of a tile, of any scores. -/
theorem lse1_row (hb : base = BitVec.ofNat 32 b) (hlt : b + 16 ≤ 896) :
    lseTile (lseCol n base (rowMax1 (masked1 base v)) col (total1 (weight1 (masked1 base v) (rowMax1 (masked1 base v)) col))) (ix3 0 a h)
      = if ((b + a.val : ℕ) : Int) < n.toInt then
          Row.klse (col (ix2 (row a h) 0)) (Row.mask (b + a.val) fun κ => v (ix2 (row a h) κ)) else 0 := by
  rw [lseTile_apply, lseCol_apply n base _ _ _ a h hb hlt, total1_apply, rowMax1_apply]
  simp only [weight1_apply, masked1_apply base v a h _ hb hlt ]
  rfl

end Cert.KernelIdeal.Run

end
-- ==== Proof.KernelIdeal.Rows1.lean ====
/- The blocks the kernel writes from 256 keys, at an index. -/
module

public import proofs.«01_k».proof.Proof.KernelIdeal.Rows
public import proofs.«01_k».proof.Proof.KernelIdeal.Stage1

@[expose] public section

set_option maxRecDepth 16384

noncomputable section

namespace Cert.KernelIdeal.Run

open Cert.KernelIdeal.Gen
open Idealize.ShloMosaic Idealize.ShloMosaic.TcCoe Idealize.SL.Sem

variable (i : grid0.Coords) (n : BitVec 32) (x0 : Vec Ideal S1x64x16x512 .fp8e4m3) (x1 : Vec Ideal S1x64x16 .f32)
  (x2 : Vec Ideal S1x64x16x64 .bf16) (x3 : Vec Ideal S1x896x512 .fp8e4m3) (u : Vec Ideal S896x512 .bf16) (r : Vec Ideal S896x64 .bf16)
  (k : Vec Ideal S1x896 .f32) (a h : Fin 16) (d : Fin 512)

theorem s1_0_row : (fun κ => score1 (View.ld x0 r_S1x64x16x512_S1x16x16x512_0_0_0_0) (qCol (View.ld x1 r_S1x64x16_S1x16x16_0_0_0)) (View.ld x2 r_S1x64x16x64_S1x16x16x64_0_0_0_0) (View.ld x3 r_S1x896x512_S1x256x512_0_0_0) (View.ld r r_S896x64_S256x64_0_0) (View.ld k r_S1x896_S1x256_0_0) (ix2 (row a h) κ))
    = tokScore 256 (by norm_num) x0 x1 x2 x3 r k ⟨0 + a.val, by omega⟩ h := by
  funext κ
  rw [score1_apply]
  unfold tokScore
  rw [qCol_apply, ld1_0, ldK_256]
  refine congrArg₂ (fun s t : EReal => (s + t) * _) (Finset.sum_congr rfl fun x _ => ?_) (Finset.sum_congr rfl fun x _ => ?_)
  · rw [ld0_0, ld3_256]
  · rw [ld2_0, ldR_256]
theorem o1_0_row (hi : (i 1).val / 4 + 1 = 1) : o1_0 i n x0 x1 x2 x3 u r k (ix4 0 a h d)
    = tokO 256 (by norm_num) (i 1).val n x0 x1 x2 x3 u r k ⟨0 + a.val, by omega⟩ h d := by
  have hj := col_lt i
  refine (congrFun (o1_0_eq i n x0 x1 x2 x3 u r k) _).trans ((out1_row n _ _ _ a h d _ (base_eq i 0) (by omega)).trans ?_)
  unfold tokO
  rw [s1_0_row, qCol_apply, ld1_0, Nat.add_assoc, funext fun κ => ldU_256 u κ d]
theorem l1_0_row (hi : (i 1).val / 4 + 1 = 1) : l1_0 i n x0 x1 x2 x3 u r k (ix3 0 a h)
    = tokL 256 (by norm_num) (i 1).val n x0 x1 x2 x3 r k ⟨0 + a.val, by omega⟩ h := by
  have hj := col_lt i
  refine (congrFun (l1_0_eq i n x0 x1 x2 x3 u r k) _).trans ((lse1_row n _ _ _ a h (base_eq i 0) (by omega)).trans ?_)
  unfold tokL
  rw [s1_0_row, qCol_apply, ld1_0, Nat.add_assoc]

theorem s1_1_row : (fun κ => score1 (View.ld x0 r_S1x64x16x512_S1x16x16x512_0_16_0_0) (qCol (View.ld x1 r_S1x64x16_S1x16x16_0_16_0)) (View.ld x2 r_S1x64x16x64_S1x16x16x64_0_16_0_0) (View.ld x3 r_S1x896x512_S1x256x512_0_0_0) (View.ld r r_S896x64_S256x64_0_0) (View.ld k r_S1x896_S1x256_0_0) (ix2 (row a h) κ))
    = tokScore 256 (by norm_num) x0 x1 x2 x3 r k ⟨16 + a.val, by omega⟩ h := by
  funext κ
  rw [score1_apply]
  unfold tokScore
  rw [qCol_apply, ld1_16, ldK_256]
  refine congrArg₂ (fun s t : EReal => (s + t) * _) (Finset.sum_congr rfl fun x _ => ?_) (Finset.sum_congr rfl fun x _ => ?_)
  · rw [ld0_16, ld3_256]
  · rw [ld2_16, ldR_256]
theorem o1_1_row (hi : (i 1).val / 4 + 1 = 1) : o1_1 i n x0 x1 x2 x3 u r k (ix4 0 a h d)
    = tokO 256 (by norm_num) (i 1).val n x0 x1 x2 x3 u r k ⟨16 + a.val, by omega⟩ h d := by
  have hj := col_lt i
  refine (congrFun (o1_1_eq i n x0 x1 x2 x3 u r k) _).trans ((out1_row n _ _ _ a h d _ (base_eq i 16) (by omega)).trans ?_)
  unfold tokO
  rw [s1_1_row, qCol_apply, ld1_16, Nat.add_assoc, funext fun κ => ldU_256 u κ d]
theorem l1_1_row (hi : (i 1).val / 4 + 1 = 1) : l1_1 i n x0 x1 x2 x3 u r k (ix3 0 a h)
    = tokL 256 (by norm_num) (i 1).val n x0 x1 x2 x3 r k ⟨16 + a.val, by omega⟩ h := by
  have hj := col_lt i
  refine (congrFun (l1_1_eq i n x0 x1 x2 x3 u r k) _).trans ((lse1_row n _ _ _ a h (base_eq i 16) (by omega)).trans ?_)
  unfold tokL
  rw [s1_1_row, qCol_apply, ld1_16, Nat.add_assoc]

theorem s1_2_row : (fun κ => score1 (View.ld x0 r_S1x64x16x512_S1x16x16x512_0_32_0_0) (qCol (View.ld x1 r_S1x64x16_S1x16x16_0_32_0)) (View.ld x2 r_S1x64x16x64_S1x16x16x64_0_32_0_0) (View.ld x3 r_S1x896x512_S1x256x512_0_0_0) (View.ld r r_S896x64_S256x64_0_0) (View.ld k r_S1x896_S1x256_0_0) (ix2 (row a h) κ))
    = tokScore 256 (by norm_num) x0 x1 x2 x3 r k ⟨32 + a.val, by omega⟩ h := by
  funext κ
  rw [score1_apply]
  unfold tokScore
  rw [qCol_apply, ld1_32, ldK_256]
  refine congrArg₂ (fun s t : EReal => (s + t) * _) (Finset.sum_congr rfl fun x _ => ?_) (Finset.sum_congr rfl fun x _ => ?_)
  · rw [ld0_32, ld3_256]
  · rw [ld2_32, ldR_256]
theorem o1_2_row (hi : (i 1).val / 4 + 1 = 1) : o1_2 i n x0 x1 x2 x3 u r k (ix4 0 a h d)
    = tokO 256 (by norm_num) (i 1).val n x0 x1 x2 x3 u r k ⟨32 + a.val, by omega⟩ h d := by
  have hj := col_lt i
  refine (congrFun (o1_2_eq i n x0 x1 x2 x3 u r k) _).trans ((out1_row n _ _ _ a h d _ (base_eq i 32) (by omega)).trans ?_)
  unfold tokO
  rw [s1_2_row, qCol_apply, ld1_32, Nat.add_assoc, funext fun κ => ldU_256 u κ d]
theorem l1_2_row (hi : (i 1).val / 4 + 1 = 1) : l1_2 i n x0 x1 x2 x3 u r k (ix3 0 a h)
    = tokL 256 (by norm_num) (i 1).val n x0 x1 x2 x3 r k ⟨32 + a.val, by omega⟩ h := by
  have hj := col_lt i
  refine (congrFun (l1_2_eq i n x0 x1 x2 x3 u r k) _).trans ((lse1_row n _ _ _ a h (base_eq i 32) (by omega)).trans ?_)
  unfold tokL
  rw [s1_2_row, qCol_apply, ld1_32, Nat.add_assoc]

theorem s1_3_row : (fun κ => score1 (View.ld x0 r_S1x64x16x512_S1x16x16x512_0_48_0_0) (qCol (View.ld x1 r_S1x64x16_S1x16x16_0_48_0)) (View.ld x2 r_S1x64x16x64_S1x16x16x64_0_48_0_0) (View.ld x3 r_S1x896x512_S1x256x512_0_0_0) (View.ld r r_S896x64_S256x64_0_0) (View.ld k r_S1x896_S1x256_0_0) (ix2 (row a h) κ))
    = tokScore 256 (by norm_num) x0 x1 x2 x3 r k ⟨48 + a.val, by omega⟩ h := by
  funext κ
  rw [score1_apply]
  unfold tokScore
  rw [qCol_apply, ld1_48, ldK_256]
  refine congrArg₂ (fun s t : EReal => (s + t) * _) (Finset.sum_congr rfl fun x _ => ?_) (Finset.sum_congr rfl fun x _ => ?_)
  · rw [ld0_48, ld3_256]
  · rw [ld2_48, ldR_256]
theorem o1_3_row (hi : (i 1).val / 4 + 1 = 1) : o1_3 i n x0 x1 x2 x3 u r k (ix4 0 a h d)
    = tokO 256 (by norm_num) (i 1).val n x0 x1 x2 x3 u r k ⟨48 + a.val, by omega⟩ h d := by
  have hj := col_lt i
  refine (congrFun (o1_3_eq i n x0 x1 x2 x3 u r k) _).trans ((out1_row n _ _ _ a h d _ (base_eq i 48) (by omega)).trans ?_)
  unfold tokO
  rw [s1_3_row, qCol_apply, ld1_48, Nat.add_assoc, funext fun κ => ldU_256 u κ d]
theorem l1_3_row (hi : (i 1).val / 4 + 1 = 1) : l1_3 i n x0 x1 x2 x3 u r k (ix3 0 a h)
    = tokL 256 (by norm_num) (i 1).val n x0 x1 x2 x3 r k ⟨48 + a.val, by omega⟩ h := by
  have hj := col_lt i
  refine (congrFun (l1_3_eq i n x0 x1 x2 x3 u r k) _).trans ((lse1_row n _ _ _ a h (base_eq i 48) (by omega)).trans ?_)
  unfold tokL
  rw [s1_3_row, qCol_apply, ld1_48, Nat.add_assoc]

/-- The block of outputs from 256 keys, at an index. -/
theorem out1_apply (hi : (i 1).val / 4 + 1 = 1) (y : S1x64x16x512.Idx) : out1 i n x0 x1 x2 x3 u r k y
    = tokO 256 (by norm_num) (i 1).val n x0 x1 x2 x3 u r k (y 1) (y 2) (y 3) := by
  unfold out1
  refine View.canon_apply_of_pieces (Val := Elt Ideal) (fun y : S1x64x16x512.Idx => tokO 256 (by norm_num) (i 1).val n x0 x1 x2 x3 u r k (y 1) (y 2) (y 3)) _ ?_ y (cover6 _ _ _ _ y)
  intro p hp x
  simp only [List.mem_cons, List.not_mem_nil, or_false] at hp
  obtain rfl | rfl | rfl | rfl := hp
  · obtain ⟨a, h, d, rfl⟩ := idxO x
    exact (o1_3_row i n x0 x1 x2 x3 u r k a h d hi).trans (pieceO_48 (tokO 256 (by norm_num) (i 1).val n x0 x1 x2 x3 u r k) a h d).symm
  · obtain ⟨a, h, d, rfl⟩ := idxO x
    exact (o1_2_row i n x0 x1 x2 x3 u r k a h d hi).trans (pieceO_32 (tokO 256 (by norm_num) (i 1).val n x0 x1 x2 x3 u r k) a h d).symm
  · obtain ⟨a, h, d, rfl⟩ := idxO x
    exact (o1_1_row i n x0 x1 x2 x3 u r k a h d hi).trans (pieceO_16 (tokO 256 (by norm_num) (i 1).val n x0 x1 x2 x3 u r k) a h d).symm
  · obtain ⟨a, h, d, rfl⟩ := idxO x
    exact (o1_0_row i n x0 x1 x2 x3 u r k a h d hi).trans (pieceO_0 (tokO 256 (by norm_num) (i 1).val n x0 x1 x2 x3 u r k) a h d).symm

/-- The block of log-sum-exps from 256 keys, at an index. -/
theorem lse1_apply (hi : (i 1).val / 4 + 1 = 1) (y : S1x64x16.Idx) : lse1 i n x0 x1 x2 x3 u r k y
    = tokL 256 (by norm_num) (i 1).val n x0 x1 x2 x3 r k (y 1) (y 2) := by
  unfold lse1
  refine View.canon_apply_of_pieces (Val := Elt Ideal) (fun y : S1x64x16.Idx => tokL 256 (by norm_num) (i 1).val n x0 x1 x2 x3 r k (y 1) (y 2)) _ ?_ y (cover7 _ _ _ _ y)
  intro p hp x
  simp only [List.mem_cons, List.not_mem_nil, or_false] at hp
  obtain rfl | rfl | rfl | rfl := hp
  · obtain ⟨a, h, rfl⟩ := idxL x
    exact (l1_3_row i n x0 x1 x2 x3 u r k a h hi).trans (pieceL_48 (tokL 256 (by norm_num) (i 1).val n x0 x1 x2 x3 r k) a h).symm
  · obtain ⟨a, h, rfl⟩ := idxL x
    exact (l1_2_row i n x0 x1 x2 x3 u r k a h hi).trans (pieceL_32 (tokL 256 (by norm_num) (i 1).val n x0 x1 x2 x3 r k) a h).symm
  · obtain ⟨a, h, rfl⟩ := idxL x
    exact (l1_1_row i n x0 x1 x2 x3 u r k a h hi).trans (pieceL_16 (tokL 256 (by norm_num) (i 1).val n x0 x1 x2 x3 r k) a h).symm
  · obtain ⟨a, h, rfl⟩ := idxL x
    exact (l1_0_row i n x0 x1 x2 x3 u r k a h hi).trans (pieceL_0 (tokL 256 (by norm_num) (i 1).val n x0 x1 x2 x3 r k) a h).symm

end Cert.KernelIdeal.Run

end
-- ==== Proof.KernelIdeal.Stage2.lean ====
/- The steps of a tile of sixteen tokens against 512 keys: what the branch stores is their composition, and their
   readings at one row. -/
module

public import proofs.«01_k».proof.Proof.KernelIdeal.Stage

@[expose] public section

set_option maxRecDepth 16384

noncomputable section

namespace Cert.KernelIdeal.Run

open Cert.KernelIdeal.Gen
open Idealize.ShloMosaic Idealize.ShloMosaic.TcCoe Idealize.SL.Sem

section

variable {F : FTy → Type} [FloatOps F] [Named F]

/-- The scores of 256 rows against 512 keys, with the key scale and the logarithm's base folded in. -/
def score2 (x0 : Vec F S1x16x16x512 .fp8e4m3) (col : FVec F S256x1 .f32) (x2 : Vec F S1x16x16x64 .bf16) (x3 : Vec F S1x512x512 .fp8e4m3) (r : Vec F S512x64 .bf16) (k : Vec F S1x512 .f32) : FVec F S256x512 .f32 :=
  mulf (addf
    (matmul dot_S256x512_S512x512_S256x512_1_1_0_0_n_n none (shapeCast S256x512 (shapeCast S16x16x512 x0 shapeCasts_S1x16x16x512_S16x16x512) shapeCasts_S16x16x512_S256x512)
      (shapeCast S512x512 x3 shapeCasts_S1x512x512_S512x512) (constant S256x512 .f32 0x00000000#32))
    (matmul dot_S256x64_S512x64_S256x512_1_1_0_0_n_n none
      (truncf .bf16 (divf (extf .f32 (shapeCast S256x64 (shapeCast S16x16x64 x2 shapeCasts_S1x16x16x64_S16x16x64) shapeCasts_S16x16x64_S256x64) bitsLt_bf16_f32)
        (broadcastTo S256x64 col broadcasts_S256x1_S256x64)) bitsLt_bf16_f32) r (constant S256x512 .f32 0x00000000#32)))
    (broadcastTo S256x512 k broadcasts_S1x512_S256x512)

/-- The scores with the keys after a row's token masked; the keys before 256 are those of earlier tokens for every row. -/
def masked2 (base : BitVec 32) (v : FVec F S256x512 .f32) : FVec F S256x512 .f32 :=
  concatenate S256x512 1 [⟨S256x256, extractStridedSlice S256x256 ![0, 0] v slices_S256x512_o0_0_S256x256⟩, ⟨S256x256, select (cmpi .sle (addi (broadcast S256x256 256#32) (iota .tc S256x256 32 [1] iota_S256x256_d1_w32)) (broadcastTo S256x256 (rowTok base) broadcasts_S256x1_S256x256))
    (extractStridedSlice S256x256 ![0, 256] v slices_S256x512_o0_256_S256x256) (broadcast S256x256 (Scalar.ofBits .f32 0xFF800000#32 : F .f32))⟩]
    concatenates_S256x256_S256x256_S256x512_d1

/-- The maximum of each row. -/
def rowMax2 (v : FVec F S256x512 .f32) : FVec F S256x1 .f32 :=
  shapeCast S256x1 (multiReduction .maximumf [1] S256 v 0xFF800000#32 reduces_S256x512_S256 (.inl rfl) rfl) shapeCasts_S256_S256x1

/-- The weights of the keys, before they are divided by their total. -/
def weight2 (v : FVec F S256x512 .f32) (mx col : FVec F S256x1 .f32) : FVec F S256x512 .f32 :=
  exp2 (mulf (subf v (broadcastTo S256x512 mx broadcasts_S256x1_S256x512)) (broadcastTo S256x512 col broadcasts_S256x1_S256x512))

/-- The total of each row's weights. -/
def total2 (p : FVec F S256x512 .f32) : FVec F S256x1 .f32 :=
  shapeCast S256x1 (multiReduction .add [1] S256 p 0x00000000#32 reduces_S256x512_S256 (.inl rfl) rfl) shapeCasts_S256_S256x1

/-- The outputs of the rows: the weighted values over the total where the row is a token of the sequence, 0 elsewhere. -/
def outTile2 (n base : BitVec 32) (p : FVec F S256x512 .f32) (l : FVec F S256x1 .f32) (u : Vec F S512x512 .bf16) : FVec F S1x16x16x512 .bf16 :=
  shapeCast S1x16x16x512 (shapeCast S16x16x512 (truncf .bf16 (select
    (broadcastTo S256x512 (shapeCast S256x1 (live n base) shapeCasts_S256x1_S256x1) broadcasts_S256x1_S256x512)
    (divf (matmul dot_S256x512_S512x512_S256x512_1_0_0_1_n_n none (truncf .bf16 p bitsLt_bf16_f32) u (constant S256x512 .f32 0x00000000#32))
      (broadcastTo S256x512 l broadcasts_S256x1_S256x512))
    (broadcast S256x512 (Scalar.ofBits .f32 0x00000000#32 : F .f32))) bitsLt_bf16_f32) shapeCasts_S256x512_S16x16x512) shapeCasts_S16x16x512_S1x16x16x512

theorem o2_0_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o2_0 i n x0 x1 x2 x3 u r k = (let mk := (masked2 (Scalar.addi (row0 i) 0#32) (score2 (View.ld x0 r_S1x64x16x512_S1x16x16x512_0_0_0_0) (qCol (View.ld x1 r_S1x64x16_S1x16x16_0_0_0)) (View.ld x2 r_S1x64x16x64_S1x16x16x64_0_0_0_0) (View.ld x3 r_S1x896x512_S1x512x512_0_0_0) (View.ld r r_S896x64_S512x64_0_0) (View.ld k r_S1x896_S1x512_0_0))); let p := weight2 mk (rowMax2 mk) (qCol (View.ld x1 r_S1x64x16_S1x16x16_0_0_0));
      outTile2 n (Scalar.addi (row0 i) 0#32) p (total2 p) (View.ld u r_S896x512_S512x512_0_0)) := rfl
theorem l2_0_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l2_0 i n x0 x1 x2 x3 u r k = (let mk := (masked2 (Scalar.addi (row0 i) 0#32) (score2 (View.ld x0 r_S1x64x16x512_S1x16x16x512_0_0_0_0) (qCol (View.ld x1 r_S1x64x16_S1x16x16_0_0_0)) (View.ld x2 r_S1x64x16x64_S1x16x16x64_0_0_0_0) (View.ld x3 r_S1x896x512_S1x512x512_0_0_0) (View.ld r r_S896x64_S512x64_0_0) (View.ld k r_S1x896_S1x512_0_0)));
      lseTile (lseCol n (Scalar.addi (row0 i) 0#32) (rowMax2 mk) (qCol (View.ld x1 r_S1x64x16_S1x16x16_0_0_0)) (total2 (weight2 mk (rowMax2 mk) (qCol (View.ld x1 r_S1x64x16_S1x16x16_0_0_0)))))) := rfl
theorem o2_1_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o2_1 i n x0 x1 x2 x3 u r k = (let mk := (masked2 (Scalar.addi (row0 i) 16#32) (score2 (View.ld x0 r_S1x64x16x512_S1x16x16x512_0_16_0_0) (qCol (View.ld x1 r_S1x64x16_S1x16x16_0_16_0)) (View.ld x2 r_S1x64x16x64_S1x16x16x64_0_16_0_0) (View.ld x3 r_S1x896x512_S1x512x512_0_0_0) (View.ld r r_S896x64_S512x64_0_0) (View.ld k r_S1x896_S1x512_0_0))); let p := weight2 mk (rowMax2 mk) (qCol (View.ld x1 r_S1x64x16_S1x16x16_0_16_0));
      outTile2 n (Scalar.addi (row0 i) 16#32) p (total2 p) (View.ld u r_S896x512_S512x512_0_0)) := rfl
theorem l2_1_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l2_1 i n x0 x1 x2 x3 u r k = (let mk := (masked2 (Scalar.addi (row0 i) 16#32) (score2 (View.ld x0 r_S1x64x16x512_S1x16x16x512_0_16_0_0) (qCol (View.ld x1 r_S1x64x16_S1x16x16_0_16_0)) (View.ld x2 r_S1x64x16x64_S1x16x16x64_0_16_0_0) (View.ld x3 r_S1x896x512_S1x512x512_0_0_0) (View.ld r r_S896x64_S512x64_0_0) (View.ld k r_S1x896_S1x512_0_0)));
      lseTile (lseCol n (Scalar.addi (row0 i) 16#32) (rowMax2 mk) (qCol (View.ld x1 r_S1x64x16_S1x16x16_0_16_0)) (total2 (weight2 mk (rowMax2 mk) (qCol (View.ld x1 r_S1x64x16_S1x16x16_0_16_0)))))) := rfl
theorem o2_2_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o2_2 i n x0 x1 x2 x3 u r k = (let mk := (masked2 (Scalar.addi (row0 i) 32#32) (score2 (View.ld x0 r_S1x64x16x512_S1x16x16x512_0_32_0_0) (qCol (View.ld x1 r_S1x64x16_S1x16x16_0_32_0)) (View.ld x2 r_S1x64x16x64_S1x16x16x64_0_32_0_0) (View.ld x3 r_S1x896x512_S1x512x512_0_0_0) (View.ld r r_S896x64_S512x64_0_0) (View.ld k r_S1x896_S1x512_0_0))); let p := weight2 mk (rowMax2 mk) (qCol (View.ld x1 r_S1x64x16_S1x16x16_0_32_0));
      outTile2 n (Scalar.addi (row0 i) 32#32) p (total2 p) (View.ld u r_S896x512_S512x512_0_0)) := rfl
theorem l2_2_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l2_2 i n x0 x1 x2 x3 u r k = (let mk := (masked2 (Scalar.addi (row0 i) 32#32) (score2 (View.ld x0 r_S1x64x16x512_S1x16x16x512_0_32_0_0) (qCol (View.ld x1 r_S1x64x16_S1x16x16_0_32_0)) (View.ld x2 r_S1x64x16x64_S1x16x16x64_0_32_0_0) (View.ld x3 r_S1x896x512_S1x512x512_0_0_0) (View.ld r r_S896x64_S512x64_0_0) (View.ld k r_S1x896_S1x512_0_0)));
      lseTile (lseCol n (Scalar.addi (row0 i) 32#32) (rowMax2 mk) (qCol (View.ld x1 r_S1x64x16_S1x16x16_0_32_0)) (total2 (weight2 mk (rowMax2 mk) (qCol (View.ld x1 r_S1x64x16_S1x16x16_0_32_0)))))) := rfl
theorem o2_3_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o2_3 i n x0 x1 x2 x3 u r k = (let mk := (masked2 (Scalar.addi (row0 i) 48#32) (score2 (View.ld x0 r_S1x64x16x512_S1x16x16x512_0_48_0_0) (qCol (View.ld x1 r_S1x64x16_S1x16x16_0_48_0)) (View.ld x2 r_S1x64x16x64_S1x16x16x64_0_48_0_0) (View.ld x3 r_S1x896x512_S1x512x512_0_0_0) (View.ld r r_S896x64_S512x64_0_0) (View.ld k r_S1x896_S1x512_0_0))); let p := weight2 mk (rowMax2 mk) (qCol (View.ld x1 r_S1x64x16_S1x16x16_0_48_0));
      outTile2 n (Scalar.addi (row0 i) 48#32) p (total2 p) (View.ld u r_S896x512_S512x512_0_0)) := rfl
theorem l2_3_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l2_3 i n x0 x1 x2 x3 u r k = (let mk := (masked2 (Scalar.addi (row0 i) 48#32) (score2 (View.ld x0 r_S1x64x16x512_S1x16x16x512_0_48_0_0) (qCol (View.ld x1 r_S1x64x16_S1x16x16_0_48_0)) (View.ld x2 r_S1x64x16x64_S1x16x16x64_0_48_0_0) (View.ld x3 r_S1x896x512_S1x512x512_0_0_0) (View.ld r r_S896x64_S512x64_0_0) (View.ld k r_S1x896_S1x512_0_0)));
      lseTile (lseCol n (Scalar.addi (row0 i) 48#32) (rowMax2 mk) (qCol (View.ld x1 r_S1x64x16_S1x16x16_0_48_0)) (total2 (weight2 mk (rowMax2 mk) (qCol (View.ld x1 r_S1x64x16_S1x16x16_0_48_0)))))) := rfl

end

variable (n base : BitVec 32) (v : FVec Ideal S256x512 .f32) (mx col l : FVec Ideal S256x1 .f32) (a h : Fin 16) (d : Fin 512) (κ : Fin 512) {b : ℕ}

theorem score2_read (x0 : Vec Ideal S1x16x16x512 .fp8e4m3) (x2 : Vec Ideal S1x16x16x64 .bf16) (x3 : Vec Ideal S1x512x512 .fp8e4m3) (r : Vec Ideal S512x64 .bf16) (k : Vec Ideal S1x512 .f32) (i : Fin 256) :
    score2 x0 col x2 x3 r k (ix2 i κ)
      = (∑ x, x0 (ix4 0 (tokOf i) (headOf i) x) * x3 (ix3 0 κ x)
          + ∑ x, Ideal.div (x2 (ix4 0 (tokOf i) (headOf i) x)) (col (ix2 i 0)) * r (ix2 κ x)) * k (ix2 0 κ) := by
  pointwise [score2]
  rfl

theorem score2_apply (x0 : Vec Ideal S1x16x16x512 .fp8e4m3) (x2 : Vec Ideal S1x16x16x64 .bf16) (x3 : Vec Ideal S1x512x512 .fp8e4m3) (r : Vec Ideal S512x64 .bf16) (k : Vec Ideal S1x512 .f32) :
    score2 x0 col x2 x3 r k (ix2 (row a h) κ)
      = (∑ x, x0 (ix4 0 a h x) * x3 (ix3 0 κ x) + ∑ x, Ideal.div (x2 (ix4 0 a h x)) (col (ix2 (row a h) 0)) * r (ix2 κ x)) * k (ix2 0 κ) := by
  rw [score2_read, tokOf_row, headOf_row]

theorem masked2_read (i : Fin 256) : masked2 base v (ix2 i κ)
    = if h : κ.val < 256 then v (ix2 i κ) else
        Scalar.select (IntOp.cmpi CmpIPredicate.sle (IntOp.addi (BitVec.ofNat 32 256) (BitVec.ofNat 32 (κ.val - 256))) (rowTok base (ix2 i 0)))
          (v (ix2 i ⟨256 + (κ.val - 256), by omega⟩)) (Ideal.ofBits FTy.f32 0xFF800000#32) := by
  pointwise [masked2]

theorem masked2_apply (hb : base = BitVec.ofNat 32 b) (hlt : b + 16 ≤ 896) (hO : 256 ≤ b) :
    masked2 base v (ix2 (row a h) κ) = Row.mask (b + a.val) (fun κ => v (ix2 (row a h) κ)) κ := by
  rw [masked2_read]
  unfold Row.mask
  split
  · rw [if_pos (by omega)]
  · rename_i hk
    rw [rowTok_apply base a h hb, Words.ofBits_bot]
    have e : IntOp.addi (BitVec.ofNat 32 256) (BitVec.ofNat 32 (κ.val - 256)) = BitVec.ofNat 32 κ.val := by
      rw [show κ.val = 256 + (κ.val - 256) by omega, Nat.add_sub_cancel_left]
      exact (BitVec.ofNat_add 256 _).symm
    rw [e, Words.select_sle (by omega) (by omega)]
    congr 3
    exact Fin.ext (by show 256 + (κ.val - 256) = κ.val; omega)

theorem rowMax2_apply (r : Fin 256) : rowMax2 v (ix2 r 0) = Row.top fun κ => v (ix2 r κ) := by
  pointwise [rowMax2]
  rw [Words.ofBits_bot]
  rfl

theorem weight2_apply (r : Fin 256) :
    weight2 v (rowMax2 v) col (ix2 r κ) = Row.kweight (col (ix2 r 0)) (fun κ => v (ix2 r κ)) κ := by
  have := rowMax2_apply v r
  generalize rowMax2 v = mx at this ⊢
  pointwise [weight2]
  rw [this]
  rfl

theorem total2_apply (r : Fin 256) : total2 v (ix2 r 0) = ∑ κ, v (ix2 r κ) := by
  pointwise [total2]

theorem outTile2_apply (u : Vec Ideal S512x512 .bf16) (hb : base = BitVec.ofNat 32 b) (hlt : b + 16 ≤ 896) :
    outTile2 n base v l u (ix4 0 a h d) = if ((b + a.val : ℕ) : Int) < n.toInt then
      Ideal.div (∑ κ, v (ix2 (row a h) κ) * u (ix2 κ d)) (l (ix2 (row a h) 0)) else 0 := by
  pointwise [outTile2]
  exact select_live n base a h hb hlt _ _

/-- The outputs of a tile, of any scores. -/
theorem out2_row (u : Vec Ideal S512x512 .bf16) (hb : base = BitVec.ofNat 32 b) (hlt : b + 16 ≤ 896) (hO : 256 ≤ b) :
    outTile2 n base (weight2 (masked2 base v) (rowMax2 (masked2 base v)) col)
        (total2 (weight2 (masked2 base v) (rowMax2 (masked2 base v)) col)) u (ix4 0 a h d)
      = if ((b + a.val : ℕ) : Int) < n.toInt then
          Row.kout (col (ix2 (row a h) 0)) (Row.mask (b + a.val) fun κ => v (ix2 (row a h) κ)) (fun κ => u (ix2 κ d)) else 0 := by
  rw [outTile2_apply n base _ _ a h d u hb hlt, total2_apply]
  simp only [weight2_apply, masked2_apply base v a h _ hb hlt hO]
  rfl

/-- The log-sum-exps of a tile, of any scores. -/
theorem lse2_row (hb : base = BitVec.ofNat 32 b) (hlt : b + 16 ≤ 896) (hO : 256 ≤ b) :
    lseTile (lseCol n base (rowMax2 (masked2 base v)) col (total2 (weight2 (masked2 base v) (rowMax2 (masked2 base v)) col))) (ix3 0 a h)
      = if ((b + a.val : ℕ) : Int) < n.toInt then
          Row.klse (col (ix2 (row a h) 0)) (Row.mask (b + a.val) fun κ => v (ix2 (row a h) κ)) else 0 := by
  rw [lseTile_apply, lseCol_apply n base _ _ _ a h hb hlt, total2_apply, rowMax2_apply]
  simp only [weight2_apply, masked2_apply base v a h _ hb hlt hO]
  rfl

end Cert.KernelIdeal.Run

end
-- ==== Proof.KernelIdeal.Rows2.lean ====
/- The blocks the kernel writes from 512 keys, at an index. -/
module

public import proofs.«01_k».proof.Proof.KernelIdeal.Rows
public import proofs.«01_k».proof.Proof.KernelIdeal.Stage2

@[expose] public section

set_option maxRecDepth 16384

noncomputable section

namespace Cert.KernelIdeal.Run

open Cert.KernelIdeal.Gen
open Idealize.ShloMosaic Idealize.ShloMosaic.TcCoe Idealize.SL.Sem

variable (i : grid0.Coords) (n : BitVec 32) (x0 : Vec Ideal S1x64x16x512 .fp8e4m3) (x1 : Vec Ideal S1x64x16 .f32)
  (x2 : Vec Ideal S1x64x16x64 .bf16) (x3 : Vec Ideal S1x896x512 .fp8e4m3) (u : Vec Ideal S896x512 .bf16) (r : Vec Ideal S896x64 .bf16)
  (k : Vec Ideal S1x896 .f32) (a h : Fin 16) (d : Fin 512)

theorem s2_0_row : (fun κ => score2 (View.ld x0 r_S1x64x16x512_S1x16x16x512_0_0_0_0) (qCol (View.ld x1 r_S1x64x16_S1x16x16_0_0_0)) (View.ld x2 r_S1x64x16x64_S1x16x16x64_0_0_0_0) (View.ld x3 r_S1x896x512_S1x512x512_0_0_0) (View.ld r r_S896x64_S512x64_0_0) (View.ld k r_S1x896_S1x512_0_0) (ix2 (row a h) κ))
    = tokScore 512 (by norm_num) x0 x1 x2 x3 r k ⟨0 + a.val, by omega⟩ h := by
  funext κ
  rw [score2_apply]
  unfold tokScore
  rw [qCol_apply, ld1_0, ldK_512]
  refine congrArg₂ (fun s t : EReal => (s + t) * _) (Finset.sum_congr rfl fun x _ => ?_) (Finset.sum_congr rfl fun x _ => ?_)
  · rw [ld0_0, ld3_512]
  · rw [ld2_0, ldR_512]
theorem o2_0_row (hi : (i 1).val / 4 + 1 = 2) : o2_0 i n x0 x1 x2 x3 u r k (ix4 0 a h d)
    = tokO 512 (by norm_num) (i 1).val n x0 x1 x2 x3 u r k ⟨0 + a.val, by omega⟩ h d := by
  have hj := col_lt i
  refine (congrFun (o2_0_eq i n x0 x1 x2 x3 u r k) _).trans ((out2_row n _ _ _ a h d _ (base_eq i 0) (by omega) (by omega)).trans ?_)
  unfold tokO
  rw [s2_0_row, qCol_apply, ld1_0, Nat.add_assoc, funext fun κ => ldU_512 u κ d]
theorem l2_0_row (hi : (i 1).val / 4 + 1 = 2) : l2_0 i n x0 x1 x2 x3 u r k (ix3 0 a h)
    = tokL 512 (by norm_num) (i 1).val n x0 x1 x2 x3 r k ⟨0 + a.val, by omega⟩ h := by
  have hj := col_lt i
  refine (congrFun (l2_0_eq i n x0 x1 x2 x3 u r k) _).trans ((lse2_row n _ _ _ a h (base_eq i 0) (by omega) (by omega)).trans ?_)
  unfold tokL
  rw [s2_0_row, qCol_apply, ld1_0, Nat.add_assoc]

theorem s2_1_row : (fun κ => score2 (View.ld x0 r_S1x64x16x512_S1x16x16x512_0_16_0_0) (qCol (View.ld x1 r_S1x64x16_S1x16x16_0_16_0)) (View.ld x2 r_S1x64x16x64_S1x16x16x64_0_16_0_0) (View.ld x3 r_S1x896x512_S1x512x512_0_0_0) (View.ld r r_S896x64_S512x64_0_0) (View.ld k r_S1x896_S1x512_0_0) (ix2 (row a h) κ))
    = tokScore 512 (by norm_num) x0 x1 x2 x3 r k ⟨16 + a.val, by omega⟩ h := by
  funext κ
  rw [score2_apply]
  unfold tokScore
  rw [qCol_apply, ld1_16, ldK_512]
  refine congrArg₂ (fun s t : EReal => (s + t) * _) (Finset.sum_congr rfl fun x _ => ?_) (Finset.sum_congr rfl fun x _ => ?_)
  · rw [ld0_16, ld3_512]
  · rw [ld2_16, ldR_512]
theorem o2_1_row (hi : (i 1).val / 4 + 1 = 2) : o2_1 i n x0 x1 x2 x3 u r k (ix4 0 a h d)
    = tokO 512 (by norm_num) (i 1).val n x0 x1 x2 x3 u r k ⟨16 + a.val, by omega⟩ h d := by
  have hj := col_lt i
  refine (congrFun (o2_1_eq i n x0 x1 x2 x3 u r k) _).trans ((out2_row n _ _ _ a h d _ (base_eq i 16) (by omega) (by omega)).trans ?_)
  unfold tokO
  rw [s2_1_row, qCol_apply, ld1_16, Nat.add_assoc, funext fun κ => ldU_512 u κ d]
theorem l2_1_row (hi : (i 1).val / 4 + 1 = 2) : l2_1 i n x0 x1 x2 x3 u r k (ix3 0 a h)
    = tokL 512 (by norm_num) (i 1).val n x0 x1 x2 x3 r k ⟨16 + a.val, by omega⟩ h := by
  have hj := col_lt i
  refine (congrFun (l2_1_eq i n x0 x1 x2 x3 u r k) _).trans ((lse2_row n _ _ _ a h (base_eq i 16) (by omega) (by omega)).trans ?_)
  unfold tokL
  rw [s2_1_row, qCol_apply, ld1_16, Nat.add_assoc]

theorem s2_2_row : (fun κ => score2 (View.ld x0 r_S1x64x16x512_S1x16x16x512_0_32_0_0) (qCol (View.ld x1 r_S1x64x16_S1x16x16_0_32_0)) (View.ld x2 r_S1x64x16x64_S1x16x16x64_0_32_0_0) (View.ld x3 r_S1x896x512_S1x512x512_0_0_0) (View.ld r r_S896x64_S512x64_0_0) (View.ld k r_S1x896_S1x512_0_0) (ix2 (row a h) κ))
    = tokScore 512 (by norm_num) x0 x1 x2 x3 r k ⟨32 + a.val, by omega⟩ h := by
  funext κ
  rw [score2_apply]
  unfold tokScore
  rw [qCol_apply, ld1_32, ldK_512]
  refine congrArg₂ (fun s t : EReal => (s + t) * _) (Finset.sum_congr rfl fun x _ => ?_) (Finset.sum_congr rfl fun x _ => ?_)
  · rw [ld0_32, ld3_512]
  · rw [ld2_32, ldR_512]
theorem o2_2_row (hi : (i 1).val / 4 + 1 = 2) : o2_2 i n x0 x1 x2 x3 u r k (ix4 0 a h d)
    = tokO 512 (by norm_num) (i 1).val n x0 x1 x2 x3 u r k ⟨32 + a.val, by omega⟩ h d := by
  have hj := col_lt i
  refine (congrFun (o2_2_eq i n x0 x1 x2 x3 u r k) _).trans ((out2_row n _ _ _ a h d _ (base_eq i 32) (by omega) (by omega)).trans ?_)
  unfold tokO
  rw [s2_2_row, qCol_apply, ld1_32, Nat.add_assoc, funext fun κ => ldU_512 u κ d]
theorem l2_2_row (hi : (i 1).val / 4 + 1 = 2) : l2_2 i n x0 x1 x2 x3 u r k (ix3 0 a h)
    = tokL 512 (by norm_num) (i 1).val n x0 x1 x2 x3 r k ⟨32 + a.val, by omega⟩ h := by
  have hj := col_lt i
  refine (congrFun (l2_2_eq i n x0 x1 x2 x3 u r k) _).trans ((lse2_row n _ _ _ a h (base_eq i 32) (by omega) (by omega)).trans ?_)
  unfold tokL
  rw [s2_2_row, qCol_apply, ld1_32, Nat.add_assoc]

theorem s2_3_row : (fun κ => score2 (View.ld x0 r_S1x64x16x512_S1x16x16x512_0_48_0_0) (qCol (View.ld x1 r_S1x64x16_S1x16x16_0_48_0)) (View.ld x2 r_S1x64x16x64_S1x16x16x64_0_48_0_0) (View.ld x3 r_S1x896x512_S1x512x512_0_0_0) (View.ld r r_S896x64_S512x64_0_0) (View.ld k r_S1x896_S1x512_0_0) (ix2 (row a h) κ))
    = tokScore 512 (by norm_num) x0 x1 x2 x3 r k ⟨48 + a.val, by omega⟩ h := by
  funext κ
  rw [score2_apply]
  unfold tokScore
  rw [qCol_apply, ld1_48, ldK_512]
  refine congrArg₂ (fun s t : EReal => (s + t) * _) (Finset.sum_congr rfl fun x _ => ?_) (Finset.sum_congr rfl fun x _ => ?_)
  · rw [ld0_48, ld3_512]
  · rw [ld2_48, ldR_512]
theorem o2_3_row (hi : (i 1).val / 4 + 1 = 2) : o2_3 i n x0 x1 x2 x3 u r k (ix4 0 a h d)
    = tokO 512 (by norm_num) (i 1).val n x0 x1 x2 x3 u r k ⟨48 + a.val, by omega⟩ h d := by
  have hj := col_lt i
  refine (congrFun (o2_3_eq i n x0 x1 x2 x3 u r k) _).trans ((out2_row n _ _ _ a h d _ (base_eq i 48) (by omega) (by omega)).trans ?_)
  unfold tokO
  rw [s2_3_row, qCol_apply, ld1_48, Nat.add_assoc, funext fun κ => ldU_512 u κ d]
theorem l2_3_row (hi : (i 1).val / 4 + 1 = 2) : l2_3 i n x0 x1 x2 x3 u r k (ix3 0 a h)
    = tokL 512 (by norm_num) (i 1).val n x0 x1 x2 x3 r k ⟨48 + a.val, by omega⟩ h := by
  have hj := col_lt i
  refine (congrFun (l2_3_eq i n x0 x1 x2 x3 u r k) _).trans ((lse2_row n _ _ _ a h (base_eq i 48) (by omega) (by omega)).trans ?_)
  unfold tokL
  rw [s2_3_row, qCol_apply, ld1_48, Nat.add_assoc]

/-- The block of outputs from 512 keys, at an index. -/
theorem out2_apply (hi : (i 1).val / 4 + 1 = 2) (y : S1x64x16x512.Idx) : out2 i n x0 x1 x2 x3 u r k y
    = tokO 512 (by norm_num) (i 1).val n x0 x1 x2 x3 u r k (y 1) (y 2) (y 3) := by
  unfold out2
  refine View.canon_apply_of_pieces (Val := Elt Ideal) (fun y : S1x64x16x512.Idx => tokO 512 (by norm_num) (i 1).val n x0 x1 x2 x3 u r k (y 1) (y 2) (y 3)) _ ?_ y (cover6 _ _ _ _ y)
  intro p hp x
  simp only [List.mem_cons, List.not_mem_nil, or_false] at hp
  obtain rfl | rfl | rfl | rfl := hp
  · obtain ⟨a, h, d, rfl⟩ := idxO x
    exact (o2_3_row i n x0 x1 x2 x3 u r k a h d hi).trans (pieceO_48 (tokO 512 (by norm_num) (i 1).val n x0 x1 x2 x3 u r k) a h d).symm
  · obtain ⟨a, h, d, rfl⟩ := idxO x
    exact (o2_2_row i n x0 x1 x2 x3 u r k a h d hi).trans (pieceO_32 (tokO 512 (by norm_num) (i 1).val n x0 x1 x2 x3 u r k) a h d).symm
  · obtain ⟨a, h, d, rfl⟩ := idxO x
    exact (o2_1_row i n x0 x1 x2 x3 u r k a h d hi).trans (pieceO_16 (tokO 512 (by norm_num) (i 1).val n x0 x1 x2 x3 u r k) a h d).symm
  · obtain ⟨a, h, d, rfl⟩ := idxO x
    exact (o2_0_row i n x0 x1 x2 x3 u r k a h d hi).trans (pieceO_0 (tokO 512 (by norm_num) (i 1).val n x0 x1 x2 x3 u r k) a h d).symm

/-- The block of log-sum-exps from 512 keys, at an index. -/
theorem lse2_apply (hi : (i 1).val / 4 + 1 = 2) (y : S1x64x16.Idx) : lse2 i n x0 x1 x2 x3 u r k y
    = tokL 512 (by norm_num) (i 1).val n x0 x1 x2 x3 r k (y 1) (y 2) := by
  unfold lse2
  refine View.canon_apply_of_pieces (Val := Elt Ideal) (fun y : S1x64x16.Idx => tokL 512 (by norm_num) (i 1).val n x0 x1 x2 x3 r k (y 1) (y 2)) _ ?_ y (cover7 _ _ _ _ y)
  intro p hp x
  simp only [List.mem_cons, List.not_mem_nil, or_false] at hp
  obtain rfl | rfl | rfl | rfl := hp
  · obtain ⟨a, h, rfl⟩ := idxL x
    exact (l2_3_row i n x0 x1 x2 x3 u r k a h hi).trans (pieceL_48 (tokL 512 (by norm_num) (i 1).val n x0 x1 x2 x3 r k) a h).symm
  · obtain ⟨a, h, rfl⟩ := idxL x
    exact (l2_2_row i n x0 x1 x2 x3 u r k a h hi).trans (pieceL_32 (tokL 512 (by norm_num) (i 1).val n x0 x1 x2 x3 r k) a h).symm
  · obtain ⟨a, h, rfl⟩ := idxL x
    exact (l2_1_row i n x0 x1 x2 x3 u r k a h hi).trans (pieceL_16 (tokL 512 (by norm_num) (i 1).val n x0 x1 x2 x3 r k) a h).symm
  · obtain ⟨a, h, rfl⟩ := idxL x
    exact (l2_0_row i n x0 x1 x2 x3 u r k a h hi).trans (pieceL_0 (tokL 512 (by norm_num) (i 1).val n x0 x1 x2 x3 r k) a h).symm

end Cert.KernelIdeal.Run

end
-- ==== Proof.KernelIdeal.Stage3.lean ====
/- The steps of a tile of sixteen tokens against 768 keys: what the branch stores is their composition, and their
   readings at one row. -/
module

public import proofs.«01_k».proof.Proof.KernelIdeal.Stage

@[expose] public section

set_option maxRecDepth 16384

noncomputable section

namespace Cert.KernelIdeal.Run

open Cert.KernelIdeal.Gen
open Idealize.ShloMosaic Idealize.ShloMosaic.TcCoe Idealize.SL.Sem

section

variable {F : FTy → Type} [FloatOps F] [Named F]

/-- The scores of 256 rows against 768 keys, with the key scale and the logarithm's base folded in. -/
def score3 (x0 : Vec F S1x16x16x512 .fp8e4m3) (col : FVec F S256x1 .f32) (x2 : Vec F S1x16x16x64 .bf16) (x3 : Vec F S1x768x512 .fp8e4m3) (r : Vec F S768x64 .bf16) (k : Vec F S1x768 .f32) : FVec F S256x768 .f32 :=
  mulf (addf
    (matmul dot_S256x512_S768x512_S256x768_1_1_0_0_n_n none (shapeCast S256x512 (shapeCast S16x16x512 x0 shapeCasts_S1x16x16x512_S16x16x512) shapeCasts_S16x16x512_S256x512)
      (shapeCast S768x512 x3 shapeCasts_S1x768x512_S768x512) (constant S256x768 .f32 0x00000000#32))
    (matmul dot_S256x64_S768x64_S256x768_1_1_0_0_n_n none
      (truncf .bf16 (divf (extf .f32 (shapeCast S256x64 (shapeCast S16x16x64 x2 shapeCasts_S1x16x16x64_S16x16x64) shapeCasts_S16x16x64_S256x64) bitsLt_bf16_f32)
        (broadcastTo S256x64 col broadcasts_S256x1_S256x64)) bitsLt_bf16_f32) r (constant S256x768 .f32 0x00000000#32)))
    (broadcastTo S256x768 k broadcasts_S1x768_S256x768)

/-- The scores with the keys after a row's token masked; the keys before 512 are those of earlier tokens for every row. -/
def masked3 (base : BitVec 32) (v : FVec F S256x768 .f32) : FVec F S256x768 .f32 :=
  concatenate S256x768 1 [⟨S256x512, extractStridedSlice S256x512 ![0, 0] v slices_S256x768_o0_0_S256x512⟩, ⟨S256x256, select (cmpi .sle (addi (broadcast S256x256 512#32) (iota .tc S256x256 32 [1] iota_S256x256_d1_w32)) (broadcastTo S256x256 (rowTok base) broadcasts_S256x1_S256x256))
    (extractStridedSlice S256x256 ![0, 512] v slices_S256x768_o0_512_S256x256) (broadcast S256x256 (Scalar.ofBits .f32 0xFF800000#32 : F .f32))⟩]
    concatenates_S256x512_S256x256_S256x768_d1

/-- The maximum of each row. -/
def rowMax3 (v : FVec F S256x768 .f32) : FVec F S256x1 .f32 :=
  shapeCast S256x1 (multiReduction .maximumf [1] S256 v 0xFF800000#32 reduces_S256x768_S256 (.inl rfl) rfl) shapeCasts_S256_S256x1

/-- The weights of the keys, before they are divided by their total. -/
def weight3 (v : FVec F S256x768 .f32) (mx col : FVec F S256x1 .f32) : FVec F S256x768 .f32 :=
  exp2 (mulf (subf v (broadcastTo S256x768 mx broadcasts_S256x1_S256x768)) (broadcastTo S256x768 col broadcasts_S256x1_S256x768))

/-- The total of each row's weights. -/
def total3 (p : FVec F S256x768 .f32) : FVec F S256x1 .f32 :=
  shapeCast S256x1 (multiReduction .add [1] S256 p 0x00000000#32 reduces_S256x768_S256 (.inl rfl) rfl) shapeCasts_S256_S256x1

/-- The outputs of the rows: the weighted values over the total where the row is a token of the sequence, 0 elsewhere. -/
def outTile3 (n base : BitVec 32) (p : FVec F S256x768 .f32) (l : FVec F S256x1 .f32) (u : Vec F S768x512 .bf16) : FVec F S1x16x16x512 .bf16 :=
  shapeCast S1x16x16x512 (shapeCast S16x16x512 (truncf .bf16 (select
    (broadcastTo S256x512 (shapeCast S256x1 (live n base) shapeCasts_S256x1_S256x1) broadcasts_S256x1_S256x512)
    (divf (matmul dot_S256x768_S768x512_S256x512_1_0_0_1_n_n none (truncf .bf16 p bitsLt_bf16_f32) u (constant S256x512 .f32 0x00000000#32))
      (broadcastTo S256x512 l broadcasts_S256x1_S256x512))
    (broadcast S256x512 (Scalar.ofBits .f32 0x00000000#32 : F .f32))) bitsLt_bf16_f32) shapeCasts_S256x512_S16x16x512) shapeCasts_S16x16x512_S1x16x16x512

theorem o3_0_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o3_0 i n x0 x1 x2 x3 u r k = (let mk := (masked3 (Scalar.addi (row0 i) 0#32) (score3 (View.ld x0 r_S1x64x16x512_S1x16x16x512_0_0_0_0) (qCol (View.ld x1 r_S1x64x16_S1x16x16_0_0_0)) (View.ld x2 r_S1x64x16x64_S1x16x16x64_0_0_0_0) (View.ld x3 r_S1x896x512_S1x768x512_0_0_0) (View.ld r r_S896x64_S768x64_0_0) (View.ld k r_S1x896_S1x768_0_0))); let p := weight3 mk (rowMax3 mk) (qCol (View.ld x1 r_S1x64x16_S1x16x16_0_0_0));
      outTile3 n (Scalar.addi (row0 i) 0#32) p (total3 p) (View.ld u r_S896x512_S768x512_0_0)) := rfl
theorem l3_0_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l3_0 i n x0 x1 x2 x3 u r k = (let mk := (masked3 (Scalar.addi (row0 i) 0#32) (score3 (View.ld x0 r_S1x64x16x512_S1x16x16x512_0_0_0_0) (qCol (View.ld x1 r_S1x64x16_S1x16x16_0_0_0)) (View.ld x2 r_S1x64x16x64_S1x16x16x64_0_0_0_0) (View.ld x3 r_S1x896x512_S1x768x512_0_0_0) (View.ld r r_S896x64_S768x64_0_0) (View.ld k r_S1x896_S1x768_0_0)));
      lseTile (lseCol n (Scalar.addi (row0 i) 0#32) (rowMax3 mk) (qCol (View.ld x1 r_S1x64x16_S1x16x16_0_0_0)) (total3 (weight3 mk (rowMax3 mk) (qCol (View.ld x1 r_S1x64x16_S1x16x16_0_0_0)))))) := rfl
theorem o3_1_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o3_1 i n x0 x1 x2 x3 u r k = (let mk := (masked3 (Scalar.addi (row0 i) 16#32) (score3 (View.ld x0 r_S1x64x16x512_S1x16x16x512_0_16_0_0) (qCol (View.ld x1 r_S1x64x16_S1x16x16_0_16_0)) (View.ld x2 r_S1x64x16x64_S1x16x16x64_0_16_0_0) (View.ld x3 r_S1x896x512_S1x768x512_0_0_0) (View.ld r r_S896x64_S768x64_0_0) (View.ld k r_S1x896_S1x768_0_0))); let p := weight3 mk (rowMax3 mk) (qCol (View.ld x1 r_S1x64x16_S1x16x16_0_16_0));
      outTile3 n (Scalar.addi (row0 i) 16#32) p (total3 p) (View.ld u r_S896x512_S768x512_0_0)) := rfl
theorem l3_1_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l3_1 i n x0 x1 x2 x3 u r k = (let mk := (masked3 (Scalar.addi (row0 i) 16#32) (score3 (View.ld x0 r_S1x64x16x512_S1x16x16x512_0_16_0_0) (qCol (View.ld x1 r_S1x64x16_S1x16x16_0_16_0)) (View.ld x2 r_S1x64x16x64_S1x16x16x64_0_16_0_0) (View.ld x3 r_S1x896x512_S1x768x512_0_0_0) (View.ld r r_S896x64_S768x64_0_0) (View.ld k r_S1x896_S1x768_0_0)));
      lseTile (lseCol n (Scalar.addi (row0 i) 16#32) (rowMax3 mk) (qCol (View.ld x1 r_S1x64x16_S1x16x16_0_16_0)) (total3 (weight3 mk (rowMax3 mk) (qCol (View.ld x1 r_S1x64x16_S1x16x16_0_16_0)))))) := rfl
theorem o3_2_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o3_2 i n x0 x1 x2 x3 u r k = (let mk := (masked3 (Scalar.addi (row0 i) 32#32) (score3 (View.ld x0 r_S1x64x16x512_S1x16x16x512_0_32_0_0) (qCol (View.ld x1 r_S1x64x16_S1x16x16_0_32_0)) (View.ld x2 r_S1x64x16x64_S1x16x16x64_0_32_0_0) (View.ld x3 r_S1x896x512_S1x768x512_0_0_0) (View.ld r r_S896x64_S768x64_0_0) (View.ld k r_S1x896_S1x768_0_0))); let p := weight3 mk (rowMax3 mk) (qCol (View.ld x1 r_S1x64x16_S1x16x16_0_32_0));
      outTile3 n (Scalar.addi (row0 i) 32#32) p (total3 p) (View.ld u r_S896x512_S768x512_0_0)) := rfl
theorem l3_2_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l3_2 i n x0 x1 x2 x3 u r k = (let mk := (masked3 (Scalar.addi (row0 i) 32#32) (score3 (View.ld x0 r_S1x64x16x512_S1x16x16x512_0_32_0_0) (qCol (View.ld x1 r_S1x64x16_S1x16x16_0_32_0)) (View.ld x2 r_S1x64x16x64_S1x16x16x64_0_32_0_0) (View.ld x3 r_S1x896x512_S1x768x512_0_0_0) (View.ld r r_S896x64_S768x64_0_0) (View.ld k r_S1x896_S1x768_0_0)));
      lseTile (lseCol n (Scalar.addi (row0 i) 32#32) (rowMax3 mk) (qCol (View.ld x1 r_S1x64x16_S1x16x16_0_32_0)) (total3 (weight3 mk (rowMax3 mk) (qCol (View.ld x1 r_S1x64x16_S1x16x16_0_32_0)))))) := rfl
theorem o3_3_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o3_3 i n x0 x1 x2 x3 u r k = (let mk := (masked3 (Scalar.addi (row0 i) 48#32) (score3 (View.ld x0 r_S1x64x16x512_S1x16x16x512_0_48_0_0) (qCol (View.ld x1 r_S1x64x16_S1x16x16_0_48_0)) (View.ld x2 r_S1x64x16x64_S1x16x16x64_0_48_0_0) (View.ld x3 r_S1x896x512_S1x768x512_0_0_0) (View.ld r r_S896x64_S768x64_0_0) (View.ld k r_S1x896_S1x768_0_0))); let p := weight3 mk (rowMax3 mk) (qCol (View.ld x1 r_S1x64x16_S1x16x16_0_48_0));
      outTile3 n (Scalar.addi (row0 i) 48#32) p (total3 p) (View.ld u r_S896x512_S768x512_0_0)) := rfl
theorem l3_3_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l3_3 i n x0 x1 x2 x3 u r k = (let mk := (masked3 (Scalar.addi (row0 i) 48#32) (score3 (View.ld x0 r_S1x64x16x512_S1x16x16x512_0_48_0_0) (qCol (View.ld x1 r_S1x64x16_S1x16x16_0_48_0)) (View.ld x2 r_S1x64x16x64_S1x16x16x64_0_48_0_0) (View.ld x3 r_S1x896x512_S1x768x512_0_0_0) (View.ld r r_S896x64_S768x64_0_0) (View.ld k r_S1x896_S1x768_0_0)));
      lseTile (lseCol n (Scalar.addi (row0 i) 48#32) (rowMax3 mk) (qCol (View.ld x1 r_S1x64x16_S1x16x16_0_48_0)) (total3 (weight3 mk (rowMax3 mk) (qCol (View.ld x1 r_S1x64x16_S1x16x16_0_48_0)))))) := rfl

end

variable (n base : BitVec 32) (v : FVec Ideal S256x768 .f32) (mx col l : FVec Ideal S256x1 .f32) (a h : Fin 16) (d : Fin 512) (κ : Fin 768) {b : ℕ}

theorem score3_read (x0 : Vec Ideal S1x16x16x512 .fp8e4m3) (x2 : Vec Ideal S1x16x16x64 .bf16) (x3 : Vec Ideal S1x768x512 .fp8e4m3) (r : Vec Ideal S768x64 .bf16) (k : Vec Ideal S1x768 .f32) (i : Fin 256) :
    score3 x0 col x2 x3 r k (ix2 i κ)
      = (∑ x, x0 (ix4 0 (tokOf i) (headOf i) x) * x3 (ix3 0 κ x)
          + ∑ x, Ideal.div (x2 (ix4 0 (tokOf i) (headOf i) x)) (col (ix2 i 0)) * r (ix2 κ x)) * k (ix2 0 κ) := by
  pointwise [score3]
  rfl

theorem score3_apply (x0 : Vec Ideal S1x16x16x512 .fp8e4m3) (x2 : Vec Ideal S1x16x16x64 .bf16) (x3 : Vec Ideal S1x768x512 .fp8e4m3) (r : Vec Ideal S768x64 .bf16) (k : Vec Ideal S1x768 .f32) :
    score3 x0 col x2 x3 r k (ix2 (row a h) κ)
      = (∑ x, x0 (ix4 0 a h x) * x3 (ix3 0 κ x) + ∑ x, Ideal.div (x2 (ix4 0 a h x)) (col (ix2 (row a h) 0)) * r (ix2 κ x)) * k (ix2 0 κ) := by
  rw [score3_read, tokOf_row, headOf_row]

theorem masked3_read (i : Fin 256) : masked3 base v (ix2 i κ)
    = if h : κ.val < 512 then v (ix2 i κ) else
        Scalar.select (IntOp.cmpi CmpIPredicate.sle (IntOp.addi (BitVec.ofNat 32 512) (BitVec.ofNat 32 (κ.val - 512))) (rowTok base (ix2 i 0)))
          (v (ix2 i ⟨512 + (κ.val - 512), by omega⟩)) (Ideal.ofBits FTy.f32 0xFF800000#32) := by
  pointwise [masked3]

theorem masked3_apply (hb : base = BitVec.ofNat 32 b) (hlt : b + 16 ≤ 896) (hO : 512 ≤ b) :
    masked3 base v (ix2 (row a h) κ) = Row.mask (b + a.val) (fun κ => v (ix2 (row a h) κ)) κ := by
  rw [masked3_read]
  unfold Row.mask
  split
  · rw [if_pos (by omega)]
  · rename_i hk
    rw [rowTok_apply base a h hb, Words.ofBits_bot]
    have e : IntOp.addi (BitVec.ofNat 32 512) (BitVec.ofNat 32 (κ.val - 512)) = BitVec.ofNat 32 κ.val := by
      rw [show κ.val = 512 + (κ.val - 512) by omega, Nat.add_sub_cancel_left]
      exact (BitVec.ofNat_add 512 _).symm
    rw [e, Words.select_sle (by omega) (by omega)]
    congr 3
    exact Fin.ext (by show 512 + (κ.val - 512) = κ.val; omega)

theorem rowMax3_apply (r : Fin 256) : rowMax3 v (ix2 r 0) = Row.top fun κ => v (ix2 r κ) := by
  pointwise [rowMax3]
  rw [Words.ofBits_bot]
  rfl

theorem weight3_apply (r : Fin 256) :
    weight3 v (rowMax3 v) col (ix2 r κ) = Row.kweight (col (ix2 r 0)) (fun κ => v (ix2 r κ)) κ := by
  have := rowMax3_apply v r
  generalize rowMax3 v = mx at this ⊢
  pointwise [weight3]
  rw [this]
  rfl

theorem total3_apply (r : Fin 256) : total3 v (ix2 r 0) = ∑ κ, v (ix2 r κ) := by
  pointwise [total3]

theorem outTile3_apply (u : Vec Ideal S768x512 .bf16) (hb : base = BitVec.ofNat 32 b) (hlt : b + 16 ≤ 896) :
    outTile3 n base v l u (ix4 0 a h d) = if ((b + a.val : ℕ) : Int) < n.toInt then
      Ideal.div (∑ κ, v (ix2 (row a h) κ) * u (ix2 κ d)) (l (ix2 (row a h) 0)) else 0 := by
  pointwise [outTile3]
  exact select_live n base a h hb hlt _ _

/-- The outputs of a tile, of any scores. -/
theorem out3_row (u : Vec Ideal S768x512 .bf16) (hb : base = BitVec.ofNat 32 b) (hlt : b + 16 ≤ 896) (hO : 512 ≤ b) :
    outTile3 n base (weight3 (masked3 base v) (rowMax3 (masked3 base v)) col)
        (total3 (weight3 (masked3 base v) (rowMax3 (masked3 base v)) col)) u (ix4 0 a h d)
      = if ((b + a.val : ℕ) : Int) < n.toInt then
          Row.kout (col (ix2 (row a h) 0)) (Row.mask (b + a.val) fun κ => v (ix2 (row a h) κ)) (fun κ => u (ix2 κ d)) else 0 := by
  rw [outTile3_apply n base _ _ a h d u hb hlt, total3_apply]
  simp only [weight3_apply, masked3_apply base v a h _ hb hlt hO]
  rfl

/-- The log-sum-exps of a tile, of any scores. -/
theorem lse3_row (hb : base = BitVec.ofNat 32 b) (hlt : b + 16 ≤ 896) (hO : 512 ≤ b) :
    lseTile (lseCol n base (rowMax3 (masked3 base v)) col (total3 (weight3 (masked3 base v) (rowMax3 (masked3 base v)) col))) (ix3 0 a h)
      = if ((b + a.val : ℕ) : Int) < n.toInt then
          Row.klse (col (ix2 (row a h) 0)) (Row.mask (b + a.val) fun κ => v (ix2 (row a h) κ)) else 0 := by
  rw [lseTile_apply, lseCol_apply n base _ _ _ a h hb hlt, total3_apply, rowMax3_apply]
  simp only [weight3_apply, masked3_apply base v a h _ hb hlt hO]
  rfl

end Cert.KernelIdeal.Run

end
-- ==== Proof.KernelIdeal.Rows3.lean ====
/- The blocks the kernel writes from 768 keys, at an index. -/
module

public import proofs.«01_k».proof.Proof.KernelIdeal.Rows
public import proofs.«01_k».proof.Proof.KernelIdeal.Stage3

@[expose] public section

set_option maxRecDepth 16384

noncomputable section

namespace Cert.KernelIdeal.Run

open Cert.KernelIdeal.Gen
open Idealize.ShloMosaic Idealize.ShloMosaic.TcCoe Idealize.SL.Sem

variable (i : grid0.Coords) (n : BitVec 32) (x0 : Vec Ideal S1x64x16x512 .fp8e4m3) (x1 : Vec Ideal S1x64x16 .f32)
  (x2 : Vec Ideal S1x64x16x64 .bf16) (x3 : Vec Ideal S1x896x512 .fp8e4m3) (u : Vec Ideal S896x512 .bf16) (r : Vec Ideal S896x64 .bf16)
  (k : Vec Ideal S1x896 .f32) (a h : Fin 16) (d : Fin 512)

theorem s3_0_row : (fun κ => score3 (View.ld x0 r_S1x64x16x512_S1x16x16x512_0_0_0_0) (qCol (View.ld x1 r_S1x64x16_S1x16x16_0_0_0)) (View.ld x2 r_S1x64x16x64_S1x16x16x64_0_0_0_0) (View.ld x3 r_S1x896x512_S1x768x512_0_0_0) (View.ld r r_S896x64_S768x64_0_0) (View.ld k r_S1x896_S1x768_0_0) (ix2 (row a h) κ))
    = tokScore 768 (by norm_num) x0 x1 x2 x3 r k ⟨0 + a.val, by omega⟩ h := by
  funext κ
  rw [score3_apply]
  unfold tokScore
  rw [qCol_apply, ld1_0, ldK_768]
  refine congrArg₂ (fun s t : EReal => (s + t) * _) (Finset.sum_congr rfl fun x _ => ?_) (Finset.sum_congr rfl fun x _ => ?_)
  · rw [ld0_0, ld3_768]
  · rw [ld2_0, ldR_768]
theorem o3_0_row (hi : (i 1).val / 4 + 1 = 3) : o3_0 i n x0 x1 x2 x3 u r k (ix4 0 a h d)
    = tokO 768 (by norm_num) (i 1).val n x0 x1 x2 x3 u r k ⟨0 + a.val, by omega⟩ h d := by
  have hj := col_lt i
  refine (congrFun (o3_0_eq i n x0 x1 x2 x3 u r k) _).trans ((out3_row n _ _ _ a h d _ (base_eq i 0) (by omega) (by omega)).trans ?_)
  unfold tokO
  rw [s3_0_row, qCol_apply, ld1_0, Nat.add_assoc, funext fun κ => ldU_768 u κ d]
theorem l3_0_row (hi : (i 1).val / 4 + 1 = 3) : l3_0 i n x0 x1 x2 x3 u r k (ix3 0 a h)
    = tokL 768 (by norm_num) (i 1).val n x0 x1 x2 x3 r k ⟨0 + a.val, by omega⟩ h := by
  have hj := col_lt i
  refine (congrFun (l3_0_eq i n x0 x1 x2 x3 u r k) _).trans ((lse3_row n _ _ _ a h (base_eq i 0) (by omega) (by omega)).trans ?_)
  unfold tokL
  rw [s3_0_row, qCol_apply, ld1_0, Nat.add_assoc]

theorem s3_1_row : (fun κ => score3 (View.ld x0 r_S1x64x16x512_S1x16x16x512_0_16_0_0) (qCol (View.ld x1 r_S1x64x16_S1x16x16_0_16_0)) (View.ld x2 r_S1x64x16x64_S1x16x16x64_0_16_0_0) (View.ld x3 r_S1x896x512_S1x768x512_0_0_0) (View.ld r r_S896x64_S768x64_0_0) (View.ld k r_S1x896_S1x768_0_0) (ix2 (row a h) κ))
    = tokScore 768 (by norm_num) x0 x1 x2 x3 r k ⟨16 + a.val, by omega⟩ h := by
  funext κ
  rw [score3_apply]
  unfold tokScore
  rw [qCol_apply, ld1_16, ldK_768]
  refine congrArg₂ (fun s t : EReal => (s + t) * _) (Finset.sum_congr rfl fun x _ => ?_) (Finset.sum_congr rfl fun x _ => ?_)
  · rw [ld0_16, ld3_768]
  · rw [ld2_16, ldR_768]
theorem o3_1_row (hi : (i 1).val / 4 + 1 = 3) : o3_1 i n x0 x1 x2 x3 u r k (ix4 0 a h d)
    = tokO 768 (by norm_num) (i 1).val n x0 x1 x2 x3 u r k ⟨16 + a.val, by omega⟩ h d := by
  have hj := col_lt i
  refine (congrFun (o3_1_eq i n x0 x1 x2 x3 u r k) _).trans ((out3_row n _ _ _ a h d _ (base_eq i 16) (by omega) (by omega)).trans ?_)
  unfold tokO
  rw [s3_1_row, qCol_apply, ld1_16, Nat.add_assoc, funext fun κ => ldU_768 u κ d]
theorem l3_1_row (hi : (i 1).val / 4 + 1 = 3) : l3_1 i n x0 x1 x2 x3 u r k (ix3 0 a h)
    = tokL 768 (by norm_num) (i 1).val n x0 x1 x2 x3 r k ⟨16 + a.val, by omega⟩ h := by
  have hj := col_lt i
  refine (congrFun (l3_1_eq i n x0 x1 x2 x3 u r k) _).trans ((lse3_row n _ _ _ a h (base_eq i 16) (by omega) (by omega)).trans ?_)
  unfold tokL
  rw [s3_1_row, qCol_apply, ld1_16, Nat.add_assoc]

theorem s3_2_row : (fun κ => score3 (View.ld x0 r_S1x64x16x512_S1x16x16x512_0_32_0_0) (qCol (View.ld x1 r_S1x64x16_S1x16x16_0_32_0)) (View.ld x2 r_S1x64x16x64_S1x16x16x64_0_32_0_0) (View.ld x3 r_S1x896x512_S1x768x512_0_0_0) (View.ld r r_S896x64_S768x64_0_0) (View.ld k r_S1x896_S1x768_0_0) (ix2 (row a h) κ))
    = tokScore 768 (by norm_num) x0 x1 x2 x3 r k ⟨32 + a.val, by omega⟩ h := by
  funext κ
  rw [score3_apply]
  unfold tokScore
  rw [qCol_apply, ld1_32, ldK_768]
  refine congrArg₂ (fun s t : EReal => (s + t) * _) (Finset.sum_congr rfl fun x _ => ?_) (Finset.sum_congr rfl fun x _ => ?_)
  · rw [ld0_32, ld3_768]
  · rw [ld2_32, ldR_768]
theorem o3_2_row (hi : (i 1).val / 4 + 1 = 3) : o3_2 i n x0 x1 x2 x3 u r k (ix4 0 a h d)
    = tokO 768 (by norm_num) (i 1).val n x0 x1 x2 x3 u r k ⟨32 + a.val, by omega⟩ h d := by
  have hj := col_lt i
  refine (congrFun (o3_2_eq i n x0 x1 x2 x3 u r k) _).trans ((out3_row n _ _ _ a h d _ (base_eq i 32) (by omega) (by omega)).trans ?_)
  unfold tokO
  rw [s3_2_row, qCol_apply, ld1_32, Nat.add_assoc, funext fun κ => ldU_768 u κ d]
theorem l3_2_row (hi : (i 1).val / 4 + 1 = 3) : l3_2 i n x0 x1 x2 x3 u r k (ix3 0 a h)
    = tokL 768 (by norm_num) (i 1).val n x0 x1 x2 x3 r k ⟨32 + a.val, by omega⟩ h := by
  have hj := col_lt i
  refine (congrFun (l3_2_eq i n x0 x1 x2 x3 u r k) _).trans ((lse3_row n _ _ _ a h (base_eq i 32) (by omega) (by omega)).trans ?_)
  unfold tokL
  rw [s3_2_row, qCol_apply, ld1_32, Nat.add_assoc]

theorem s3_3_row : (fun κ => score3 (View.ld x0 r_S1x64x16x512_S1x16x16x512_0_48_0_0) (qCol (View.ld x1 r_S1x64x16_S1x16x16_0_48_0)) (View.ld x2 r_S1x64x16x64_S1x16x16x64_0_48_0_0) (View.ld x3 r_S1x896x512_S1x768x512_0_0_0) (View.ld r r_S896x64_S768x64_0_0) (View.ld k r_S1x896_S1x768_0_0) (ix2 (row a h) κ))
    = tokScore 768 (by norm_num) x0 x1 x2 x3 r k ⟨48 + a.val, by omega⟩ h := by
  funext κ
  rw [score3_apply]
  unfold tokScore
  rw [qCol_apply, ld1_48, ldK_768]
  refine congrArg₂ (fun s t : EReal => (s + t) * _) (Finset.sum_congr rfl fun x _ => ?_) (Finset.sum_congr rfl fun x _ => ?_)
  · rw [ld0_48, ld3_768]
  · rw [ld2_48, ldR_768]
theorem o3_3_row (hi : (i 1).val / 4 + 1 = 3) : o3_3 i n x0 x1 x2 x3 u r k (ix4 0 a h d)
    = tokO 768 (by norm_num) (i 1).val n x0 x1 x2 x3 u r k ⟨48 + a.val, by omega⟩ h d := by
  have hj := col_lt i
  refine (congrFun (o3_3_eq i n x0 x1 x2 x3 u r k) _).trans ((out3_row n _ _ _ a h d _ (base_eq i 48) (by omega) (by omega)).trans ?_)
  unfold tokO
  rw [s3_3_row, qCol_apply, ld1_48, Nat.add_assoc, funext fun κ => ldU_768 u κ d]
theorem l3_3_row (hi : (i 1).val / 4 + 1 = 3) : l3_3 i n x0 x1 x2 x3 u r k (ix3 0 a h)
    = tokL 768 (by norm_num) (i 1).val n x0 x1 x2 x3 r k ⟨48 + a.val, by omega⟩ h := by
  have hj := col_lt i
  refine (congrFun (l3_3_eq i n x0 x1 x2 x3 u r k) _).trans ((lse3_row n _ _ _ a h (base_eq i 48) (by omega) (by omega)).trans ?_)
  unfold tokL
  rw [s3_3_row, qCol_apply, ld1_48, Nat.add_assoc]

/-- The block of outputs from 768 keys, at an index. -/
theorem out3_apply (hi : (i 1).val / 4 + 1 = 3) (y : S1x64x16x512.Idx) : out3 i n x0 x1 x2 x3 u r k y
    = tokO 768 (by norm_num) (i 1).val n x0 x1 x2 x3 u r k (y 1) (y 2) (y 3) := by
  unfold out3
  refine View.canon_apply_of_pieces (Val := Elt Ideal) (fun y : S1x64x16x512.Idx => tokO 768 (by norm_num) (i 1).val n x0 x1 x2 x3 u r k (y 1) (y 2) (y 3)) _ ?_ y (cover6 _ _ _ _ y)
  intro p hp x
  simp only [List.mem_cons, List.not_mem_nil, or_false] at hp
  obtain rfl | rfl | rfl | rfl := hp
  · obtain ⟨a, h, d, rfl⟩ := idxO x
    exact (o3_3_row i n x0 x1 x2 x3 u r k a h d hi).trans (pieceO_48 (tokO 768 (by norm_num) (i 1).val n x0 x1 x2 x3 u r k) a h d).symm
  · obtain ⟨a, h, d, rfl⟩ := idxO x
    exact (o3_2_row i n x0 x1 x2 x3 u r k a h d hi).trans (pieceO_32 (tokO 768 (by norm_num) (i 1).val n x0 x1 x2 x3 u r k) a h d).symm
  · obtain ⟨a, h, d, rfl⟩ := idxO x
    exact (o3_1_row i n x0 x1 x2 x3 u r k a h d hi).trans (pieceO_16 (tokO 768 (by norm_num) (i 1).val n x0 x1 x2 x3 u r k) a h d).symm
  · obtain ⟨a, h, d, rfl⟩ := idxO x
    exact (o3_0_row i n x0 x1 x2 x3 u r k a h d hi).trans (pieceO_0 (tokO 768 (by norm_num) (i 1).val n x0 x1 x2 x3 u r k) a h d).symm

/-- The block of log-sum-exps from 768 keys, at an index. -/
theorem lse3_apply (hi : (i 1).val / 4 + 1 = 3) (y : S1x64x16.Idx) : lse3 i n x0 x1 x2 x3 u r k y
    = tokL 768 (by norm_num) (i 1).val n x0 x1 x2 x3 r k (y 1) (y 2) := by
  unfold lse3
  refine View.canon_apply_of_pieces (Val := Elt Ideal) (fun y : S1x64x16.Idx => tokL 768 (by norm_num) (i 1).val n x0 x1 x2 x3 r k (y 1) (y 2)) _ ?_ y (cover7 _ _ _ _ y)
  intro p hp x
  simp only [List.mem_cons, List.not_mem_nil, or_false] at hp
  obtain rfl | rfl | rfl | rfl := hp
  · obtain ⟨a, h, rfl⟩ := idxL x
    exact (l3_3_row i n x0 x1 x2 x3 u r k a h hi).trans (pieceL_48 (tokL 768 (by norm_num) (i 1).val n x0 x1 x2 x3 r k) a h).symm
  · obtain ⟨a, h, rfl⟩ := idxL x
    exact (l3_2_row i n x0 x1 x2 x3 u r k a h hi).trans (pieceL_32 (tokL 768 (by norm_num) (i 1).val n x0 x1 x2 x3 r k) a h).symm
  · obtain ⟨a, h, rfl⟩ := idxL x
    exact (l3_1_row i n x0 x1 x2 x3 u r k a h hi).trans (pieceL_16 (tokL 768 (by norm_num) (i 1).val n x0 x1 x2 x3 r k) a h).symm
  · obtain ⟨a, h, rfl⟩ := idxL x
    exact (l3_0_row i n x0 x1 x2 x3 u r k a h hi).trans (pieceL_0 (tokL 768 (by norm_num) (i 1).val n x0 x1 x2 x3 r k) a h).symm

end Cert.KernelIdeal.Run

end
-- ==== Proof.KernelIdeal.Stage4.lean ====
/- The steps of a tile of sixteen tokens against 896 keys: what the branch stores is their composition, and their
   readings at one row. -/
module

public import proofs.«01_k».proof.Proof.KernelIdeal.Stage

@[expose] public section

set_option maxRecDepth 16384

noncomputable section

namespace Cert.KernelIdeal.Run

open Cert.KernelIdeal.Gen
open Idealize.ShloMosaic Idealize.ShloMosaic.TcCoe Idealize.SL.Sem

section

variable {F : FTy → Type} [FloatOps F] [Named F]

/-- The scores of 256 rows against 896 keys, with the key scale and the logarithm's base folded in. -/
def score4 (x0 : Vec F S1x16x16x512 .fp8e4m3) (col : FVec F S256x1 .f32) (x2 : Vec F S1x16x16x64 .bf16) (x3 : Vec F S1x896x512 .fp8e4m3) (r : Vec F S896x64 .bf16) (k : Vec F S1x896 .f32) : FVec F S256x896 .f32 :=
  mulf (addf
    (matmul dot_S256x512_S896x512_S256x896_1_1_0_0_n_n none (shapeCast S256x512 (shapeCast S16x16x512 x0 shapeCasts_S1x16x16x512_S16x16x512) shapeCasts_S16x16x512_S256x512)
      (shapeCast S896x512 x3 shapeCasts_S1x896x512_S896x512) (constant S256x896 .f32 0x00000000#32))
    (matmul dot_S256x64_S896x64_S256x896_1_1_0_0_n_n none
      (truncf .bf16 (divf (extf .f32 (shapeCast S256x64 (shapeCast S16x16x64 x2 shapeCasts_S1x16x16x64_S16x16x64) shapeCasts_S16x16x64_S256x64) bitsLt_bf16_f32)
        (broadcastTo S256x64 col broadcasts_S256x1_S256x64)) bitsLt_bf16_f32) r (constant S256x896 .f32 0x00000000#32)))
    (broadcastTo S256x896 k broadcasts_S1x896_S256x896)

/-- The scores with the keys after a row's token masked; the keys before 768 are those of earlier tokens for every row. -/
def masked4 (base : BitVec 32) (v : FVec F S256x896 .f32) : FVec F S256x896 .f32 :=
  concatenate S256x896 1 [⟨S256x768, extractStridedSlice S256x768 ![0, 0] v slices_S256x896_o0_0_S256x768⟩, ⟨S256x128, select (cmpi .sle (addi (broadcast S256x128 768#32) (iota .tc S256x128 32 [1] iota_S256x128_d1_w32)) (broadcastTo S256x128 (rowTok base) broadcasts_S256x1_S256x128))
    (extractStridedSlice S256x128 ![0, 768] v slices_S256x896_o0_768_S256x128) (broadcast S256x128 (Scalar.ofBits .f32 0xFF800000#32 : F .f32))⟩]
    concatenates_S256x768_S256x128_S256x896_d1

/-- The maximum of each row. -/
def rowMax4 (v : FVec F S256x896 .f32) : FVec F S256x1 .f32 :=
  shapeCast S256x1 (multiReduction .maximumf [1] S256 v 0xFF800000#32 reduces_S256x896_S256 (.inl rfl) rfl) shapeCasts_S256_S256x1

/-- The weights of the keys, before they are divided by their total. -/
def weight4 (v : FVec F S256x896 .f32) (mx col : FVec F S256x1 .f32) : FVec F S256x896 .f32 :=
  exp2 (mulf (subf v (broadcastTo S256x896 mx broadcasts_S256x1_S256x896)) (broadcastTo S256x896 col broadcasts_S256x1_S256x896))

/-- The total of each row's weights. -/
def total4 (p : FVec F S256x896 .f32) : FVec F S256x1 .f32 :=
  shapeCast S256x1 (multiReduction .add [1] S256 p 0x00000000#32 reduces_S256x896_S256 (.inl rfl) rfl) shapeCasts_S256_S256x1

/-- The outputs of the rows: the weighted values over the total where the row is a token of the sequence, 0 elsewhere. -/
def outTile4 (n base : BitVec 32) (p : FVec F S256x896 .f32) (l : FVec F S256x1 .f32) (u : Vec F S896x512 .bf16) : FVec F S1x16x16x512 .bf16 :=
  shapeCast S1x16x16x512 (shapeCast S16x16x512 (truncf .bf16 (select
    (broadcastTo S256x512 (shapeCast S256x1 (live n base) shapeCasts_S256x1_S256x1) broadcasts_S256x1_S256x512)
    (divf (matmul dot_S256x896_S896x512_S256x512_1_0_0_1_n_n none (truncf .bf16 p bitsLt_bf16_f32) u (constant S256x512 .f32 0x00000000#32))
      (broadcastTo S256x512 l broadcasts_S256x1_S256x512))
    (broadcast S256x512 (Scalar.ofBits .f32 0x00000000#32 : F .f32))) bitsLt_bf16_f32) shapeCasts_S256x512_S16x16x512) shapeCasts_S16x16x512_S1x16x16x512

theorem o4_0_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o4_0 i n x0 x1 x2 x3 u r k = (let mk := (masked4 (Scalar.addi (row0 i) 0#32) (score4 (View.ld x0 r_S1x64x16x512_S1x16x16x512_0_0_0_0) (qCol (View.ld x1 r_S1x64x16_S1x16x16_0_0_0)) (View.ld x2 r_S1x64x16x64_S1x16x16x64_0_0_0_0) (View.ld x3 r_S1x896x512_S1x896x512_0_0_0) (View.ld r r_S896x64_S896x64_0_0) (View.ld k r_S1x896_S1x896_0_0))); let p := weight4 mk (rowMax4 mk) (qCol (View.ld x1 r_S1x64x16_S1x16x16_0_0_0));
      outTile4 n (Scalar.addi (row0 i) 0#32) p (total4 p) (View.ld u r_S896x512_S896x512_0_0)) := rfl
theorem l4_0_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l4_0 i n x0 x1 x2 x3 u r k = (let mk := (masked4 (Scalar.addi (row0 i) 0#32) (score4 (View.ld x0 r_S1x64x16x512_S1x16x16x512_0_0_0_0) (qCol (View.ld x1 r_S1x64x16_S1x16x16_0_0_0)) (View.ld x2 r_S1x64x16x64_S1x16x16x64_0_0_0_0) (View.ld x3 r_S1x896x512_S1x896x512_0_0_0) (View.ld r r_S896x64_S896x64_0_0) (View.ld k r_S1x896_S1x896_0_0)));
      lseTile (lseCol n (Scalar.addi (row0 i) 0#32) (rowMax4 mk) (qCol (View.ld x1 r_S1x64x16_S1x16x16_0_0_0)) (total4 (weight4 mk (rowMax4 mk) (qCol (View.ld x1 r_S1x64x16_S1x16x16_0_0_0)))))) := rfl
theorem o4_1_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o4_1 i n x0 x1 x2 x3 u r k = (let mk := (masked4 (Scalar.addi (row0 i) 16#32) (score4 (View.ld x0 r_S1x64x16x512_S1x16x16x512_0_16_0_0) (qCol (View.ld x1 r_S1x64x16_S1x16x16_0_16_0)) (View.ld x2 r_S1x64x16x64_S1x16x16x64_0_16_0_0) (View.ld x3 r_S1x896x512_S1x896x512_0_0_0) (View.ld r r_S896x64_S896x64_0_0) (View.ld k r_S1x896_S1x896_0_0))); let p := weight4 mk (rowMax4 mk) (qCol (View.ld x1 r_S1x64x16_S1x16x16_0_16_0));
      outTile4 n (Scalar.addi (row0 i) 16#32) p (total4 p) (View.ld u r_S896x512_S896x512_0_0)) := rfl
theorem l4_1_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l4_1 i n x0 x1 x2 x3 u r k = (let mk := (masked4 (Scalar.addi (row0 i) 16#32) (score4 (View.ld x0 r_S1x64x16x512_S1x16x16x512_0_16_0_0) (qCol (View.ld x1 r_S1x64x16_S1x16x16_0_16_0)) (View.ld x2 r_S1x64x16x64_S1x16x16x64_0_16_0_0) (View.ld x3 r_S1x896x512_S1x896x512_0_0_0) (View.ld r r_S896x64_S896x64_0_0) (View.ld k r_S1x896_S1x896_0_0)));
      lseTile (lseCol n (Scalar.addi (row0 i) 16#32) (rowMax4 mk) (qCol (View.ld x1 r_S1x64x16_S1x16x16_0_16_0)) (total4 (weight4 mk (rowMax4 mk) (qCol (View.ld x1 r_S1x64x16_S1x16x16_0_16_0)))))) := rfl
theorem o4_2_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o4_2 i n x0 x1 x2 x3 u r k = (let mk := (masked4 (Scalar.addi (row0 i) 32#32) (score4 (View.ld x0 r_S1x64x16x512_S1x16x16x512_0_32_0_0) (qCol (View.ld x1 r_S1x64x16_S1x16x16_0_32_0)) (View.ld x2 r_S1x64x16x64_S1x16x16x64_0_32_0_0) (View.ld x3 r_S1x896x512_S1x896x512_0_0_0) (View.ld r r_S896x64_S896x64_0_0) (View.ld k r_S1x896_S1x896_0_0))); let p := weight4 mk (rowMax4 mk) (qCol (View.ld x1 r_S1x64x16_S1x16x16_0_32_0));
      outTile4 n (Scalar.addi (row0 i) 32#32) p (total4 p) (View.ld u r_S896x512_S896x512_0_0)) := rfl
theorem l4_2_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l4_2 i n x0 x1 x2 x3 u r k = (let mk := (masked4 (Scalar.addi (row0 i) 32#32) (score4 (View.ld x0 r_S1x64x16x512_S1x16x16x512_0_32_0_0) (qCol (View.ld x1 r_S1x64x16_S1x16x16_0_32_0)) (View.ld x2 r_S1x64x16x64_S1x16x16x64_0_32_0_0) (View.ld x3 r_S1x896x512_S1x896x512_0_0_0) (View.ld r r_S896x64_S896x64_0_0) (View.ld k r_S1x896_S1x896_0_0)));
      lseTile (lseCol n (Scalar.addi (row0 i) 32#32) (rowMax4 mk) (qCol (View.ld x1 r_S1x64x16_S1x16x16_0_32_0)) (total4 (weight4 mk (rowMax4 mk) (qCol (View.ld x1 r_S1x64x16_S1x16x16_0_32_0)))))) := rfl
theorem o4_3_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    o4_3 i n x0 x1 x2 x3 u r k = (let mk := (masked4 (Scalar.addi (row0 i) 48#32) (score4 (View.ld x0 r_S1x64x16x512_S1x16x16x512_0_48_0_0) (qCol (View.ld x1 r_S1x64x16_S1x16x16_0_48_0)) (View.ld x2 r_S1x64x16x64_S1x16x16x64_0_48_0_0) (View.ld x3 r_S1x896x512_S1x896x512_0_0_0) (View.ld r r_S896x64_S896x64_0_0) (View.ld k r_S1x896_S1x896_0_0))); let p := weight4 mk (rowMax4 mk) (qCol (View.ld x1 r_S1x64x16_S1x16x16_0_48_0));
      outTile4 n (Scalar.addi (row0 i) 48#32) p (total4 p) (View.ld u r_S896x512_S896x512_0_0)) := rfl
theorem l4_3_eq (i : grid0.Coords) (n : BitVec 32) (x0 : Vec F S1x64x16x512 .fp8e4m3) (x1 : Vec F S1x64x16 .f32) (x2 : Vec F S1x64x16x64 .bf16) (x3 : Vec F S1x896x512 .fp8e4m3) (u : Vec F S896x512 .bf16) (r : Vec F S896x64 .bf16) (k : Vec F S1x896 .f32) :
    l4_3 i n x0 x1 x2 x3 u r k = (let mk := (masked4 (Scalar.addi (row0 i) 48#32) (score4 (View.ld x0 r_S1x64x16x512_S1x16x16x512_0_48_0_0) (qCol (View.ld x1 r_S1x64x16_S1x16x16_0_48_0)) (View.ld x2 r_S1x64x16x64_S1x16x16x64_0_48_0_0) (View.ld x3 r_S1x896x512_S1x896x512_0_0_0) (View.ld r r_S896x64_S896x64_0_0) (View.ld k r_S1x896_S1x896_0_0)));
      lseTile (lseCol n (Scalar.addi (row0 i) 48#32) (rowMax4 mk) (qCol (View.ld x1 r_S1x64x16_S1x16x16_0_48_0)) (total4 (weight4 mk (rowMax4 mk) (qCol (View.ld x1 r_S1x64x16_S1x16x16_0_48_0)))))) := rfl

end

variable (n base : BitVec 32) (v : FVec Ideal S256x896 .f32) (mx col l : FVec Ideal S256x1 .f32) (a h : Fin 16) (d : Fin 512) (κ : Fin 896) {b : ℕ}

theorem score4_read (x0 : Vec Ideal S1x16x16x512 .fp8e4m3) (x2 : Vec Ideal S1x16x16x64 .bf16) (x3 : Vec Ideal S1x896x512 .fp8e4m3) (r : Vec Ideal S896x64 .bf16) (k : Vec Ideal S1x896 .f32) (i : Fin 256) :
    score4 x0 col x2 x3 r k (ix2 i κ)
      = (∑ x, x0 (ix4 0 (tokOf i) (headOf i) x) * x3 (ix3 0 κ x)
          + ∑ x, Ideal.div (x2 (ix4 0 (tokOf i) (headOf i) x)) (col (ix2 i 0)) * r (ix2 κ x)) * k (ix2 0 κ) := by
  pointwise [score4]
  rfl

theorem score4_apply (x0 : Vec Ideal S1x16x16x512 .fp8e4m3) (x2 : Vec Ideal S1x16x16x64 .bf16) (x3 : Vec Ideal S1x896x512 .fp8e4m3) (r : Vec Ideal S896x64 .bf16) (k : Vec Ideal S1x896 .f32) :
    score4 x0 col x2 x3 r k (ix2 (row a h) κ)
      = (∑ x, x0 (ix4 0 a h x) * x3 (ix3 0 κ x) + ∑ x, Ideal.div (x2 (ix4 0 a h x)) (col (ix2 (row a h) 0)) * r (ix2 κ x)) * k (ix2 0 κ) := by
  rw [score4_read, tokOf_row, headOf_row]

theorem masked4_read (i : Fin 256) : masked4 base v (ix2 i κ)
    = if h : κ.val < 768 then v (ix2 i κ) else
        Scalar.select (IntOp.cmpi CmpIPredicate.sle (IntOp.addi (BitVec.ofNat 32 768) (BitVec.ofNat 32 (κ.val - 768))) (rowTok base (ix2 i 0)))
          (v (ix2 i ⟨768 + (κ.val - 768), by omega⟩)) (Ideal.ofBits FTy.f32 0xFF800000#32) := by
  pointwise [masked4]

theorem masked4_apply (hb : base = BitVec.ofNat 32 b) (hlt : b + 16 ≤ 896) (hO : 768 ≤ b) :
    masked4 base v (ix2 (row a h) κ) = Row.mask (b + a.val) (fun κ => v (ix2 (row a h) κ)) κ := by
  rw [masked4_read]
  unfold Row.mask
  split
  · rw [if_pos (by omega)]
  · rename_i hk
    rw [rowTok_apply base a h hb, Words.ofBits_bot]
    have e : IntOp.addi (BitVec.ofNat 32 768) (BitVec.ofNat 32 (κ.val - 768)) = BitVec.ofNat 32 κ.val := by
      rw [show κ.val = 768 + (κ.val - 768) by omega, Nat.add_sub_cancel_left]
      exact (BitVec.ofNat_add 768 _).symm
    rw [e, Words.select_sle (by omega) (by omega)]
    congr 3
    exact Fin.ext (by show 768 + (κ.val - 768) = κ.val; omega)

theorem rowMax4_apply (r : Fin 256) : rowMax4 v (ix2 r 0) = Row.top fun κ => v (ix2 r κ) := by
  pointwise [rowMax4]
  rw [Words.ofBits_bot]
  rfl

theorem weight4_apply (r : Fin 256) :
    weight4 v (rowMax4 v) col (ix2 r κ) = Row.kweight (col (ix2 r 0)) (fun κ => v (ix2 r κ)) κ := by
  have := rowMax4_apply v r
  generalize rowMax4 v = mx at this ⊢
  pointwise [weight4]
  rw [this]
  rfl

theorem total4_apply (r : Fin 256) : total4 v (ix2 r 0) = ∑ κ, v (ix2 r κ) := by
  pointwise [total4]

theorem outTile4_apply (u : Vec Ideal S896x512 .bf16) (hb : base = BitVec.ofNat 32 b) (hlt : b + 16 ≤ 896) :
    outTile4 n base v l u (ix4 0 a h d) = if ((b + a.val : ℕ) : Int) < n.toInt then
      Ideal.div (∑ κ, v (ix2 (row a h) κ) * u (ix2 κ d)) (l (ix2 (row a h) 0)) else 0 := by
  pointwise [outTile4]
  exact select_live n base a h hb hlt _ _

/-- The outputs of a tile, of any scores. -/
theorem out4_row (u : Vec Ideal S896x512 .bf16) (hb : base = BitVec.ofNat 32 b) (hlt : b + 16 ≤ 896) (hO : 768 ≤ b) :
    outTile4 n base (weight4 (masked4 base v) (rowMax4 (masked4 base v)) col)
        (total4 (weight4 (masked4 base v) (rowMax4 (masked4 base v)) col)) u (ix4 0 a h d)
      = if ((b + a.val : ℕ) : Int) < n.toInt then
          Row.kout (col (ix2 (row a h) 0)) (Row.mask (b + a.val) fun κ => v (ix2 (row a h) κ)) (fun κ => u (ix2 κ d)) else 0 := by
  rw [outTile4_apply n base _ _ a h d u hb hlt, total4_apply]
  simp only [weight4_apply, masked4_apply base v a h _ hb hlt hO]
  rfl

/-- The log-sum-exps of a tile, of any scores. -/
theorem lse4_row (hb : base = BitVec.ofNat 32 b) (hlt : b + 16 ≤ 896) (hO : 768 ≤ b) :
    lseTile (lseCol n base (rowMax4 (masked4 base v)) col (total4 (weight4 (masked4 base v) (rowMax4 (masked4 base v)) col))) (ix3 0 a h)
      = if ((b + a.val : ℕ) : Int) < n.toInt then
          Row.klse (col (ix2 (row a h) 0)) (Row.mask (b + a.val) fun κ => v (ix2 (row a h) κ)) else 0 := by
  rw [lseTile_apply, lseCol_apply n base _ _ _ a h hb hlt, total4_apply, rowMax4_apply]
  simp only [weight4_apply, masked4_apply base v a h _ hb hlt hO]
  rfl

end Cert.KernelIdeal.Run

end
-- ==== Proof.KernelIdeal.Rows4.lean ====
/- The blocks the kernel writes from 896 keys, at an index. -/
module

public import proofs.«01_k».proof.Proof.KernelIdeal.Rows
public import proofs.«01_k».proof.Proof.KernelIdeal.Stage4

@[expose] public section

set_option maxRecDepth 16384

noncomputable section

namespace Cert.KernelIdeal.Run

open Cert.KernelIdeal.Gen
open Idealize.ShloMosaic Idealize.ShloMosaic.TcCoe Idealize.SL.Sem

variable (i : grid0.Coords) (n : BitVec 32) (x0 : Vec Ideal S1x64x16x512 .fp8e4m3) (x1 : Vec Ideal S1x64x16 .f32)
  (x2 : Vec Ideal S1x64x16x64 .bf16) (x3 : Vec Ideal S1x896x512 .fp8e4m3) (u : Vec Ideal S896x512 .bf16) (r : Vec Ideal S896x64 .bf16)
  (k : Vec Ideal S1x896 .f32) (a h : Fin 16) (d : Fin 512)

theorem s4_0_row : (fun κ => score4 (View.ld x0 r_S1x64x16x512_S1x16x16x512_0_0_0_0) (qCol (View.ld x1 r_S1x64x16_S1x16x16_0_0_0)) (View.ld x2 r_S1x64x16x64_S1x16x16x64_0_0_0_0) (View.ld x3 r_S1x896x512_S1x896x512_0_0_0) (View.ld r r_S896x64_S896x64_0_0) (View.ld k r_S1x896_S1x896_0_0) (ix2 (row a h) κ))
    = tokScore 896 (by norm_num) x0 x1 x2 x3 r k ⟨0 + a.val, by omega⟩ h := by
  funext κ
  rw [score4_apply]
  unfold tokScore
  rw [qCol_apply, ld1_0, ldK_896]
  refine congrArg₂ (fun s t : EReal => (s + t) * _) (Finset.sum_congr rfl fun x _ => ?_) (Finset.sum_congr rfl fun x _ => ?_)
  · rw [ld0_0, ld3_896]
  · rw [ld2_0, ldR_896]
theorem o4_0_row (hi : (i 1).val / 4 + 1 = 4) : o4_0 i n x0 x1 x2 x3 u r k (ix4 0 a h d)
    = tokO 896 (by norm_num) (i 1).val n x0 x1 x2 x3 u r k ⟨0 + a.val, by omega⟩ h d := by
  have hj := col_lt i
  refine (congrFun (o4_0_eq i n x0 x1 x2 x3 u r k) _).trans ((out4_row n _ _ _ a h d _ (base_eq i 0) (by omega) (by omega)).trans ?_)
  unfold tokO
  rw [s4_0_row, qCol_apply, ld1_0, Nat.add_assoc, funext fun κ => ldU_896 u κ d]
theorem l4_0_row (hi : (i 1).val / 4 + 1 = 4) : l4_0 i n x0 x1 x2 x3 u r k (ix3 0 a h)
    = tokL 896 (by norm_num) (i 1).val n x0 x1 x2 x3 r k ⟨0 + a.val, by omega⟩ h := by
  have hj := col_lt i
  refine (congrFun (l4_0_eq i n x0 x1 x2 x3 u r k) _).trans ((lse4_row n _ _ _ a h (base_eq i 0) (by omega) (by omega)).trans ?_)
  unfold tokL
  rw [s4_0_row, qCol_apply, ld1_0, Nat.add_assoc]

theorem s4_1_row : (fun κ => score4 (View.ld x0 r_S1x64x16x512_S1x16x16x512_0_16_0_0) (qCol (View.ld x1 r_S1x64x16_S1x16x16_0_16_0)) (View.ld x2 r_S1x64x16x64_S1x16x16x64_0_16_0_0) (View.ld x3 r_S1x896x512_S1x896x512_0_0_0) (View.ld r r_S896x64_S896x64_0_0) (View.ld k r_S1x896_S1x896_0_0) (ix2 (row a h) κ))
    = tokScore 896 (by norm_num) x0 x1 x2 x3 r k ⟨16 + a.val, by omega⟩ h := by
  funext κ
  rw [score4_apply]
  unfold tokScore
  rw [qCol_apply, ld1_16, ldK_896]
  refine congrArg₂ (fun s t : EReal => (s + t) * _) (Finset.sum_congr rfl fun x _ => ?_) (Finset.sum_congr rfl fun x _ => ?_)
  · rw [ld0_16, ld3_896]
  · rw [ld2_16, ldR_896]
theorem o4_1_row (hi : (i 1).val / 4 + 1 = 4) : o4_1 i n x0 x1 x2 x3 u r k (ix4 0 a h d)
    = tokO 896 (by norm_num) (i 1).val n x0 x1 x2 x3 u r k ⟨16 + a.val, by omega⟩ h d := by
  have hj := col_lt i
  refine (congrFun (o4_1_eq i n x0 x1 x2 x3 u r k) _).trans ((out4_row n _ _ _ a h d _ (base_eq i 16) (by omega) (by omega)).trans ?_)
  unfold tokO
  rw [s4_1_row, qCol_apply, ld1_16, Nat.add_assoc, funext fun κ => ldU_896 u κ d]
theorem l4_1_row (hi : (i 1).val / 4 + 1 = 4) : l4_1 i n x0 x1 x2 x3 u r k (ix3 0 a h)
    = tokL 896 (by norm_num) (i 1).val n x0 x1 x2 x3 r k ⟨16 + a.val, by omega⟩ h := by
  have hj := col_lt i
  refine (congrFun (l4_1_eq i n x0 x1 x2 x3 u r k) _).trans ((lse4_row n _ _ _ a h (base_eq i 16) (by omega) (by omega)).trans ?_)
  unfold tokL
  rw [s4_1_row, qCol_apply, ld1_16, Nat.add_assoc]

theorem s4_2_row : (fun κ => score4 (View.ld x0 r_S1x64x16x512_S1x16x16x512_0_32_0_0) (qCol (View.ld x1 r_S1x64x16_S1x16x16_0_32_0)) (View.ld x2 r_S1x64x16x64_S1x16x16x64_0_32_0_0) (View.ld x3 r_S1x896x512_S1x896x512_0_0_0) (View.ld r r_S896x64_S896x64_0_0) (View.ld k r_S1x896_S1x896_0_0) (ix2 (row a h) κ))
    = tokScore 896 (by norm_num) x0 x1 x2 x3 r k ⟨32 + a.val, by omega⟩ h := by
  funext κ
  rw [score4_apply]
  unfold tokScore
  rw [qCol_apply, ld1_32, ldK_896]
  refine congrArg₂ (fun s t : EReal => (s + t) * _) (Finset.sum_congr rfl fun x _ => ?_) (Finset.sum_congr rfl fun x _ => ?_)
  · rw [ld0_32, ld3_896]
  · rw [ld2_32, ldR_896]
theorem o4_2_row (hi : (i 1).val / 4 + 1 = 4) : o4_2 i n x0 x1 x2 x3 u r k (ix4 0 a h d)
    = tokO 896 (by norm_num) (i 1).val n x0 x1 x2 x3 u r k ⟨32 + a.val, by omega⟩ h d := by
  have hj := col_lt i
  refine (congrFun (o4_2_eq i n x0 x1 x2 x3 u r k) _).trans ((out4_row n _ _ _ a h d _ (base_eq i 32) (by omega) (by omega)).trans ?_)
  unfold tokO
  rw [s4_2_row, qCol_apply, ld1_32, Nat.add_assoc, funext fun κ => ldU_896 u κ d]
theorem l4_2_row (hi : (i 1).val / 4 + 1 = 4) : l4_2 i n x0 x1 x2 x3 u r k (ix3 0 a h)
    = tokL 896 (by norm_num) (i 1).val n x0 x1 x2 x3 r k ⟨32 + a.val, by omega⟩ h := by
  have hj := col_lt i
  refine (congrFun (l4_2_eq i n x0 x1 x2 x3 u r k) _).trans ((lse4_row n _ _ _ a h (base_eq i 32) (by omega) (by omega)).trans ?_)
  unfold tokL
  rw [s4_2_row, qCol_apply, ld1_32, Nat.add_assoc]

theorem s4_3_row : (fun κ => score4 (View.ld x0 r_S1x64x16x512_S1x16x16x512_0_48_0_0) (qCol (View.ld x1 r_S1x64x16_S1x16x16_0_48_0)) (View.ld x2 r_S1x64x16x64_S1x16x16x64_0_48_0_0) (View.ld x3 r_S1x896x512_S1x896x512_0_0_0) (View.ld r r_S896x64_S896x64_0_0) (View.ld k r_S1x896_S1x896_0_0) (ix2 (row a h) κ))
    = tokScore 896 (by norm_num) x0 x1 x2 x3 r k ⟨48 + a.val, by omega⟩ h := by
  funext κ
  rw [score4_apply]
  unfold tokScore
  rw [qCol_apply, ld1_48, ldK_896]
  refine congrArg₂ (fun s t : EReal => (s + t) * _) (Finset.sum_congr rfl fun x _ => ?_) (Finset.sum_congr rfl fun x _ => ?_)
  · rw [ld0_48, ld3_896]
  · rw [ld2_48, ldR_896]
theorem o4_3_row (hi : (i 1).val / 4 + 1 = 4) : o4_3 i n x0 x1 x2 x3 u r k (ix4 0 a h d)
    = tokO 896 (by norm_num) (i 1).val n x0 x1 x2 x3 u r k ⟨48 + a.val, by omega⟩ h d := by
  have hj := col_lt i
  refine (congrFun (o4_3_eq i n x0 x1 x2 x3 u r k) _).trans ((out4_row n _ _ _ a h d _ (base_eq i 48) (by omega) (by omega)).trans ?_)
  unfold tokO
  rw [s4_3_row, qCol_apply, ld1_48, Nat.add_assoc, funext fun κ => ldU_896 u κ d]
theorem l4_3_row (hi : (i 1).val / 4 + 1 = 4) : l4_3 i n x0 x1 x2 x3 u r k (ix3 0 a h)
    = tokL 896 (by norm_num) (i 1).val n x0 x1 x2 x3 r k ⟨48 + a.val, by omega⟩ h := by
  have hj := col_lt i
  refine (congrFun (l4_3_eq i n x0 x1 x2 x3 u r k) _).trans ((lse4_row n _ _ _ a h (base_eq i 48) (by omega) (by omega)).trans ?_)
  unfold tokL
  rw [s4_3_row, qCol_apply, ld1_48, Nat.add_assoc]

/-- The block of outputs from 896 keys, at an index. -/
theorem out4_apply (hi : (i 1).val / 4 + 1 = 4) (y : S1x64x16x512.Idx) : out4 i n x0 x1 x2 x3 u r k y
    = tokO 896 (by norm_num) (i 1).val n x0 x1 x2 x3 u r k (y 1) (y 2) (y 3) := by
  unfold out4
  refine View.canon_apply_of_pieces (Val := Elt Ideal) (fun y : S1x64x16x512.Idx => tokO 896 (by norm_num) (i 1).val n x0 x1 x2 x3 u r k (y 1) (y 2) (y 3)) _ ?_ y (cover6 _ _ _ _ y)
  intro p hp x
  simp only [List.mem_cons, List.not_mem_nil, or_false] at hp
  obtain rfl | rfl | rfl | rfl := hp
  · obtain ⟨a, h, d, rfl⟩ := idxO x
    exact (o4_3_row i n x0 x1 x2 x3 u r k a h d hi).trans (pieceO_48 (tokO 896 (by norm_num) (i 1).val n x0 x1 x2 x3 u r k) a h d).symm
  · obtain ⟨a, h, d, rfl⟩ := idxO x
    exact (o4_2_row i n x0 x1 x2 x3 u r k a h d hi).trans (pieceO_32 (tokO 896 (by norm_num) (i 1).val n x0 x1 x2 x3 u r k) a h d).symm
  · obtain ⟨a, h, d, rfl⟩ := idxO x
    exact (o4_1_row i n x0 x1 x2 x3 u r k a h d hi).trans (pieceO_16 (tokO 896 (by norm_num) (i 1).val n x0 x1 x2 x3 u r k) a h d).symm
  · obtain ⟨a, h, d, rfl⟩ := idxO x
    exact (o4_0_row i n x0 x1 x2 x3 u r k a h d hi).trans (pieceO_0 (tokO 896 (by norm_num) (i 1).val n x0 x1 x2 x3 u r k) a h d).symm

/-- The block of log-sum-exps from 896 keys, at an index. -/
theorem lse4_apply (hi : (i 1).val / 4 + 1 = 4) (y : S1x64x16.Idx) : lse4 i n x0 x1 x2 x3 u r k y
    = tokL 896 (by norm_num) (i 1).val n x0 x1 x2 x3 r k (y 1) (y 2) := by
  unfold lse4
  refine View.canon_apply_of_pieces (Val := Elt Ideal) (fun y : S1x64x16.Idx => tokL 896 (by norm_num) (i 1).val n x0 x1 x2 x3 r k (y 1) (y 2)) _ ?_ y (cover7 _ _ _ _ y)
  intro p hp x
  simp only [List.mem_cons, List.not_mem_nil, or_false] at hp
  obtain rfl | rfl | rfl | rfl := hp
  · obtain ⟨a, h, rfl⟩ := idxL x
    exact (l4_3_row i n x0 x1 x2 x3 u r k a h hi).trans (pieceL_48 (tokL 896 (by norm_num) (i 1).val n x0 x1 x2 x3 r k) a h).symm
  · obtain ⟨a, h, rfl⟩ := idxL x
    exact (l4_2_row i n x0 x1 x2 x3 u r k a h hi).trans (pieceL_32 (tokL 896 (by norm_num) (i 1).val n x0 x1 x2 x3 r k) a h).symm
  · obtain ⟨a, h, rfl⟩ := idxL x
    exact (l4_1_row i n x0 x1 x2 x3 u r k a h hi).trans (pieceL_16 (tokL 896 (by norm_num) (i 1).val n x0 x1 x2 x3 r k) a h).symm
  · obtain ⟨a, h, rfl⟩ := idxL x
    exact (l4_0_row i n x0 x1 x2 x3 u r k a h hi).trans (pieceL_0 (tokL 896 (by norm_num) (i 1).val n x0 x1 x2 x3 r k) a h).symm

end Cert.KernelIdeal.Run

end
-- ==== Proof.KernelIdeal.Token.lean ====
/- One token of a block: from the scratch buffers the sequence set, its output and its log-sum-exp are the softmax's. -/
module

public import proofs.«01_k».proof.Proof.KernelIdeal.Rows

@[expose] public section

set_option maxRecDepth 16384

noncomputable section

namespace Cert.KernelIdeal.Run

open Cert.KernelIdeal.Gen
open Idealize.ShloMosaic Idealize.ShloMosaic.TcCoe Idealize.SL.Sem

variable {K : ℕ} (hK : K ≤ 896) (j : ℕ) (n : BitVec 32) (x0 : Vec Ideal S1x64x16x512 .fp8e4m3) (x1 : Vec Ideal S1x64x16 .f32)
  (x2 : Vec Ideal S1x64x16x64 .bf16) (x3 : Vec Ideal S1x896x512 .fp8e4m3) (x5 : Vec Ideal S1x896x64 .bf16) (s : Vec Ideal S1x896 .f32)
  (y : Fin 64) (h : Fin 16) (hy : 64 * j + y.val < K) {g : ℝ} (hg : 0 < g) (eg : x1 (ix3 0 y h) = (g : EReal)) {a : Fin 896 → ℝ}
  (ha : ∀ κ, 0 < a κ) (ea : ∀ κ, s (ix2 0 κ) = (a κ : EReal))

include eg ea

theorem tokScore_eq : tokScore K hK x0 x1 x2 x3 (scr1 s x5) (scr2 s) y h
    = Row.kscore (fun x => x0 (ix4 0 y h x)) (fun x => x2 (ix4 0 y h x)) g (Real.sqrt 192)⁻¹ (fun (κ : Fin K) x => x3 (ix3 0 (Fin.castLE hK κ) x))
        (fun κ x => x5 (ix3 0 (Fin.castLE hK κ) x)) (fun κ => a (Fin.castLE hK κ)) := by
  funext κ
  unfold tokScore Row.kscore
  rw [scr2_apply, ea, eg]
  refine congrArg (fun z : EReal => (_ + z) * _) (Finset.sum_congr rfl fun x _ => ?_)
  rw [scr1_apply, ea]

include hy hg ha

/-- From enough keys the kernel's output is the softmax's, in real arithmetic. -/
theorem tokO_eq (d : Fin 512) : tokO K hK j n x0 x1 x2 x3 (scr0 s x3) (scr1 s x5) (scr2 s) y h d
    = if ((64 * j + y.val : ℕ) : Int) < n.toInt then
        Row.out (Row.mask (64 * j + y.val) (Row.score (fun x => x0 (ix4 0 y h x)) (fun x => x2 (ix4 0 y h x)) g (Real.sqrt 192)⁻¹
          (fun κ x => x3 (ix3 0 κ x)) (fun κ x => x5 (ix3 0 κ x)) a)) (fun κ => (a κ : EReal)) (fun κ => x3 (ix3 0 κ d)) else 0 := by
  unfold tokO
  rw [tokScore_eq hK x0 x1 x2 x3 x5 s y h eg ea, eg]
  refine if_congr Iff.rfl (Eq.trans ?_ (Row.kout_eq hK hy _ _ hg (inv_pos.2 (Real.sqrt_pos.2 (by norm_num))) (fun κ x => x3 (ix3 0 κ x))
    (fun κ x => x5 (ix3 0 κ x)) a ha d)) rfl
  refine congrArg (Row.kout _ _) (funext fun κ => ?_)
  rw [scr0_apply, ea]

/-- From enough keys the kernel's log-sum-exp is the scores'. -/
theorem tokL_eq : tokL K hK j n x0 x1 x2 x3 (scr1 s x5) (scr2 s) y h
    = if ((64 * j + y.val : ℕ) : Int) < n.toInt then
        Row.lse (Row.mask (64 * j + y.val) (Row.score (fun x => x0 (ix4 0 y h x)) (fun x => x2 (ix4 0 y h x)) g (Real.sqrt 192)⁻¹
          (fun κ x => x3 (ix3 0 κ x)) (fun κ x => x5 (ix3 0 κ x)) a)) else 0 := by
  unfold tokL
  rw [tokScore_eq hK x0 x1 x2 x3 x5 s y h eg ea, eg]
  exact if_congr Iff.rfl (Row.klse_eq hK hy _ _ hg (inv_pos.2 (Real.sqrt_pos.2 (by norm_num))) (fun κ x => x3 (ix3 0 κ x))
    (fun κ x => x5 (ix3 0 κ x)) a ha) rfl

end Cert.KernelIdeal.Run

end
-- ==== Proof.KernelIdeal.Value.lean ====
/- The blocks the kernel writes, off the arrays as launched: those of the softmax. -/
module

public import proofs.«01_k».proof.Proof.KernelIdeal.Rows1
public import proofs.«01_k».proof.Proof.KernelIdeal.Rows2
public import proofs.«01_k».proof.Proof.KernelIdeal.Rows3
public import proofs.«01_k».proof.Proof.KernelIdeal.Rows4
public import proofs.«01_k».proof.Proof.KernelIdeal.Token
public import proofs.«01_k».proof.Proof.KernelIdeal.Blocks
public import proofs.«01_k».proof.Proof.Spec

@[expose] public section

set_option maxRecDepth 16384

noncomputable section

namespace Cert.KernelIdeal.Run

open Cert.KernelIdeal.Gen
open Idealize.ShloMosaic Idealize.ShloMosaic.TcCoe Idealize.SL.Sem

variable (m : (ℓ : Loc nD τ sig) → Buf (Elt Ideal) ℓ)

/-! ## The blocks, off the arrays as launched -/

theorem lt_28 (t : Fin (cfgM m).N) : t.val < 28 := t.isLt

/-- The sequence of point `t`, and the token at row `y` of its block. -/
def seqOf (t : Fin (cfgM m).N) : Fin 2 := ⟨t.val / 14, by have := lt_28 m t; omega⟩
def tokAt (t : Fin (cfgM m).N) (y : Fin 64) : Fin 896 := ⟨64 * (grid0.coords t 1).val + y.val, by have := col_lt (grid0.coords t); omega⟩

theorem lenP_eq (c : Dev nD) (t : Fin (cfgM m).N) : lenP m t = V m c main_arg6 (ix1 (seqOf m t)) := by
  obtain rfl : c = 0 := Subsingleton.elim _ _
  refine congrArg (V m (0 : Dev nD) main_arg6) (funext fun a => Fin.ext ?_)
  have h := coords_0 t
  have h0 := coord0_toNat (grid0.coords t)
  fin_cases a
  show (BitVec.ofNat 32 (grid0.coords t 0).val).toNat + 1 * 0 = t.val / 14
  omega

theorem B3_apply (c : Dev nD) (t : Fin (cfgM m).N) (k : Fin 896) (d : Fin 512) : B3 m c t (ix3 0 k d) = V m c main_arg3 (ix3 (seqOf m t) k d) := by
  refine congrArg (V m c main_arg3) (funext fun a => Fin.ext ?_)
  have h := coords_0 t
  have h0 := coord0_toNat (grid0.coords t)
  fin_cases a
  · show (BitVec.ofNat 32 (grid0.coords t 0).val).toNat * 1 + 1 * 0 = t.val / 14
    omega
  · show 0 * 896 + 1 * k.val = k.val; omega
  · show 0 * 512 + 1 * d.val = d.val; omega
theorem B5_apply (c : Dev nD) (t : Fin (cfgM m).N) (k : Fin 896) (d : Fin 64) : B5 m c t (ix3 0 k d) = V m c main_arg5 (ix3 (seqOf m t) k d) := by
  refine congrArg (V m c main_arg5) (funext fun a => Fin.ext ?_)
  have h := coords_0 t
  have h0 := coord0_toNat (grid0.coords t)
  fin_cases a
  · show (BitVec.ofNat 32 (grid0.coords t 0).val).toNat * 1 + 1 * 0 = t.val / 14
    omega
  · show 0 * 896 + 1 * k.val = k.val; omega
  · show 0 * 64 + 1 * d.val = d.val; omega
theorem B4_apply (c : Dev nD) (t : Fin (cfgM m).N) (b : Fin 2) (k : Fin 896) : B4 m c t (ix2 b k) = V m c main_arg4 (ix2 b k) := by
  refine congrArg (V m c main_arg4) (funext fun a => Fin.ext ?_)
  fin_cases a
  · show 0 * 2 + 1 * b.val = b.val; omega
  · show 0 * 896 + 1 * k.val = k.val; omega

section
variable (c : Dev nD) (t : Fin (cfgM m).N) (hn : (64 * (grid0.coords t 1).val : Int) < (lenP m t).toInt) (y : Fin 64) (h : Fin 16)
include hn

theorem blockCol_at : (Words.blockCol (grid0.coords t 1).val (lenW (grid0.coords t) (tbl m 0))).toNat = (grid0.coords t 1).val :=
  Words.blockCol_eq _ (by have := col_lt (grid0.coords t); omega) _ hn

theorem B0_apply (d : Fin 512) : B0 m c t (ix4 0 y h d) = V m c main_arg0 (ix4 (seqOf m t) (tokAt m t y) h d) := by
  refine congrArg (V m c main_arg0) (funext fun a => Fin.ext ?_)
  show cc0_transform_0 k0_off1_inb numel1_S1 (tbl m) (grid0.coords t) a * S1x64x16x512.size a + 1 * ((ix4 0 y h d : S1x64x16x512.Idx) a).val = _
  rw [transform_0_eq, blockCol_at m t hn]
  have h0 := coords_0 t
  fin_cases a
  · show (grid0.coords t 0).val * 1 + 1 * 0 = t.val / 14; omega
  · show (grid0.coords t 1).val * 64 + 1 * y.val = 64 * (grid0.coords t 1).val + y.val; omega
  · show 0 * 16 + 1 * h.val = h.val; omega
  · show 0 * 512 + 1 * d.val = d.val; omega
theorem B1_apply : B1 m c t (ix3 0 y h) = V m c main_arg1 (ix3 (seqOf m t) (tokAt m t y) h) := by
  refine congrArg (V m c main_arg1) (funext fun a => Fin.ext ?_)
  show cc0_transform_1 k0_off1_inb numel1_S1 (tbl m) (grid0.coords t) a * S1x64x16.size a + 1 * ((ix3 0 y h : S1x64x16.Idx) a).val = _
  rw [transform_1_eq, blockCol_at m t hn]
  have h0 := coords_0 t
  fin_cases a
  · show (grid0.coords t 0).val * 1 + 1 * 0 = t.val / 14; omega
  · show (grid0.coords t 1).val * 64 + 1 * y.val = 64 * (grid0.coords t 1).val + y.val; omega
  · show 0 * 16 + 1 * h.val = h.val; omega
theorem B2_apply (d : Fin 64) : B2 m c t (ix4 0 y h d) = V m c main_arg2 (ix4 (seqOf m t) (tokAt m t y) h d) := by
  refine congrArg (V m c main_arg2) (funext fun a => Fin.ext ?_)
  show cc0_transform_2 k0_off1_inb numel1_S1 (tbl m) (grid0.coords t) a * S1x64x16x64.size a + 1 * ((ix4 0 y h d : S1x64x16x64.Idx) a).val = _
  rw [transform_2_eq, blockCol_at m t hn]
  have h0 := coords_0 t
  fin_cases a
  · show (grid0.coords t 0).val * 1 + 1 * 0 = t.val / 14; omega
  · show (grid0.coords t 1).val * 64 + 1 * y.val = 64 * (grid0.coords t 1).val + y.val; omega
  · show 0 * 16 + 1 * h.val = h.val; omega
  · show 0 * 64 + 1 * d.val = d.val; omega

end

/-! ## The blocks a point leaves are those of the softmax -/

/-- The arrays as launched. -/
def inputs (c : Dev nD) : Spec.Inputs :=
  ⟨V m c main_arg0, V m c main_arg1, V m c main_arg2, V m c main_arg3, V m c main_arg4, V m c main_arg5, V m c main_arg6⟩

variable (c : Dev nD) (hI : (inputs m c).Usable)

theorem coe_toReal' {x : EReal} (h0 : 0 < x) (h1 : x < ⊤) : x = (x.toReal : EReal) :=
  (EReal.coe_toReal h1.ne (ne_bot_of_gt h0)).symm
theorem toReal_pos' {x : EReal} (h0 : 0 < x) (h1 : x < ⊤) : 0 < x.toReal := EReal.toReal_pos h0 h1.ne

theorem csRow_at (t : Fin (cfgM m).N) (κ : Fin 896) :
    csRow (grid0.coords t 0).val (batch_lt _) (B4 m c t) (ix2 0 κ) = (inputs m c).a (ix2 (seqOf m t) κ) := by
  rw [csRow_apply, B4_apply]
  exact congrArg (fun b => V m c main_arg4 (ix2 b κ)) (Fin.ext (coords_0 t))

include hI

section
variable (t : Fin (cfgM m).N) {K : ℕ} (hK : K ≤ 896) (hn : (64 * (grid0.coords t 1).val : Int) < (lenP m t).toInt) (y : Fin 64) (h : Fin 16)
  (hy : 64 * (grid0.coords t 1).val + y.val < K)
include hn hy

theorem tokO_at (d : Fin 512) :
    tokO K hK (grid0.coords t 1).val (lenP m t) (B0 m c t) (B1 m c t) (B2 m c t) (B3 m c t) (scrU m c t) (scrR m c t) (scrK m c t) y h d
      = Spec.o (inputs m c) (seqOf m t) (tokAt m t y) h d := by
  unfold scrU scrR scrK
  rw [tokO_eq hK _ _ _ _ _ _ _ _ y h hy (toReal_pos' (hI.g_pos _) (hI.g_lt _))
    ((B1_apply m c t hn y h).trans (coe_toReal' (hI.g_pos (ix3 (seqOf m t) (tokAt m t y) h)) (hI.g_lt _)))
    (a := fun κ => ((inputs m c).a (ix2 (seqOf m t) κ)).toReal) (fun κ => toReal_pos' (hI.a_pos _) (hI.a_lt _))
    (fun κ => (csRow_at m c t κ).trans (coe_toReal' (hI.a_pos _) (hI.a_lt _)))]
  unfold Spec.o Spec.scores
  rw [lenP_eq m c t, funext fun x => B0_apply m c t hn y h x, funext fun x => B2_apply m c t hn y h x,
    funext fun κ => funext fun x => B3_apply m c t κ x, funext fun κ => funext fun x => B5_apply m c t κ x, funext fun κ => B3_apply m c t κ d]
  rfl

theorem tokL_at :
    tokL K hK (grid0.coords t 1).val (lenP m t) (B0 m c t) (B1 m c t) (B2 m c t) (B3 m c t) (scrR m c t) (scrK m c t) y h
      = Spec.l (inputs m c) (seqOf m t) (tokAt m t y) h := by
  unfold scrR scrK
  rw [tokL_eq hK _ _ _ _ _ _ _ _ y h hy (toReal_pos' (hI.g_pos _) (hI.g_lt _))
    ((B1_apply m c t hn y h).trans (coe_toReal' (hI.g_pos (ix3 (seqOf m t) (tokAt m t y) h)) (hI.g_lt _)))
    (a := fun κ => ((inputs m c).a (ix2 (seqOf m t) κ)).toReal) (fun κ => toReal_pos' (hI.a_pos _) (hI.a_lt _))
    (fun κ => (csRow_at m c t κ).trans (coe_toReal' (hI.a_pos _) (hI.a_lt _)))]
  unfold Spec.l Spec.scores
  rw [lenP_eq m c t, funext fun x => B0_apply m c t hn y h x, funext fun x => B2_apply m c t hn y h x,
    funext fun κ => funext fun x => B3_apply m c t κ x, funext fun κ => funext fun x => B5_apply m c t κ x]
  rfl

end

theorem outP_apply (t : Fin (cfgM m).N) (y : S1x64x16x512.Idx) :
    outP m c t y = Spec.o (inputs m c) (seqOf m t) (tokAt m t (y 1)) (y 2) (y 3) := by
  have hj := col_lt (grid0.coords t)
  have hy : (y 1).val < 64 := (y 1).isLt
  unfold outP
  rcases lt_or_ge (64 * (grid0.coords t 1).val : Int) (lenP m t).toInt with hn | hn
  · split_ifs with h2 h3 h4 h5
    · have := ((cond2_iff _ _).1 h2).2
      exact (out1_apply _ _ _ _ _ _ _ _ _ this y).trans (tokO_at m c hI t _ hn _ _ (by omega) _)
    · have := ((cond3_iff _ _).1 h3).2
      exact (out2_apply _ _ _ _ _ _ _ _ _ this y).trans (tokO_at m c hI t _ hn _ _ (by omega) _)
    · have := ((cond4_iff _ _).1 h4).2
      exact (out3_apply _ _ _ _ _ _ _ _ _ this y).trans (tokO_at m c hI t _ hn _ _ (by omega) _)
    · have := ((cond5_iff _ _).1 h5).2
      exact (out4_apply _ _ _ _ _ _ _ _ _ this y).trans (tokO_at m c hI t _ hn _ _ (by omega) _)
    · rw [cond2_iff] at h2; rw [cond3_iff] at h3; rw [cond4_iff] at h4; rw [cond5_iff] at h5
      omega
  · rw [if_neg fun h => by have := (cond2_iff _ _).1 h; omega, if_neg fun h => by have := (cond3_iff _ _).1 h; omega,
      if_neg fun h => by have := (cond4_iff _ _).1 h; omega, if_neg fun h => by have := (cond5_iff _ _).1 h; omega, outPad_apply]
    unfold Spec.o
    rw [if_neg]
    rw [lenP_eq m c t] at hn
    show ¬((64 * (grid0.coords t 1).val + (y 1).val : ℕ) : Int) < (V m c main_arg6 (ix1 (seqOf m t))).toInt
    omega

theorem lseP_apply (t : Fin (cfgM m).N) (y : S1x64x16.Idx) :
    lseP m c t y = Spec.l (inputs m c) (seqOf m t) (tokAt m t (y 1)) (y 2) := by
  have hj := col_lt (grid0.coords t)
  have hy : (y 1).val < 64 := (y 1).isLt
  unfold lseP
  rcases lt_or_ge (64 * (grid0.coords t 1).val : Int) (lenP m t).toInt with hn | hn
  · split_ifs with h2 h3 h4 h5
    · have := ((cond2_iff _ _).1 h2).2
      exact (lse1_apply _ _ _ _ _ _ _ _ _ this y).trans (tokL_at m c hI t _ hn _ _ (by omega))
    · have := ((cond3_iff _ _).1 h3).2
      exact (lse2_apply _ _ _ _ _ _ _ _ _ this y).trans (tokL_at m c hI t _ hn _ _ (by omega))
    · have := ((cond4_iff _ _).1 h4).2
      exact (lse3_apply _ _ _ _ _ _ _ _ _ this y).trans (tokL_at m c hI t _ hn _ _ (by omega))
    · have := ((cond5_iff _ _).1 h5).2
      exact (lse4_apply _ _ _ _ _ _ _ _ _ this y).trans (tokL_at m c hI t _ hn _ _ (by omega))
    · rw [cond2_iff] at h2; rw [cond3_iff] at h3; rw [cond4_iff] at h4; rw [cond5_iff] at h5
      omega
  · rw [if_neg fun h => by have := (cond2_iff _ _).1 h; omega, if_neg fun h => by have := (cond3_iff _ _).1 h; omega,
      if_neg fun h => by have := (cond4_iff _ _).1 h; omega, if_neg fun h => by have := (cond5_iff _ _).1 h; omega, lsePad_apply]
    unfold Spec.l
    rw [if_neg]
    rw [lenP_eq m c t] at hn
    show ¬((64 * (grid0.coords t 1).val + (y 1).val : ℕ) : Int) < (V m c main_arg6 (ix1 (seqOf m t))).toInt
    omega

end Cert.KernelIdeal.Run

end
-- ==== Proof.KernelIdeal.Array.lean ====
/- The kernel's results: every point writes its block back, the blocks cover the arrays, and each is the softmax's. -/
module

public import proofs.«01_k».proof.Proof.KernelIdeal.Value
public import proofs.«01_k».proof.Proof.KernelIdeal.Frame
public import Idealize.ShloMosaic.Lib.Pipeline.ValueKit

@[expose] public section

set_option maxRecDepth 16384

noncomputable section

namespace Cert.KernelIdeal.Run

open Cert.KernelIdeal.Gen
open Idealize.ShloMosaic Idealize.ShloMosaic.TcCoe Idealize.SL.Sem

variable (m : (ℓ : Loc nD τ sig) → Buf (Elt Ideal) ℓ) (ρ : Dev nD → PrngReg)

/-! ## Window 6's array -/

theorem moves6 : ∀ t : Fin grid0.N, (decide (t.val + 1 = grid0.N)
    || decide (∃ h : t.val + 1 < grid0.N, cc0_transform_6 (grid0.coords ⟨t.val + 1, h⟩) ≠ cc0_transform_6 (grid0.coords t))) = true := by decide +kernel
/-- Every point writes its block back. -/
theorem flush6 (t : Fin grid0.N) : ((cfgM m).win 6).flush t = true := moves6 t

/-- Every index is in some point's block. -/
theorem array_cover6 (i : S2x896x16x512.Idx) : ∃ t : Fin (cfgM m).N, ((cfgM m).win 6).flush t = true ∧ i ∈ (((cfgM m).win 6).blk t).view.set := by
  have hi0 : (i 0).val < 2 := (i 0).isLt
  have hi1 : (i 1).val < 896 := (i 1).isLt
  let t : Fin grid0.N := ⟨14 * (i 0).val + (i 1).val / 64, by show _ < 28; omega⟩
  refine ⟨t, flush6 m t, (((cfgM m).win 6).emb_mem_blk_iff t i).mpr ?_⟩
  have h0 := coords_0 t
  have h1 := coords_1 t
  have ht : t.val = 14 * (i 0).val + (i 1).val / 64 := rfl
  have hi2 : (i 2).val < 16 := (i 2).isLt
  have hi3 : (i 3).val < 512 := (i 3).isLt
  have e0 : (BitVec.ofNat 32 (grid0.coords t 0).val).toNat = (i 0).val := by rw [BitVec.toNat_ofNat]; omega
  have e1 : (BitVec.ofNat 32 (grid0.coords t 1).val).toNat = (i 1).val / 64 := by rw [BitVec.toNat_ofNat]; omega
  intro a
  fin_cases a
  · show (BitVec.ofNat 32 (grid0.coords t 0).val).toNat * 1 ≤ (i 0).val ∧ (i 0).val < (BitVec.ofNat 32 (grid0.coords t 0).val).toNat * 1 + 1
    omega
  · show (BitVec.ofNat 32 (grid0.coords t 1).val).toNat * 64 ≤ (i 1).val ∧ (i 1).val < (BitVec.ofNat 32 (grid0.coords t 1).val).toNat * 64 + 64
    omega
  · show 0 * 16 ≤ (i 2).val ∧ (i 2).val < 0 * 16 + 16
    omega
  · show 0 * 512 ≤ (i 3).val ∧ (i 3).val < 0 * 512 + 512
    omega

/-- The array is the softmax's. -/
theorem array6 (c : Dev nD) (hI : (inputs m c).Usable) :
    (dats m 0 c).arrAt 6 (cfgM m).N = fun i : S2x896x16x512.Idx => Spec.o (inputs m c) (i 0) (i 1) (i 2) (i 3) := by
  refine (dats m 0 c).arrAt_eq_of_emb 6 _ (fun t _ y => ?_) (array_cover6 m)
  refine (congrFun (after_6 m c t) _).trans (((outP_apply m c hI t y)).trans ?_)
  have h0 := coords_0 t
  have hc := coord0_toNat (grid0.coords t)
  have hj := col_lt (grid0.coords t)
  have e0 : seqOf m t = ((((cfgM m).win 6).blk t).view.emb y (0 : Fin 4) : Fin 2) := Fin.ext (by
    have hy : (y (0 : Fin 4)).val < 1 := (y (0 : Fin 4)).isLt
    show t.val / 14 = (BitVec.ofNat 32 (grid0.coords t 0).val).toNat * 1 + 1 * (y (0 : Fin 4)).val
    omega)
  have e1 : tokAt m t (y (1 : Fin 4)) = ((((cfgM m).win 6).blk t).view.emb y (1 : Fin 4) : Fin 896) := Fin.ext (by
    have e : (BitVec.ofNat 32 (grid0.coords t 1).val).toNat = (grid0.coords t 1).val := by rw [BitVec.toNat_ofNat]; omega
    show 64 * (grid0.coords t 1).val + (y (1 : Fin 4)).val = (BitVec.ofNat 32 (grid0.coords t 1).val).toNat * 64 + 1 * (y (1 : Fin 4)).val
    omega)
  have e2 : (y (2 : Fin 4) : Fin 16) = ((((cfgM m).win 6).blk t).view.emb y (2 : Fin 4) : Fin 16) := Fin.ext (by
    show (y (2 : Fin 4)).val = 0 * 16 + 1 * (y (2 : Fin 4)).val
    omega)
  have e3 : (y (3 : Fin 4) : Fin 512) = ((((cfgM m).win 6).blk t).view.emb y (3 : Fin 4) : Fin 512) := Fin.ext (by
    show (y (3 : Fin 4)).val = 0 * 512 + 1 * (y (3 : Fin 4)).val
    omega)
  exact congr (congr (congr (congrArg (Spec.o (inputs m c)) e0) e1) e2) e3

/-! ## Window 7's array -/

theorem moves7 : ∀ t : Fin grid0.N, (decide (t.val + 1 = grid0.N)
    || decide (∃ h : t.val + 1 < grid0.N, cc0_transform_7 (grid0.coords ⟨t.val + 1, h⟩) ≠ cc0_transform_7 (grid0.coords t))) = true := by decide +kernel
/-- Every point writes its block back. -/
theorem flush7 (t : Fin grid0.N) : ((cfgM m).win 7).flush t = true := moves7 t

/-- Every index is in some point's block. -/
theorem array_cover7 (i : S2x896x16.Idx) : ∃ t : Fin (cfgM m).N, ((cfgM m).win 7).flush t = true ∧ i ∈ (((cfgM m).win 7).blk t).view.set := by
  have hi0 : (i 0).val < 2 := (i 0).isLt
  have hi1 : (i 1).val < 896 := (i 1).isLt
  let t : Fin grid0.N := ⟨14 * (i 0).val + (i 1).val / 64, by show _ < 28; omega⟩
  refine ⟨t, flush7 m t, (((cfgM m).win 7).emb_mem_blk_iff t i).mpr ?_⟩
  have h0 := coords_0 t
  have h1 := coords_1 t
  have ht : t.val = 14 * (i 0).val + (i 1).val / 64 := rfl
  have hi2 : (i 2).val < 16 := (i 2).isLt
  have e0 : (BitVec.ofNat 32 (grid0.coords t 0).val).toNat = (i 0).val := by rw [BitVec.toNat_ofNat]; omega
  have e1 : (BitVec.ofNat 32 (grid0.coords t 1).val).toNat = (i 1).val / 64 := by rw [BitVec.toNat_ofNat]; omega
  intro a
  fin_cases a
  · show (BitVec.ofNat 32 (grid0.coords t 0).val).toNat * 1 ≤ (i 0).val ∧ (i 0).val < (BitVec.ofNat 32 (grid0.coords t 0).val).toNat * 1 + 1
    omega
  · show (BitVec.ofNat 32 (grid0.coords t 1).val).toNat * 64 ≤ (i 1).val ∧ (i 1).val < (BitVec.ofNat 32 (grid0.coords t 1).val).toNat * 64 + 64
    omega
  · show 0 * 16 ≤ (i 2).val ∧ (i 2).val < 0 * 16 + 16
    omega

/-- The array is the softmax's. -/
theorem array7 (c : Dev nD) (hI : (inputs m c).Usable) :
    (dats m 0 c).arrAt 7 (cfgM m).N = fun i : S2x896x16.Idx => Spec.l (inputs m c) (i 0) (i 1) (i 2) := by
  refine (dats m 0 c).arrAt_eq_of_emb 7 _ (fun t _ y => ?_) (array_cover7 m)
  refine (congrFun (after_7 m c t) _).trans (((lseP_apply m c hI t y)).trans ?_)
  have h0 := coords_0 t
  have hc := coord0_toNat (grid0.coords t)
  have hj := col_lt (grid0.coords t)
  have e0 : seqOf m t = ((((cfgM m).win 7).blk t).view.emb y (0 : Fin 3) : Fin 2) := Fin.ext (by
    have hy : (y (0 : Fin 3)).val < 1 := (y (0 : Fin 3)).isLt
    show t.val / 14 = (BitVec.ofNat 32 (grid0.coords t 0).val).toNat * 1 + 1 * (y (0 : Fin 3)).val
    omega)
  have e1 : tokAt m t (y (1 : Fin 3)) = ((((cfgM m).win 7).blk t).view.emb y (1 : Fin 3) : Fin 896) := Fin.ext (by
    have e : (BitVec.ofNat 32 (grid0.coords t 1).val).toNat = (grid0.coords t 1).val := by rw [BitVec.toNat_ofNat]; omega
    show 64 * (grid0.coords t 1).val + (y (1 : Fin 3)).val = (BitVec.ofNat 32 (grid0.coords t 1).val).toNat * 64 + 1 * (y (1 : Fin 3)).val
    omega)
  have e2 : (y (2 : Fin 3) : Fin 16) = ((((cfgM m).win 7).blk t).view.emb y (2 : Fin 3) : Fin 16) := Fin.ext (by
    show (y (2 : Fin 3)).val = 0 * 16 + 1 * (y (2 : Fin 3)).val
    omega)
  exact congr (congr (congrArg (Spec.l (inputs m c)) e0) e1) e2

/-! ## The run -/

/-- Run from usable scales: both results are the softmax's, and every argument is as launched. -/
theorem run_value (hI : ∀ c : Dev nD, (inputs m c).Usable) : θ_run defs (onTc (τ := τ) (main (F := Ideal))) (s₀ m ρ) (fun r => ∀ c : Dev nD,
    r.2.mem ((c.tc : Thread nD τ).loc main_v0_0) = (fun i : S2x896x16x512.Idx => Spec.o (inputs m c) (i 0) (i 1) (i 2) (i 3))
    ∧ r.2.mem ((c.tc : Thread nD τ).loc main_v0_1) = (fun i : S2x896x16.Idx => Spec.l (inputs m c) (i 0) (i 1) (i 2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun r h c =>
    ⟨((h.1 c).1 6).trans (array6 m c (hI c)),
     ((h.1 c).1 7).trans (array7 m c (hI c)),
     ((h.1 c).1 0).trans (((dats m 0 c).arrAt_in 0 rfl _).trans (A_eq m c 0)),
     ((h.1 c).1 1).trans (((dats m 0 c).arrAt_in 1 rfl _).trans (A_eq m c 1)),
     ((h.1 c).1 2).trans (((dats m 0 c).arrAt_in 2 rfl _).trans (A_eq m c 2)),
     ((h.1 c).1 3).trans (((dats m 0 c).arrAt_in 3 rfl _).trans (A_eq m c 3)),
     ((h.1 c).1 4).trans (((dats m 0 c).arrAt_in 4 rfl _).trans (A_eq m c 4)),
     ((h.1 c).1 5).trans (((dats m 0 c).arrAt_in 5 rfl _).trans (A_eq m c 5)),
     ((h.1 c).2 main_arg6 arg6_rest)⟩) (run_main_quiescent m ρ)

end Cert.KernelIdeal.Run

end
-- ==== Proof.ReferenceIdeal.Body.lean ====
/- The reference's body at an index: masked scores, softmax, weighted values. -/
module

public import proofs.«01_k».proof.Proof.Gen.ReferenceIdeal.Frame
public import proofs.«01_k».proof.Proof.Select
public import proofs.«01_k».proof.Proof.Spec
public import Idealize.ShloMosaic.Lib.Pointwise
public import Idealize.ShloMosaic.Lib.Pipeline.Value
public import Idealize.ShloMosaic.PureOps.IdealRules

@[expose] public section

set_option maxRecDepth 16384

noncomputable section

namespace Cert.ReferenceIdeal.Run

open Cert.ReferenceIdeal.Gen
open Idealize.ShloMosaic Idealize.ShloMosaic.TcCoe Idealize.SL.Sem

/-! ## The steps of the body, at an index -/

theorem scale_eq (w : BitVec FTy.f32.bits) : Named.named (F := Ideal) κ "scale" w = (((Real.sqrt 192)⁻¹ : ℝ) : EReal) :=
  IdealRules.named_const.ideal_named_scalar κ "scale" w _ rfl

section
variable (cs : Vec Ideal S2x896 .f32) (q : Vec Ideal S2x896x16x512 .fp8e4m3) (C : Vec Ideal S2x896x512 .fp8e4m3) (qs : Vec Ideal S2x896x16 .f32)
  (qr : Vec Ideal S2x896x16x64 .bf16) (R : Vec Ideal S2x896x64 .bf16) (b : Fin 2) (t : Fin 896) (h : Fin 16) (κ' : Fin 896)

/-- A sum with a logarithm, entry by entry. -/
theorem addLog_apply {S : Shape} (A B : FVec Ideal S .f32) (i : S.Idx) : addf A (log B) i = A i + Ideal.log (B i) := rfl

theorem pay4_read : k0_pay4 cs q C qs qr R (ix4 b t h κ')
    = Scalar.select (IntOp.cmpi CmpIPredicate.sle (BitVec.ofNat 32 κ'.val) (BitVec.ofNat 32 t.val))
        (((∑ x, q (ix4 b t h x) * C (ix3 b κ' x)) * qs (ix3 b t h) * cs (ix2 b κ') + ∑ x, qr (ix4 b t h x) * R (ix3 b κ' x))
          * Named.named (F := Ideal) κ "scale" (φ := .f32) 1033096506#32) (Ideal.ofBits .f32 4286578688#32) := by
  pointwise [k0_pay4]

/-- The masked scores of a query. -/
def sc (κ' : Fin 896) : EReal :=
  if κ'.val ≤ t.val then ((∑ x, q (ix4 b t h x) * C (ix3 b κ' x)) * qs (ix3 b t h) * cs (ix2 b κ') + ∑ x, qr (ix4 b t h x) * R (ix3 b κ' x))
    * (((Real.sqrt 192)⁻¹ : ℝ) : EReal) else ⊥

theorem pay4_apply : k0_pay4 cs q C qs qr R (ix4 b t h κ') = sc cs q C qs qr R b t h κ' := by
  rw [pay4_read, Words.select_sle (by omega) (by omega), Words.ofBits_bot, scale_eq]
  rfl

theorem pay5_apply : k0_pay5 cs q C qs qr R (ix3 b t h) = Row.top (sc cs q C qs qr R b t h) := by
  have e := fun κ' => pay4_apply cs q C qs qr R b t h κ'
  unfold k0_pay5
  generalize k0_pay4 cs q C qs qr R = v at e ⊢
  pointwise
  rw [funext e, Words.ofBits_bot]
  rfl

theorem pay6_apply : k0_pay6 cs q C qs qr R (ix4 b t h κ') = Row.weight (sc cs q C qs qr R b t h) κ' := by
  have e := pay4_apply cs q C qs qr R b t h κ'
  have e' := pay5_apply cs q C qs qr R b t h
  unfold k0_pay6
  generalize k0_pay4 cs q C qs qr R = v at e ⊢
  generalize k0_pay5 cs q C qs qr R = v' at e' ⊢
  pointwise
  rw [e, e']
  rfl

theorem pay7_apply : k0_pay7 cs q C qs qr R (ix3 b t h) = ∑ κ', Row.weight (sc cs q C qs qr R b t h) κ' := by
  have e := fun κ' => pay6_apply cs q C qs qr R b t h κ'
  unfold k0_pay7
  generalize k0_pay6 cs q C qs qr R = v at e ⊢
  pointwise
  exact Finset.sum_congr rfl fun κ' _ => e κ'

theorem pay8_apply : k0_pay8 cs q C qs qr R (ix3 b t h) = Row.lse (sc cs q C qs qr R b t h) := by
  have e := pay5_apply cs q C qs qr R b t h
  have e' := pay7_apply cs q C qs qr R b t h
  unfold k0_pay8
  generalize k0_pay5 cs q C qs qr R = v at e ⊢
  generalize k0_pay7 cs q C qs qr R = v' at e' ⊢
  refine (addLog_apply v v' (ix3 b t h)).trans ?_
  rw [e, e']
  rfl

theorem pay9_apply : k0_pay9 cs (ix4 b 0 0 κ') = cs (ix2 b κ') := by
  pointwise [k0_pay9]

variable (n : Vec Ideal S2x1x1x1 .i32)

theorem pay2_read (w : FVec Ideal S2x896x16x896 .f32) (l : FVec Ideal S2x896x16 .f32) (s : FVec Ideal S2x1x1x896 .f32) (d : Fin 512) :
    k0_pay2 w l s C n (ix4 b t h d)
      = Scalar.select (IntOp.cmpi CmpIPredicate.slt (BitVec.ofNat 32 t.val) (n (ix4 b 0 0 0)))
          (Ideal.div (∑ x, w (ix4 b t h x) * s (ix4 b 0 0 x) * C (ix3 b x d)) (l (ix3 b t h))) 0 := by
  pointwise [k0_pay2, k0_pay1]

theorem pay3_read (l : FVec Ideal S2x896x16 .f32) : k0_pay3 l n (ix3 b t h)
    = Scalar.select (IntOp.cmpi CmpIPredicate.slt (BitVec.ofNat 32 t.val) (n (ix4 b 0 0 0))) (l (ix3 b t h)) 0 := by
  pointwise [k0_pay3, k0_pay1]

/-- The first result of the body. -/
theorem out0_7_apply (d : Fin 512) : out0_7 n q qs qr C cs R (ix4 b t h d) = if (t.val : Int) < (n (ix4 b 0 0 0)).toInt then
    Row.out (sc cs q C qs qr R b t h) (fun κ' => cs (ix2 b κ')) (fun κ' => C (ix3 b κ' d)) else 0 := by
  unfold out0_7
  simp only [View.ld_unit_zero (S := S2x896) (show (![0, 0] : Fin 2 → ℕ) = fun _ => 0 by funext a; fin_cases a <;> rfl),
    View.ld_unit_zero (S := S2x896x16x512) (show (![0, 0, 0, 0] : Fin 4 → ℕ) = fun _ => 0 by funext a; fin_cases a <;> rfl),
    View.ld_unit_zero (S := S2x896x512) (show (![0, 0, 0] : Fin 3 → ℕ) = fun _ => 0 by funext a; fin_cases a <;> rfl),
    View.ld_unit_zero (S := S2x896x16) (show (![0, 0, 0] : Fin 3 → ℕ) = fun _ => 0 by funext a; fin_cases a <;> rfl),
    View.ld_unit_zero (S := S2x896x16x64) (show (![0, 0, 0, 0] : Fin 4 → ℕ) = fun _ => 0 by funext a; fin_cases a <;> rfl),
    View.ld_unit_zero (S := S2x896x64) (show (![0, 0, 0] : Fin 3 → ℕ) = fun _ => 0 by funext a; fin_cases a <;> rfl),
    View.ld_unit_zero (S := S2x1x1x1) (show (![0, 0, 0, 0] : Fin 4 → ℕ) = fun _ => 0 by funext a; fin_cases a <;> rfl)]
  rw [View.canon_unit_zero (by funext a; fin_cases a <;> rfl), pay2_read, Words.select_slt (by omega), pay7_apply]
  unfold Row.out
  refine if_congr Iff.rfl (congrArg (fun z => Ideal.div z _) (Finset.sum_congr rfl fun x _ => ?_)) rfl
  rw [pay6_apply, pay9_apply]

/-- The second. -/
theorem out0_8_apply : out0_8 n q qs qr C cs R (ix3 b t h) = if (t.val : Int) < (n (ix4 b 0 0 0)).toInt then
    Row.lse (sc cs q C qs qr R b t h) else 0 := by
  unfold out0_8
  simp only [View.ld_unit_zero (S := S2x896) (show (![0, 0] : Fin 2 → ℕ) = fun _ => 0 by funext a; fin_cases a <;> rfl),
    View.ld_unit_zero (S := S2x896x16x512) (show (![0, 0, 0, 0] : Fin 4 → ℕ) = fun _ => 0 by funext a; fin_cases a <;> rfl),
    View.ld_unit_zero (S := S2x896x512) (show (![0, 0, 0] : Fin 3 → ℕ) = fun _ => 0 by funext a; fin_cases a <;> rfl),
    View.ld_unit_zero (S := S2x896x16) (show (![0, 0, 0] : Fin 3 → ℕ) = fun _ => 0 by funext a; fin_cases a <;> rfl),
    View.ld_unit_zero (S := S2x896x16x64) (show (![0, 0, 0, 0] : Fin 4 → ℕ) = fun _ => 0 by funext a; fin_cases a <;> rfl),
    View.ld_unit_zero (S := S2x896x64) (show (![0, 0, 0] : Fin 3 → ℕ) = fun _ => 0 by funext a; fin_cases a <;> rfl),
    View.ld_unit_zero (S := S2x1x1x1) (show (![0, 0, 0, 0] : Fin 4 → ℕ) = fun _ => 0 by funext a; fin_cases a <;> rfl)]
  rw [View.canon_unit_zero (by funext a; fin_cases a <;> rfl), pay3_read, Words.select_slt (by omega), pay8_apply]

end

end Cert.ReferenceIdeal.Run

end
-- ==== Proof.ReferenceIdeal.Array.lean ====
/- The reference's two result arrays and its run. -/
module

public import proofs.«01_k».proof.Proof.ReferenceIdeal.Body
public import proofs.«01_k».proof.Proof.Gen.ReferenceIdeal.Value
public import Idealize.ShloMosaic.Lib.Pipeline.ValueKit
public import Idealize.ShloMosaic.Lib.StableHlo.Run

@[expose] public section

set_option maxRecDepth 16384

noncomputable section

namespace Cert.ReferenceIdeal.Run

open Cert.ReferenceIdeal.Gen
open Idealize.ShloMosaic Idealize.ShloMosaic.TcCoe Idealize.SL.Sem

/-- A positive finite extended real is its real number. -/
theorem coe_toReal' {x : EReal} (h0 : 0 < x) (h1 : x < ⊤) : x = (x.toReal : EReal) :=
  (EReal.coe_toReal h1.ne (ne_bot_of_gt h0)).symm

/-- The lengths with three axes of one added. -/
theorem lens_read (n : IVec S2 32) (b : Fin 2) : shapeCast S2x1x1x1 n shapeCasts_S2_S2x1x1x1 (ix4 b 0 0 0) = n (ix1 b) := by
  pointwise

variable (m : (ℓ : Loc nD τ sig) → Buf (Elt Ideal) ℓ) (ρ : Dev nD → PrngReg)

/-- The reference's arguments on a device. -/
def inputs (c : Dev nD) : Spec.Inputs :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6)⟩

/-! ## Each window's one block is its whole array -/

theorem iblk0_eq (c : Dev nD) (t : Fin cfg0.N) : iblk m c 0 t = V m c main_v0 := by
  refine funext fun y : S2x1x1x1.Idx => ?_
  have e : ((cfg0.win 0).blk t).view.emb y = y := by
    funext a
    fin_cases a
    · exact Fin.ext (by show 0 * 2 + 1 * (y 0).val = (y 0).val; omega)
    · exact Fin.ext (by show 0 * 1 + 1 * (y 1).val = (y 1).val; omega)
    · exact Fin.ext (by show 0 * 1 + 1 * (y 2).val = (y 2).val; omega)
    · exact Fin.ext (by show 0 * 1 + 1 * (y 3).val = (y 3).val; omega)
  exact congrArg (V m c main_v0) e

theorem iblk1_eq (c : Dev nD) (t : Fin cfg0.N) : iblk m c 1 t = m ((c.tc : Thread nD τ).loc main_arg0) := by
  refine funext fun y : S2x896x16x512.Idx => ?_
  have e : ((cfg0.win 1).blk t).view.emb y = y := by
    funext a
    fin_cases a
    · exact Fin.ext (by show 0 * 2 + 1 * (y 0).val = (y 0).val; omega)
    · exact Fin.ext (by show 0 * 896 + 1 * (y 1).val = (y 1).val; omega)
    · exact Fin.ext (by show 0 * 16 + 1 * (y 2).val = (y 2).val; omega)
    · exact Fin.ext (by show 0 * 512 + 1 * (y 3).val = (y 3).val; omega)
  exact (congrArg (V m c main_arg0) e).trans (congrFun (V_main_arg0 m c) _)

theorem iblk2_eq (c : Dev nD) (t : Fin cfg0.N) : iblk m c 2 t = m ((c.tc : Thread nD τ).loc main_arg1) := by
  refine funext fun y : S2x896x16.Idx => ?_
  have e : ((cfg0.win 2).blk t).view.emb y = y := by
    funext a
    fin_cases a
    · exact Fin.ext (by show 0 * 2 + 1 * (y 0).val = (y 0).val; omega)
    · exact Fin.ext (by show 0 * 896 + 1 * (y 1).val = (y 1).val; omega)
    · exact Fin.ext (by show 0 * 16 + 1 * (y 2).val = (y 2).val; omega)
  exact (congrArg (V m c main_arg1) e).trans (congrFun (V_main_arg1 m c) _)

theorem iblk3_eq (c : Dev nD) (t : Fin cfg0.N) : iblk m c 3 t = m ((c.tc : Thread nD τ).loc main_arg2) := by
  refine funext fun y : S2x896x16x64.Idx => ?_
  have e : ((cfg0.win 3).blk t).view.emb y = y := by
    funext a
    fin_cases a
    · exact Fin.ext (by show 0 * 2 + 1 * (y 0).val = (y 0).val; omega)
    · exact Fin.ext (by show 0 * 896 + 1 * (y 1).val = (y 1).val; omega)
    · exact Fin.ext (by show 0 * 16 + 1 * (y 2).val = (y 2).val; omega)
    · exact Fin.ext (by show 0 * 64 + 1 * (y 3).val = (y 3).val; omega)
  exact (congrArg (V m c main_arg2) e).trans (congrFun (V_main_arg2 m c) _)

theorem iblk4_eq (c : Dev nD) (t : Fin cfg0.N) : iblk m c 4 t = m ((c.tc : Thread nD τ).loc main_arg3) := by
  refine funext fun y : S2x896x512.Idx => ?_
  have e : ((cfg0.win 4).blk t).view.emb y = y := by
    funext a
    fin_cases a
    · exact Fin.ext (by show 0 * 2 + 1 * (y 0).val = (y 0).val; omega)
    · exact Fin.ext (by show 0 * 896 + 1 * (y 1).val = (y 1).val; omega)
    · exact Fin.ext (by show 0 * 512 + 1 * (y 2).val = (y 2).val; omega)
  exact (congrArg (V m c main_arg3) e).trans (congrFun (V_main_arg3 m c) _)

theorem iblk5_eq (c : Dev nD) (t : Fin cfg0.N) : iblk m c 5 t = m ((c.tc : Thread nD τ).loc main_arg4) := by
  refine funext fun y : S2x896.Idx => ?_
  have e : ((cfg0.win 5).blk t).view.emb y = y := by
    funext a
    fin_cases a
    · exact Fin.ext (by show 0 * 2 + 1 * (y 0).val = (y 0).val; omega)
    · exact Fin.ext (by show 0 * 896 + 1 * (y 1).val = (y 1).val; omega)
  exact (congrArg (V m c main_arg4) e).trans (congrFun (V_main_arg4 m c) _)

theorem iblk6_eq (c : Dev nD) (t : Fin cfg0.N) : iblk m c 6 t = m ((c.tc : Thread nD τ).loc main_arg5) := by
  refine funext fun y : S2x896x64.Idx => ?_
  have e : ((cfg0.win 6).blk t).view.emb y = y := by
    funext a
    fin_cases a
    · exact Fin.ext (by show 0 * 2 + 1 * (y 0).val = (y 0).val; omega)
    · exact Fin.ext (by show 0 * 896 + 1 * (y 1).val = (y 1).val; omega)
    · exact Fin.ext (by show 0 * 64 + 1 * (y 2).val = (y 2).val; omega)
  exact (congrArg (V m c main_arg5) e).trans (congrFun (V_main_arg5 m c) _)

/-- The lengths as the reference passes them on: one to a sequence. -/
theorem lens_apply (c : Dev nD) (b : Fin 2) : V m c main_v0 (ix4 b 0 0 0) = m ((c.tc : Thread nD τ).loc main_arg6) (ix1 b) := by
  have e : V m c main_v0 = shapeCast S2x1x1x1 (m ((c.tc : Thread nD τ).loc main_arg6)) shapeCasts_S2_S2x1x1x1 := by
    show StableHlo.after hostOps0 _ (Proc.devRef .tc main_v0) = _
    after_results
    rfl
  rw [e]
  generalize m ((c.tc : Thread nD τ).loc main_arg6) = n
  exact lens_read n b

/-- The masked scores of usable arguments. -/
theorem sc_eq (c : Dev nD) (hI : (inputs m c).Usable) (b : Fin 2) (t : Fin 896) (h : Fin 16) :
    sc (m ((c.tc : Thread nD τ).loc main_arg4)) (m ((c.tc : Thread nD τ).loc main_arg0)) (m ((c.tc : Thread nD τ).loc main_arg3))
      (m ((c.tc : Thread nD τ).loc main_arg1)) (m ((c.tc : Thread nD τ).loc main_arg2)) (m ((c.tc : Thread nD τ).loc main_arg5)) b t h
      = Spec.scores (inputs m c) b t h := by
  funext κ'
  have eg := coe_toReal' (hI.g_pos (ix3 b t h)) (hI.g_lt (ix3 b t h))
  have ea := coe_toReal' (hI.a_pos (ix2 b κ')) (hI.a_lt (ix2 b κ'))
  unfold sc Spec.scores Row.mask Row.score
  rw [← eg, ← ea]
  rfl

/-- The first result of the reference's body. -/
theorem out7_eq (c : Dev nD) (hI : (inputs m c).Usable) (t' : Fin cfg0.N) (b : Fin 2) (t : Fin 896) (h : Fin 16) (d : Fin 512) :
    out0_7 (iblk m c 0 t') (iblk m c 1 t') (iblk m c 2 t') (iblk m c 3 t') (iblk m c 4 t') (iblk m c 5 t') (iblk m c 6 t') (ix4 b t h d)
      = Spec.o (inputs m c) b t h d := by
  rw [iblk0_eq, iblk1_eq, iblk2_eq, iblk3_eq, iblk4_eq, iblk5_eq, iblk6_eq, out0_7_apply, sc_eq m c hI, lens_apply]
  have ea : (fun κ' : Fin 896 => m ((c.tc : Thread nD τ).loc main_arg4) (ix2 b κ')) = fun κ' => (((inputs m c).a (ix2 b κ')).toReal : EReal) :=
    funext fun κ' => coe_toReal' (hI.a_pos (ix2 b κ')) (hI.a_lt (ix2 b κ'))
  rw [ea]
  rfl

/-- The second. -/
theorem out8_eq (c : Dev nD) (hI : (inputs m c).Usable) (t' : Fin cfg0.N) (b : Fin 2) (t : Fin 896) (h : Fin 16) :
    out0_8 (iblk m c 0 t') (iblk m c 1 t') (iblk m c 2 t') (iblk m c 3 t') (iblk m c 4 t') (iblk m c 5 t') (iblk m c 6 t') (ix3 b t h)
      = Spec.l (inputs m c) b t h := by
  rw [iblk0_eq, iblk1_eq, iblk2_eq, iblk3_eq, iblk4_eq, iblk5_eq, iblk6_eq, out0_8_apply, sc_eq m c hI, lens_apply]
  rfl

/-! ## The arrays -/

/-- The one point of the grid writes result 1's block back. -/
theorem flush7 : ∀ t : Fin cfg0.N, (cfg0.win 7).flush t = true :=
  (by decide +kernel : ∀ t : Fin grid0.N, win0_7.flush t = true)

/-- The block is the array. -/
theorem emb7 (t : Fin cfg0.N) (y : S2x896x16x512.Idx) : ((cfg0.win 7).blk t).view.emb y = y := by
  funext a
  fin_cases a
  · exact Fin.ext (by show 0 * 2 + 1 * (y 0).val = (y 0).val; omega)
  · exact Fin.ext (by show 0 * 896 + 1 * (y 1).val = (y 1).val; omega)
  · exact Fin.ext (by show 0 * 16 + 1 * (y 2).val = (y 2).val; omega)
  · exact Fin.ext (by show 0 * 512 + 1 * (y 3).val = (y 3).val; omega)

/-- Every index is in the block. -/
theorem cover7 (i : S2x896x16x512.Idx) : ∃ t : Fin cfg0.N, (cfg0.win 7).flush t = true ∧ i ∈ ((cfg0.win 7).blk t).view.set := by
  refine ⟨(⟨0, by decide⟩ : Fin grid0.N), flush7 _, ((cfg0.win 7).emb_mem_blk_iff _ i).mpr ?_⟩
  intro a
  fin_cases a
  · have h : (i 0).val < 2 := (i 0).isLt
    show 0 * 2 ≤ (i 0).val ∧ (i 0).val < 0 * 2 + 2
    omega
  · have h : (i 1).val < 896 := (i 1).isLt
    show 0 * 896 ≤ (i 1).val ∧ (i 1).val < 0 * 896 + 896
    omega
  · have h : (i 2).val < 16 := (i 2).isLt
    show 0 * 16 ≤ (i 2).val ∧ (i 2).val < 0 * 16 + 16
    omega
  · have h : (i 3).val < 512 := (i 3).isLt
    show 0 * 512 ≤ (i 3).val ∧ (i 3).val < 0 * 512 + 512
    omega

/-- What the point leaves in the block. -/
theorem left7 (c : Dev nD) (hI : (inputs m c).Usable) (t : Fin cfg0.N) (y : S2x896x16x512.Idx) :
    (dats m 0 c).after 7 t y = Spec.o (inputs m c) (y 0) (y 1) (y 2) (y 3) := by
  have ey : y = ix4 (y 0) (y 1) (y 2) (y 3) := by
    funext a
    fin_cases a <;> rfl
  rw [after0_7]
  generalize hz : (out0_7 (iblk m c 0 t) (iblk m c 1 t) (iblk m c 2 t) (iblk m c 3 t) (iblk m c 4 t) (iblk m c 5 t) (iblk m c 6 t)) = z
  refine (congrArg z ey).trans ?_
  subst hz
  exact out7_eq m c hI t (y 0) (y 1) (y 2) (y 3)

/-- The array behind the reference's result 1. -/
theorem array7 (c : Dev nD) (hI : (inputs m c).Usable) :
    (dats m 0 c).arrAt 7 cfg0.N = fun i : S2x896x16x512.Idx => Spec.o (inputs m c) (i 0) (i 1) (i 2) (i 3) := by
  refine (dats m 0 c).arrAt_eq_of_emb 7 _ (fun t _ y => ?_) cover7
  refine (left7 m c hI t y).trans ?_
  exact congrArg (fun i : S2x896x16x512.Idx => Spec.o (inputs m c) (i 0) (i 1) (i 2) (i 3)) (emb7 t y).symm

/-- The one point of the grid writes result 2's block back. -/
theorem flush8 : ∀ t : Fin cfg0.N, (cfg0.win 8).flush t = true :=
  (by decide +kernel : ∀ t : Fin grid0.N, win0_8.flush t = true)

/-- The block is the array. -/
theorem emb8 (t : Fin cfg0.N) (y : S2x896x16.Idx) : ((cfg0.win 8).blk t).view.emb y = y := by
  funext a
  fin_cases a
  · exact Fin.ext (by show 0 * 2 + 1 * (y 0).val = (y 0).val; omega)
  · exact Fin.ext (by show 0 * 896 + 1 * (y 1).val = (y 1).val; omega)
  · exact Fin.ext (by show 0 * 16 + 1 * (y 2).val = (y 2).val; omega)

/-- Every index is in the block. -/
theorem cover8 (i : S2x896x16.Idx) : ∃ t : Fin cfg0.N, (cfg0.win 8).flush t = true ∧ i ∈ ((cfg0.win 8).blk t).view.set := by
  refine ⟨(⟨0, by decide⟩ : Fin grid0.N), flush8 _, ((cfg0.win 8).emb_mem_blk_iff _ i).mpr ?_⟩
  intro a
  fin_cases a
  · have h : (i 0).val < 2 := (i 0).isLt
    show 0 * 2 ≤ (i 0).val ∧ (i 0).val < 0 * 2 + 2
    omega
  · have h : (i 1).val < 896 := (i 1).isLt
    show 0 * 896 ≤ (i 1).val ∧ (i 1).val < 0 * 896 + 896
    omega
  · have h : (i 2).val < 16 := (i 2).isLt
    show 0 * 16 ≤ (i 2).val ∧ (i 2).val < 0 * 16 + 16
    omega

/-- What the point leaves in the block. -/
theorem left8 (c : Dev nD) (hI : (inputs m c).Usable) (t : Fin cfg0.N) (y : S2x896x16.Idx) :
    (dats m 0 c).after 8 t y = Spec.l (inputs m c) (y 0) (y 1) (y 2) := by
  have ey : y = ix3 (y 0) (y 1) (y 2) := by
    funext a
    fin_cases a <;> rfl
  rw [after0_8]
  generalize hz : (out0_8 (iblk m c 0 t) (iblk m c 1 t) (iblk m c 2 t) (iblk m c 3 t) (iblk m c 4 t) (iblk m c 5 t) (iblk m c 6 t)) = z
  refine (congrArg z ey).trans ?_
  subst hz
  exact out8_eq m c hI t (y 0) (y 1) (y 2)

/-- The array behind the reference's result 2. -/
theorem array8 (c : Dev nD) (hI : (inputs m c).Usable) :
    (dats m 0 c).arrAt 8 cfg0.N = fun i : S2x896x16.Idx => Spec.l (inputs m c) (i 0) (i 1) (i 2) := by
  refine (dats m 0 c).arrAt_eq_of_emb 8 _ (fun t _ y => ?_) cover8
  refine (left8 m c hI t y).trans ?_
  exact congrArg (fun i : S2x896x16.Idx => Spec.l (inputs m c) (i 0) (i 1) (i 2)) (emb8 t y).symm

/-! ## The run -/

/-- Run from usable scales: both results are the softmax's, and every argument is as launched. -/
theorem run_value (hI : ∀ c : Dev nD, (inputs m c).Usable) :
    θ_run defs (onTc (τ := τ) (main (F := Ideal))) ⟨m, fun _ => 0, ρ⟩ (fun r => ∀ c : Dev nD,
    r.2.mem ((c.tc : Thread nD τ).loc main_v1_0) = (fun i : S2x896x16x512.Idx => Spec.o (inputs m c) (i 0) (i 1) (i 2) (i 3))
    ∧ r.2.mem ((c.tc : Thread nD τ).loc main_v1_1) = (fun i : S2x896x16.Idx => Spec.l (inputs m c) (i 0) (i 1) (i 2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun r h c => ⟨(h c).1.trans (array7 m c (hI c)), (h c).2.1.trans (array8 m c (hI c)), (h c).2.2⟩)
    (Value.run_blocks m ρ)

end Cert.ReferenceIdeal.Run

end
-- ==== Proof.Equation.lean ====
/- The equation: from equal arguments with positive finite scales, kernel and reference end with equal results. -/
module

public import proofs.«01_k».proof.Defs
public import proofs.«01_k».proof.Proof.Usable
public import proofs.«01_k».proof.Proof.KernelIdeal.Array
public import proofs.«01_k».proof.Proof.ReferenceIdeal.Array
public import proofs.«01_k».proof.Proof.Gen.Pre_usable

@[expose] public section

noncomputable section

namespace Cert.Equation

open Idealize.ShloMosaic Idealize.ShloMosaic.TcCoe Idealize.SL.Sem

/-- Equal arguments make the two programs' inputs one. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    ReferenceIdeal.Run.inputs m' c = KernelIdeal.Run.inputs m c := by
  unfold ReferenceIdeal.Run.inputs
  rw [h0, h1, h2, h3, h4, h5, h6]
  rfl

/-- Kernel and reference end with equal results, whatever the arguments, if the scales are positive and finite. -/
theorem algebraic : Cert.algebraic_KernelIdeal_ReferenceIdeal_pre_usable := by
  intro m g m' g' hpre hargs
  have hI : ∀ c, (KernelIdeal.Run.inputs m c).Usable := fun c => Usable.usable_of_fn _ _ _ _ _ _ _ (hpre c)
  have e : ∀ c, ReferenceIdeal.Run.inputs m' c = KernelIdeal.Run.inputs m c := fun c => by
    obtain ⟨h0, h1, h2, h3, h4, h5, h6⟩ := hargs c
    exact inputs_eq m m' c h0 h1 h2 h3 h4 h5 h6
  have hI' : ∀ c, (ReferenceIdeal.Run.inputs m' c).Usable := fun c => (e c).symm ▸ hI c
  refine ⟨fun c => (fun i : Cert.KernelIdeal.S2x896x16x512.Idx => Spec.o (KernelIdeal.Run.inputs m c) (i 0) (i 1) (i 2) (i 3)),
    fun c => (fun i : Cert.KernelIdeal.S2x896x16.Idx => Spec.l (KernelIdeal.Run.inputs m c) (i 0) (i 1) (i 2)),
    KernelIdeal.Run.run_value m g hI, ?_⟩
  refine (θ_run _ _ _).mono (fun r h c => ?_) (ReferenceIdeal.Run.run_value m' g' hI')
  obtain ⟨ho, hl, hr⟩ := h c
  rw [e c] at ho hl
  exact ⟨ho, hl, hr⟩

end Cert.Equation

end
-- ==== Proof.lean ====
module

public import proofs.«01_k».proof.Defs
public import proofs.«01_k».proof.Proof.Kernel.Frame
public import proofs.«01_k».proof.Proof.KernelIdeal.Frame
public import proofs.«01_k».proof.Proof.Preserves
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Reference
public import proofs.«01_k».proof.Proof.Gen.Reference.Frame
public import proofs.«01_k».proof.Proof.Gen.Pre_usable
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Reference.Gen.facts, Cert.Pre_usable.Gen.facts,
    fun m ρ _ => Cert.Kernel.Run.frame_run m ρ, fun m ρ _ => Cert.KernelIdeal.Run.frame_run m ρ, fun m ρ _ => Cert.KernelIdeal.Run.frame_run m ρ,
    fun m ρ _ => Cert.ReferenceIdeal.Gen.frame m ρ, fun m ρ _ => Cert.ReferenceIdeal.Gen.frame m ρ, fun m ρ _ => Cert.Reference.Gen.frame m ρ,
    Cert.Preserves.kernel, Cert.Preserves.reference, Cert.Equation.algebraic⟩

end Cert.Proof

end
